-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x16x64 : S_.BroadcastsInDim S2x128x16x64 (![] : Fin 0 → Fin S2x128x16x64.rank)

variable [Facts]

def fn {F : FTy → Type} [FloatOps F] (main_arg0 : FVec F S2x128x512 .f32) (main_arg1 : FVec F S512x256 .f32) (main_arg2 : FVec F S2x128x16x64 .f32) (main_arg3 : FVec F S2x128x16x64 .f32) (main_arg4 : FVec F S256x512 .f32) : IVec S2x128x512 1 × IVec S512x256 1 × IVec S2x128x16x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x16x64 .f32 := Host.absf main_arg2
  let main_cst_1 : FVec F S_ .f32 := constant S_ .f32 0x7F800000#32
  let main_v7 : FVec F S2x128x16x64 .f32 := broadcastInDim S2x128x16x64 ![] bcast_S_S2x128x16x64 main_cst_1
  let main_v8 : IVec S2x128x16x64 1 := cmpf .olt main_v6 main_v7
  (main_v2, main_v5, main_v8)
-- ==== Pre_finite_scores_ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  bcast_S_S512x1024 : S_.BroadcastsInDim S512x1024 (![] : Fin 0 → Fin S512x1024.rank)
  bcast_S_S2x512x16x64 : S_.BroadcastsInDim S2x512x16x64 (![] : Fin 0 → Fin S2x512x16x64.rank)

variable [Facts]

def fn {F : FTy → Type} [FloatOps F] (main_arg0 : FVec F S2x128x512 .f32) (main_arg1 : FVec F S512x1024 .f32) (main_arg2 : FVec F S2x512x16x64 .f32) (main_arg3 : FVec F S2x512x16x64 .f32) (main_arg4 : FVec F S1024x512 .f32) : IVec S2x128x512 1 × IVec S512x1024 1 × IVec S2x512x16x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2x512x16x64 .f32 := Host.absf main_arg2
  let main_cst_1 : FVec F S_ .f32 := constant S_ .f32 0x7F800000#32
  let main_v7 : FVec F S2x512x16x64 .f32 := broadcastInDim S2x512x16x64 ![] bcast_S_S2x512x16x64 main_cst_1
  let main_v8 : IVec S2x512x16x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S2x2x128x4x64 : Shape := ⟨5, ![2, 2, 128, 4, 64]⟩
abbrev S4x64x512 : Shape := ⟨3, ![4, 64, 512]⟩
abbrev S3x64x512 : Shape := ⟨3, ![3, 64, 512]⟩
abbrev S64x512 : Shape := ⟨2, ![64, 512]⟩
abbrev S4x2 : Shape := ⟨2, ![4, 2]⟩
abbrev S2x2 : Shape := ⟨2, ![2, 2]⟩
abbrev S3 : Shape := ⟨1, ![3]⟩
abbrev S_ : Shape := ⟨0, ![]⟩
abbrev S1x1 : Shape := ⟨2, ![1, 1]⟩
abbrev S1x2x128x4x64 : Shape := ⟨5, ![1, 2, 128, 4, 64]⟩
abbrev S2x128x4x64 : Shape := ⟨4, ![2, 128, 4, 64]⟩
abbrev S1x128x512 : Shape := ⟨3, ![1, 128, 512]⟩
abbrev S128x512 : Shape := ⟨2, ![128, 512]⟩
abbrev S128x256 : Shape := ⟨2, ![128, 256]⟩
abbrev S64x64 : Shape := ⟨2, ![64, 64]⟩
abbrev S1x1x64x1x64 : Shape := ⟨5, ![1, 1, 64, 1, 64]⟩
abbrev S128x64 : Shape := ⟨2, ![128, 64]⟩
abbrev S64x128 : Shape := ⟨2, ![64, 128]⟩
abbrev S64 : Shape := ⟨1, ![64]⟩
abbrev S64x1 : Shape := ⟨2, ![64, 1]⟩
abbrev S64x256 : Shape := ⟨2, ![64, 256]⟩
abbrev S1x64x512 : Shape := ⟨3, ![1, 64, 512]⟩
abbrev S1 : Shape := ⟨1, ![1]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x16x64, .f32⟩
  | .hbm, ⟨3, _⟩ => ⟨S2x128x16x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x16x64, .f32⟩
  | .local _ .vmem, ⟨3, _⟩ => ⟨S2x128x16x64, .f32⟩
  | .local _ .vmem, ⟨4, _⟩ => ⟨S256x512, .f32⟩
  | .local _ .vmem, ⟨5, _⟩ => ⟨S2x128x512, .f32⟩
  | .local _ .vmem, ⟨6, _⟩ => ⟨S2x2x128x4x64, .f32⟩
  | .local _ .vmem, ⟨7, _⟩ => ⟨S2x2x128x4x64, .f32⟩
  | .local _ .vmem, ⟨8, _⟩ => ⟨S4x64x512, .f32⟩
  | .local _ .vmem, ⟨9, _⟩ => ⟨S3x64x512, .f32⟩
  | .local _ .vmem, ⟨10, _⟩ => ⟨S64x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_28 : BitVec 32 := 0#32
  let v43 : BitVec 1 := Scalar.cmpi .eq v2 c0_i32_28
  let v44 : BitVec 32 := Scalar.extui v43
  let c0_i32_29 : BitVec 32 := 0#32
  let v45 : BitVec 1 := Scalar.cmpi .ne v44 c0_i32_29
  v45

def k0_dev4 : Nat :=
  let c0_i32_876 : BitVec 32 := 0#32
  let c1_i32_874 : BitVec 32 := 1#32
  let c1_i32_875 : BitVec 32 := 1#32
  let v1107 : BitVec 32 := Scalar.muli c1_i32_874 c1_i32_875
  let v1108 : BitVec 32 := Scalar.addi c0_i32_876 v1107
  v1108.toNat
def k0_dev5 : Nat :=
  let c0_i32_892 : BitVec 32 := 0#32
  let c1_i32_890 : BitVec 32 := 1#32
  let c1_i32_891 : BitVec 32 := 1#32
  let v1116 : BitVec 32 := Scalar.muli c1_i32_890 c1_i32_891
  let v1117 : BitVec 32 := Scalar.addi c0_i32_892 v1116
  v1117.toNat
def k0_dev6 : Nat :=
  let c0_i32_908 : BitVec 32 := 0#32
  let c2_i32_906 : BitVec 32 := 2#32
  let c1_i32_907 : BitVec 32 := 1#32
  let v1125 : BitVec 32 := Scalar.muli c2_i32_906 c1_i32_907
  let v1126 : BitVec 32 := Scalar.addi c0_i32_908 v1125
  v1126.toNat
def k0_dev7 : Nat :=
  let c0_i32_923 : BitVec 32 := 0#32
  let c2_i32_921 : BitVec 32 := 2#32
  let c1_i32_922 : BitVec 32 := 1#32
  let v1134 : BitVec 32 := Scalar.muli c2_i32_921 c1_i32_922
  let v1135 : BitVec 32 := Scalar.addi c0_i32_923 v1134
  v1135.toNat
def k0_dev8 : Nat :=
  let c0_i32_939 : BitVec 32 := 0#32
  let c3_i32_937 : BitVec 32 := 3#32
  let c1_i32_938 : BitVec 32 := 1#32
  let v1143 : BitVec 32 := Scalar.muli c3_i32_937 c1_i32_938
  let v1144 : BitVec 32 := Scalar.addi c0_i32_939 v1143
  v1144.toNat
def k0_dev9 : Nat :=
  let c0_i32_954 : BitVec 32 := 0#32
  let c3_i32_952 : BitVec 32 := 3#32
  let c1_i32_953 : BitVec 32 := 1#32
  let v1152 : BitVec 32 := Scalar.muli c3_i32_952 c1_i32_953
  let v1153 : BitVec 32 := Scalar.addi c0_i32_954 v1152
  v1153.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v46 : BitVec 1 := Scalar.cmpi .eq v2 c2_i32_30
  let v47 : BitVec 32 := Scalar.extui v46
  let c0_i32_31 : BitVec 32 := 0#32
  let v48 : BitVec 1 := Scalar.cmpi .ne v47 c0_i32_31
  v48

def k0_dev10 : Nat :=
  let c0_i32_876 : BitVec 32 := 0#32
  let c0_i32_874 : BitVec 32 := 0#32
  let c1_i32_875 : BitVec 32 := 1#32
  let v1107 : BitVec 32 := Scalar.muli c0_i32_874 c1_i32_875
  let v1108 : BitVec 32 := Scalar.addi c0_i32_876 v1107
  v1108.toNat
def k0_dev11 : Nat :=
  let c0_i32_892 : BitVec 32 := 0#32
  let c0_i32_890 : BitVec 32 := 0#32
  let c1_i32_891 : BitVec 32 := 1#32
  let v1116 : BitVec 32 := Scalar.muli c0_i32_890 c1_i32_891
  let v1117 : BitVec 32 := Scalar.addi c0_i32_892 v1116
  v1117.toNat
def k0_dev12 : Nat :=
  let c0_i32_908 : BitVec 32 := 0#32
  let c1_i32_906 : BitVec 32 := 1#32
  let c1_i32_907 : BitVec 32 := 1#32
  let v1125 : BitVec 32 := Scalar.muli c1_i32_906 c1_i32_907
  let v1126 : BitVec 32 := Scalar.addi c0_i32_908 v1125
  v1126.toNat
def k0_dev13 : Nat :=
  let c0_i32_924 : BitVec 32 := 0#32
  let c1_i32_922 : BitVec 32 := 1#32
  let c1_i32_923 : BitVec 32 := 1#32
  let v1134 : BitVec 32 := Scalar.muli c1_i32_922 c1_i32_923
  let v1135 : BitVec 32 := Scalar.addi c0_i32_924 v1134
  v1135.toNat
def k0_dev14 : Nat :=
  let c0_i32_940 : BitVec 32 := 0#32
  let c3_i32_938 : BitVec 32 := 3#32
  let c1_i32_939 : BitVec 32 := 1#32
  let v1143 : BitVec 32 := Scalar.muli c3_i32_938 c1_i32_939
  let v1144 : BitVec 32 := Scalar.addi c0_i32_940 v1143
  v1144.toNat
def k0_dev15 : Nat :=
  let c0_i32_955 : BitVec 32 := 0#32
  let c3_i32_953 : BitVec 32 := 3#32
  let c1_i32_954 : BitVec 32 := 1#32
  let v1152 : BitVec 32 := Scalar.muli c3_i32_953 c1_i32_954
  let v1153 : BitVec 32 := Scalar.addi c0_i32_955 v1152
  v1153.toNat
def k0_off1 (d0 : Dev nD) (c1_i32_466 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_466
  let c4_i32_467 : BitVec 32 := 4#32
  let c0_i32_468 : BitVec 32 := 0#32
  let v478 : BitVec 1 := Scalar.cmpi .eq c4_i32_467 c0_i32_468
  let c1_i32_469 : BitVec 32 := 1#32
  let v479 : BitVec 32 := Scalar.select v478 c1_i32_469 c4_i32_467
  let v480 : BitVec 32 := Scalar.remsi v477 v479
  let c0_i32_471 : BitVec 32 := 0#32
  let v482 : BitVec 1 := Scalar.cmpi .slt v480 c0_i32_471
  let c0_i32_472 : BitVec 32 := 0#32
  let v483 : BitVec 1 := Scalar.cmpi .slt v479 c0_i32_472
  let v484 : BitVec 1 := Scalar.xori v482 v483
  let c0_i32_470 : BitVec 32 := 0#32
  let v481 : BitVec 1 := Scalar.cmpi .ne v480 c0_i32_470
  let v485 : BitVec 1 := Scalar.andi v484 v481
  let v486 : BitVec 32 := Scalar.addi v480 v479
  let v487 : BitVec 32 := Scalar.select v485 v486 v480
  let c0_i32_480 : BitVec 32 := 0#32
  let c0_i32_481 : BitVec 32 := 0#32
  ![v487.toNat, 0, 0]
def k0_dev16 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_466 : BitVec 32 := 1#32
  let v477 : BitVec 32 := Scalar.addi v2 c1_i32_466
  let c4_i32_467 : BitVec 32 := 4#32
  let c0_i32_468 : BitVec 32 := 0#32
  let v478 : BitVec 1 := Scalar.cmpi .eq c4_i32_467 c0_i32_468
  let c1_i32_469 : BitVec 32 := 1#32
  let v479 : BitVec 32 := Scalar.select v478 c1_i32_469 c4_i32_467
  let v480 : BitVec 32 := Scalar.remsi v477 v479
  let c0_i32_471 : BitVec 32 := 0#32
  let v482 : BitVec 1 := Scalar.cmpi .slt v480 c0_i32_471
  let c0_i32_472 : BitVec 32 := 0#32
  let v483 : BitVec 1 := Scalar.cmpi .slt v479 c0_i32_472
  let v484 : BitVec 1 := Scalar.xori v482 v483
  let c0_i32_470 : BitVec 32 := 0#32
  let v481 : BitVec 1 := Scalar.cmpi .ne v480 c0_i32_470
  let v485 : BitVec 1 := Scalar.andi v484 v481
  let v486 : BitVec 32 := Scalar.addi v480 v479
  let v487 : BitVec 32 := Scalar.select v485 v486 v480
  let c1_i32_476 : BitVec 32 := 1#32
  let v488 : BitVec 32 := Scalar.muli v487 c1_i32_476
  let v489 : BitVec 32 := Scalar.addi c0_i32_477 v488
  v489.toNat
def k0_dev17 (d0 : Dev nD) : Nat :=
  let c0_i32_493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_482 : BitVec 32 := 2#32
  let v498 : BitVec 32 := Scalar.addi v2 c2_i32_482
  let c4_i32_483 : BitVec 32 := 4#32
  let c0_i32_484 : BitVec 32 := 0#32
  let v499 : BitVec 1 := Scalar.cmpi .eq c4_i32_483 c0_i32_484
  let c1_i32_485 : BitVec 32 := 1#32
  let v500 : BitVec 32 := Scalar.select v499 c1_i32_485 c4_i32_483
  let v501 : BitVec 32 := Scalar.remsi v498 v500
  let c0_i32_487 : BitVec 32 := 0#32
  let v503 : BitVec 1 := Scalar.cmpi .slt v501 c0_i32_487
  let c0_i32_488 : BitVec 32 := 0#32
  let v504 : BitVec 1 := Scalar.cmpi .slt v500 c0_i32_488
  let v505 : BitVec 1 := Scalar.xori v503 v504
  let c0_i32_486 : BitVec 32 := 0#32
  let v502 : BitVec 1 := Scalar.cmpi .ne v501 c0_i32_486
  let v506 : BitVec 1 := Scalar.andi v505 v502
  let v507 : BitVec 32 := Scalar.addi v501 v500
  let v508 : BitVec 32 := Scalar.select v506 v507 v501
  let c1_i32_492 : BitVec 32 := 1#32
  let v509 : BitVec 32 := Scalar.muli v508 c1_i32_492
  let v510 : BitVec 32 := Scalar.addi c0_i32_493 v509
  v510.toNat
def k0_dev18 (d0 : Dev nD) : Nat :=
  let c0_i32_509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_498 : BitVec 32 := 3#32
  let v519 : BitVec 32 := Scalar.addi v2 c3_i32_498
  let c4_i32_499 : BitVec 32 := 4#32
  let c0_i32_500 : BitVec 32 := 0#32
  let v520 : BitVec 1 := Scalar.cmpi .eq c4_i32_499 c0_i32_500
  let c1_i32_501 : BitVec 32 := 1#32
  let v521 : BitVec 32 := Scalar.select v520 c1_i32_501 c4_i32_499
  let v522 : BitVec 32 := Scalar.remsi v519 v521
  let c0_i32_503 : BitVec 32 := 0#32
  let v524 : BitVec 1 := Scalar.cmpi .slt v522 c0_i32_503
  let c0_i32_504 : BitVec 32 := 0#32
  let v525 : BitVec 1 := Scalar.cmpi .slt v521 c0_i32_504
  let v526 : BitVec 1 := Scalar.xori v524 v525
  let c0_i32_502 : BitVec 32 := 0#32
  let v523 : BitVec 1 := Scalar.cmpi .ne v522 c0_i32_502
  let v527 : BitVec 1 := Scalar.andi v526 v523
  let v528 : BitVec 32 := Scalar.addi v522 v521
  let v529 : BitVec 32 := Scalar.select v527 v528 v522
  let c1_i32_508 : BitVec 32 := 1#32
  let v530 : BitVec 32 := Scalar.muli v529 c1_i32_508
  let v531 : BitVec 32 := Scalar.addi c0_i32_509 v530
  v531.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v597 : Index := Scalar.indexCast v2
  let c0_562 : Index := 0#32
  let c0_563 : Index := 0#32
  ![v597.toNat, 0, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_576 : BitVec 32 := 0#32
  let v613 : BitVec 1 := Scalar.cmpi .sgt v2 c0_i32_576
  let v614 : BitVec 32 := Scalar.extui v613
  let c0_i32_577 : BitVec 32 := 0#32
  let v615 : BitVec 1 := Scalar.cmpi .slt v2 c0_i32_577
  let v616 : BitVec 32 := Scalar.extui v615
  let v617 : BitVec 32 := Scalar.subi v614 v616
  let c2_i32_575 : BitVec 32 := 2#32
  let c0_i32_578 : BitVec 32 := 0#32
  let v618 : BitVec 1 := Scalar.cmpi .sgt c2_i32_575 c0_i32_578
  let v619 : BitVec 32 := Scalar.extui v618
  let c0_i32_579 : BitVec 32 := 0#32
  let v620 : BitVec 1 := Scalar.cmpi .slt c2_i32_575 c0_i32_579
  let v621 : BitVec 32 := Scalar.extui v620
  let v622 : BitVec 32 := Scalar.subi v619 v621
  let v623 : BitVec 1 := Scalar.cmpi .ne v617 v622
  let v624 : BitVec 32 := Scalar.remsi v2 c2_i32_575
  let c0_i32_580 : BitVec 32 := 0#32
  let v625 : BitVec 1 := Scalar.cmpi .ne v624 c0_i32_580
  let v626 : BitVec 1 := Scalar.andi v623 v625
  let v612 : BitVec 32 := Scalar.divsi v2 c2_i32_575
  let c1_i32_581 : BitVec 32 := 1#32
  let v627 : BitVec 32 := Scalar.subi v612 c1_i32_581
  let v628 : BitVec 32 := Scalar.select v626 v627 v612
  let v640 : Index := Scalar.indexCast v628
  let c2_i32_582 : BitVec 32 := 2#32
  let c0_i32_583 : BitVec 32 := 0#32
  let v629 : BitVec 1 := Scalar.cmpi .eq c2_i32_582 c0_i32_583
  let c1_i32_584 : BitVec 32 := 1#32
  let v630 : BitVec 32 := Scalar.select v629 c1_i32_584 c2_i32_582
  let v631 : BitVec 32 := Scalar.remsi v2 v630
  let c0_i32_586 : BitVec 32 := 0#32
  let v633 : BitVec 1 := Scalar.cmpi .slt v631 c0_i32_586
  let c0_i32_587 : BitVec 32 := 0#32
  let v634 : BitVec 1 := Scalar.cmpi .slt v630 c0_i32_587
  let v635 : BitVec 1 := Scalar.xori v633 v634
  let c0_i32_585 : BitVec 32 := 0#32
  let v632 : BitVec 1 := Scalar.cmpi .ne v631 c0_i32_585
  let v636 : BitVec 1 := Scalar.andi v635 v632
  let v637 : BitVec 32 := Scalar.addi v631 v630
  let v638 : BitVec 32 := Scalar.select v636 v637 v631
  let c64_i32 : BitVec 32 := 64#32
  let v639 : BitVec 32 := Scalar.muli v638 c64_i32
  let v641 : Index := Scalar.indexCast v639
  let c0_588 : Index := 0#32
  ![v640.toNat, v641.toNat, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_590 : BitVec 32 := 0#32
  let v646 : BitVec 1 := Scalar.cmpi .sgt v2 c0_i32_590
  let v647 : BitVec 32 := Scalar.extui v646
  let c0_i32_591 : BitVec 32 := 0#32
  let v648 : BitVec 1 := Scalar.cmpi .slt v2 c0_i32_591
  let v649 : BitVec 32 := Scalar.extui v648
  let v650 : BitVec 32 := Scalar.subi v647 v649
  let c2_i32_589 : BitVec 32 := 2#32
  let c0_i32_592 : BitVec 32 := 0#32
  let v651 : BitVec 1 := Scalar.cmpi .sgt c2_i32_589 c0_i32_592
  let v652 : BitVec 32 := Scalar.extui v651
  let c0_i32_593 : BitVec 32 := 0#32
  let v653 : BitVec 1 := Scalar.cmpi .slt c2_i32_589 c0_i32_593
  let v654 : BitVec 32 := Scalar.extui v653
  let v655 : BitVec 32 := Scalar.subi v652 v654
  let v656 : BitVec 1 := Scalar.cmpi .ne v650 v655
  let v657 : BitVec 32 := Scalar.remsi v2 c2_i32_589
  let c0_i32_594 : BitVec 32 := 0#32
  let v658 : BitVec 1 := Scalar.cmpi .ne v657 c0_i32_594
  let v659 : BitVec 1 := Scalar.andi v656 v658
  let v645 : BitVec 32 := Scalar.divsi v2 c2_i32_589
  let c1_i32_595 : BitVec 32 := 1#32
  let v660 : BitVec 32 := Scalar.subi v645 c1_i32_595
  let v661 : BitVec 32 := Scalar.select v659 v660 v645
  let c2_i32_596 : BitVec 32 := 2#32
  let c0_i32_597 : BitVec 32 := 0#32
  let v662 : BitVec 1 := Scalar.cmpi .eq c2_i32_596 c0_i32_597
  let c1_i32_598 : BitVec 32 := 1#32
  let v663 : BitVec 32 := Scalar.select v662 c1_i32_598 c2_i32_596
  let v664 : BitVec 32 := Scalar.remsi v2 v663
  let c0_i32_600 : BitVec 32 := 0#32
  let v666 : BitVec 1 := Scalar.cmpi .slt v664 c0_i32_600
  let c0_i32_601 : BitVec 32 := 0#32
  let v667 : BitVec 1 := Scalar.cmpi .slt v663 c0_i32_601
  let v668 : BitVec 1 := Scalar.xori v666 v667
  let c0_i32_599 : BitVec 32 := 0#32
  let v665 : BitVec 1 := Scalar.cmpi .ne v664 c0_i32_599
  let v669 : BitVec 1 := Scalar.andi v668 v665
  let v670 : BitVec 32 := Scalar.addi v664 v663
  let v671 : BitVec 32 := Scalar.select v669 v670 v664
  let c64_i32_602 : BitVec 32 := 64#32
  let v672 : BitVec 32 := Scalar.muli v671 c64_i32_602
  let c0_i32_614 : BitVec 32 := 0#32
  ![v661.toNat, v672.toNat, 0]
def k0_dev19 (d0 : Dev nD) : Nat :=
  let c0_i32_613 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_603 : BitVec 32 := 1#32
  let v673 : BitVec 32 := Scalar.addi v2 c1_i32_603
  let c4_i32_604 : BitVec 32 := 4#32
  let c0_i32_605 : BitVec 32 := 0#32
  let v674 : BitVec 1 := Scalar.cmpi .eq c4_i32_604 c0_i32_605
  let c1_i32_606 : BitVec 32 := 1#32
  let v675 : BitVec 32 := Scalar.select v674 c1_i32_606 c4_i32_604
  let v676 : BitVec 32 := Scalar.remsi v673 v675
  let c0_i32_608 : BitVec 32 := 0#32
  let v678 : BitVec 1 := Scalar.cmpi .slt v676 c0_i32_608
  let c0_i32_609 : BitVec 32 := 0#32
  let v679 : BitVec 1 := Scalar.cmpi .slt v675 c0_i32_609
  let v680 : BitVec 1 := Scalar.xori v678 v679
  let c0_i32_607 : BitVec 32 := 0#32
  let v677 : BitVec 1 := Scalar.cmpi .ne v676 c0_i32_607
  let v681 : BitVec 1 := Scalar.andi v680 v677
  let v682 : BitVec 32 := Scalar.addi v676 v675
  let v683 : BitVec 32 := Scalar.select v681 v682 v676
  let c1_i32_612 : BitVec 32 := 1#32
  let v684 : BitVec 32 := Scalar.muli v683 c1_i32_612
  let v685 : BitVec 32 := Scalar.addi c0_i32_613 v684
  v685.toNat
def k0_dev20 (d0 : Dev nD) : Nat :=
  let c0_i32_639 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_629 : BitVec 32 := 2#32
  let v720 : BitVec 32 := Scalar.addi v2 c2_i32_629
  let c4_i32_630 : BitVec 32 := 4#32
  let c0_i32_631 : BitVec 32 := 0#32
  let v721 : BitVec 1 := Scalar.cmpi .eq c4_i32_630 c0_i32_631
  let c1_i32_632 : BitVec 32 := 1#32
  let v722 : BitVec 32 := Scalar.select v721 c1_i32_632 c4_i32_630
  let v723 : BitVec 32 := Scalar.remsi v720 v722
  let c0_i32_634 : BitVec 32 := 0#32
  let v725 : BitVec 1 := Scalar.cmpi .slt v723 c0_i32_634
  let c0_i32_635 : BitVec 32 := 0#32
  let v726 : BitVec 1 := Scalar.cmpi .slt v722 c0_i32_635
  let v727 : BitVec 1 := Scalar.xori v725 v726
  let c0_i32_633 : BitVec 32 := 0#32
  let v724 : BitVec 1 := Scalar.cmpi .ne v723 c0_i32_633
  let v728 : BitVec 1 := Scalar.andi v727 v724
  let v729 : BitVec 32 := Scalar.addi v723 v722
  let v730 : BitVec 32 := Scalar.select v728 v729 v723
  let c1_i32_638 : BitVec 32 := 1#32
  let v731 : BitVec 32 := Scalar.muli v730 c1_i32_638
  let v732 : BitVec 32 := Scalar.addi c0_i32_639 v731
  v732.toNat
def k0_dev21 (d0 : Dev nD) : Nat :=
  let c0_i32_665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_655 : BitVec 32 := 3#32
  let v767 : BitVec 32 := Scalar.addi v2 c3_i32_655
  let c4_i32_656 : BitVec 32 := 4#32
  let c0_i32_657 : BitVec 32 := 0#32
  let v768 : BitVec 1 := Scalar.cmpi .eq c4_i32_656 c0_i32_657
  let c1_i32_658 : BitVec 32 := 1#32
  let v769 : BitVec 32 := Scalar.select v768 c1_i32_658 c4_i32_656
  let v770 : BitVec 32 := Scalar.remsi v767 v769
  let c0_i32_660 : BitVec 32 := 0#32
  let v772 : BitVec 1 := Scalar.cmpi .slt v770 c0_i32_660
  let c0_i32_661 : BitVec 32 := 0#32
  let v773 : BitVec 1 := Scalar.cmpi .slt v769 c0_i32_661
  let v774 : BitVec 1 := Scalar.xori v772 v773
  let c0_i32_659 : BitVec 32 := 0#32
  let v771 : BitVec 1 := Scalar.cmpi .ne v770 c0_i32_659
  let v775 : BitVec 1 := Scalar.andi v774 v771
  let v776 : BitVec 32 := Scalar.addi v770 v769
  let v777 : BitVec 32 := Scalar.select v775 v776 v770
  let c1_i32_664 : BitVec 32 := 1#32
  let v778 : BitVec 32 := Scalar.muli v777 c1_i32_664
  let v779 : BitVec 32 := Scalar.addi c0_i32_665 v778
  v779.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S2x128x1024 : Shape := ⟨3, ![2, 128, 1024]⟩
abbrev S2x128x16x64 : Shape := ⟨4, ![2, 128, 16, 64]⟩
abbrev S128 : Shape := ⟨1, ![128]⟩
abbrev S_ : Shape := ⟨0, ![]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x16x128x512 : Shape := ⟨4, ![2, 16, 128, 512]⟩
abbrev S1x1x128x512 : Shape := ⟨4, ![1, 1, 128, 512]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x1024, .f32⟩
  | 2 => ⟨S2x512x16x64, .f32⟩
  | 3 => ⟨S2x512x16x64, .f32⟩
  | 4 => ⟨S1024x512, .f32⟩
  | 5 => ⟨S2x128x1024, .f32⟩
  | 6 => ⟨S2x128x16x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S128x512, .i32⟩
  | 48 => ⟨S128x512, .i32⟩
  | 49 => ⟨S128x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x512, .i32⟩
  | 95 => ⟨S128x512, .i32⟩
  | 96 => ⟨S128x512, .i1⟩
  | 97 => ⟨S128x512, .i1⟩
  | 98 => ⟨S2x16x128x512, .f32⟩
  | 99 => ⟨S_, .f32⟩
  | 100 => ⟨S2x16x128x512, .f32⟩
  | 101 => ⟨S2x16x128x512, .f32⟩
  | 102 => ⟨S1x1x128x512, .i1⟩
  | 103 => ⟨S_, .f32⟩
  | 104 => ⟨S_, .f32⟩
  | 105 => ⟨S2x16x128x512, .i1⟩
  | 106 => ⟨S2x16x128x512, .f32⟩
  | 107 => ⟨S2x16x128x512, .f32⟩
  | 108 => ⟨S_, .f32⟩
  | 109 => ⟨S2x16x128, .f32⟩
  | 110 => ⟨S2x16x128x1, .f32⟩
  | 111 => ⟨S2x16x128x512, .f32⟩
  | 112 => ⟨S2x16x128x512, .f32⟩
  | 113 => ⟨S2x16x128x512, .f32⟩
  | 114 => ⟨S_, .i1⟩
  | 115 => ⟨S128, .i1⟩
  | 116 => ⟨S1x1x128x1, .i1⟩
  | 117 => ⟨S_, .f32⟩
  | 118 => ⟨S2x16x128, .f32⟩
  | 119 => ⟨S2x16x128x1, .f32⟩
  | 120 => ⟨S_, .f32⟩
  | 121 => ⟨S_, .f32⟩
  | 122 => ⟨S2x16x128x1, .i1⟩
  | 123 => ⟨S2x16x128x1, .f32⟩
  | 124 => ⟨S2x16x128x1, .f32⟩
  | 125 => ⟨S2x16x128x512, .f32⟩
  | 126 => ⟨S2x16x128x512, .f32⟩
  | 127 => ⟨S1x1x128x1, .i1⟩
  | _ => ⟨S2x128x512, .f32⟩

abbrev hbmTy0_1 (i : Nat) : BufTy := match i % 128 with
  | 0 => ⟨S_, .f32⟩
  | 1 => ⟨S_, .f32⟩
  | 2 => ⟨S2x16x128x512, .i1⟩
  | 3 => ⟨S2x16x128x512, .f32⟩
  | 4 => ⟨S2x16x128x512, .f32⟩
  | 5 => ⟨S2x16x64x128, .f32⟩
  | 6 => ⟨S2x128x16x64, .f32⟩
  | 7 => ⟨S2x128x1024, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Common.lean ====
/-
The protocol of the kernel on four devices, stated for any float values: the buffers and semaphores by name, what
every buffer holds once it has been filled, which device pays which unit of which semaphore and what it hands over
with it, and one rule for each of the three kinds of effect the kernel performs on a semaphore (signal, transfer to
another device, wait).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdx
public import Idealize.ShloMosaic.Lib.Tactic

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

/-! ## The resource algebra: the staging's copy and the kernel's own, whose duties are named by the device that pays -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Devices -/

set_option backward.proofsInPublic true in
/-- The device `o + 1` places after `c`. -/
def fw (c : Dev nD) (o : Fin 3) : Dev nD := ⟨(c.val + o.val + 1) % 4, Nat.mod_lt _ (by decide)⟩
set_option backward.proofsInPublic true in
/-- The device `o + 1` places before `c`. -/
def bk (c : Dev nD) (o : Fin 3) : Dev nD := ⟨(c.val + 3 - o.val) % 4, Nat.mod_lt _ (by decide)⟩
set_option backward.proofsInPublic true in
/-- How many places, less one, `p` lies after `c`. -/
def dif (c p : Dev nD) : Fin 3 := ⟨((p.val + 3 - c.val) % 4) % 3, Nat.mod_lt _ (by decide)⟩
set_option backward.proofsInPublic true in
/-- The device whose keys and values fill slot `s`. -/
def srcD (s : Fin 2) : Dev nD := ⟨2 * s.val, by have := s.isLt; show 2 * s.val < 4; omega⟩

theorem bk_fw : ∀ (c : Dev nD) (o : Fin 3), bk (fw c o) o = c := by decide
theorem fw_bk : ∀ (c : Dev nD) (o : Fin 3), fw (bk c o) o = c := by decide
theorem fw_ne : ∀ (c : Dev nD) (o : Fin 3), fw c o ≠ c := by decide
theorem dif_fw : ∀ (c : Dev nD) (o : Fin 3), dif c (fw c o) = o := by decide

/-! ## The memrefs -/

abbrev xM : Memref sig .tc .vmem S2x128x512 .f32 := Memref.whole cc0_stg0_0
abbrev wqM : Memref sig .tc .vmem S512x256 .f32 := Memref.whole cc0_stg1_0
abbrev kM : Memref sig .tc .vmem S2x128x16x64 .f32 := Memref.whole cc0_stg2_0
abbrev vM : Memref sig .tc .vmem S2x128x16x64 .f32 := Memref.whole cc0_stg3_0
abbrev woM : Memref sig .tc .vmem S256x512 .f32 := Memref.whole cc0_stg4_0
abbrev oM : Memref sig .tc .vmem S2x128x512 .f32 := Memref.whole cc0_stg5_0
abbrev kbM : Memref sig .tc .vmem S2x2x128x4x64 .f32 := Memref.whole cc0_scratch0
abbrev vbM : Memref sig .tc .vmem S2x2x128x4x64 .f32 := Memref.whole cc0_scratch1
abbrev pwM : Memref sig .tc .vmem S4x64x512 .f32 := Memref.whole cc0_scratch2
abbrev rbM : Memref sig .tc .vmem S3x64x512 .f32 := Memref.whole cc0_scratch3
abbrev abM : Memref sig .tc .vmem S64x512 .f32 := Memref.whole cc0_scratch4

theorem slot_inb (s : Fin 2) : ∀ a, (![s.val, 0, 0, 0, 0] : Fin 5 → ℕ) a + S1x2x128x4x64.size a ≤ S2x2x128x4x64.size a := by revert s; decide
theorem heads_inb (d : Dev nD) : ∀ a, (![0, 0, 4 * d.val, 0] : Fin 4 → ℕ) a + S2x128x4x64.size a ≤ S2x128x16x64.size a := by revert d; decide
theorem pchunk_inb (d : Dev nD) : ∀ a, (![d.val, 0, 0] : Fin 3 → ℕ) a + S1x64x512.size a ≤ S4x64x512.size a := by revert d; decide
theorem rslot_inb (o : Fin 3) : ∀ a, (![o.val, 0, 0] : Fin 3 → ℕ) a + S1x64x512.size a ≤ S3x64x512.size a := by revert o; decide
theorem ochunk_inb (d : Dev nD) : ∀ a, (![d.val / 2, d.val % 2 * 64, 0] : Fin 3 → ℕ) a + S1x64x512.size a ≤ S2x128x512.size a := by revert d; decide

/-- Slot `s` of a buffer of gathered keys or values. -/
abbrev slotM (M : Memref sig .tc .vmem S2x2x128x4x64 .f32) (s : Fin 2) : Memref sig .tc .vmem S2x128x4x64 .f32 :=
  (M.slice (Rect.unit (s := S2x2x128x4x64) ![s.val, 0, 0, 0, 0] S1x2x128x4x64.size (slot_inb s)) (fun _ => rfl)).squeeze S2x128x4x64 squeezes_S1x2x128x4x64_S2x128x4x64
/-- The four heads of device `d` in the staged keys or values. -/
abbrev headsM (M : Memref sig .tc .vmem S2x128x16x64 .f32) (d : Dev nD) : Memref sig .tc .vmem S2x128x4x64 .f32 :=
  M.slice (Rect.unit (s := S2x128x16x64) ![0, 0, 4 * d.val, 0] S2x128x4x64.size (heads_inb d)) (fun _ => rfl)
/-- The chunk of the partial products meant for device `d`. -/
abbrev pchM (d : Dev nD) : Memref sig .tc .vmem S64x512 .f32 :=
  (pwM.slice (Rect.unit (s := S4x64x512) ![d.val, 0, 0] S1x64x512.size (pchunk_inb d)) (fun _ => rfl)).squeeze S64x512 squeezes_S1x64x512_S64x512
/-- Slot `o` of the buffer partial products arrive in. -/
abbrev rslM (o : Fin 3) : Memref sig .tc .vmem S64x512 .f32 :=
  (rbM.slice (Rect.unit (s := S3x64x512) ![o.val, 0, 0] S1x64x512.size (rslot_inb o)) (fun _ => rfl)).squeeze S64x512 squeezes_S1x64x512_S64x512
/-- The rows of the result that device `d` reduces. -/
abbrev ochM (d : Dev nD) : Memref sig .tc .vmem S64x512 .f32 :=
  (oM.slice (Rect.unit (s := S2x128x512) ![d.val / 2, d.val % 2 * 64, 0] S1x64x512.size (ochunk_inb d)) (fun _ => rfl)).squeeze S64x512 squeezes_S1x64x512_S64x512

/-! ## The cells -/

/-- The kinds of semaphore of one device: the barrier; the send and receive semaphores of the keys, of the values
    (sends by destination, receives by slot), of the partial products and of the finished rows (by distance). -/
inductive CK
  | bar
  | kS (d : Dev nD) | vS (d : Dev nD)
  | kR (s : Fin 2) | vR (s : Fin 2)
  | rS (o : Fin 3) | rR (o : Fin 3)
  | aS (o : Fin 3) | aR (o : Fin 3)
  deriving DecidableEq

/-- Every kind, listed. -/
def CK.all : List CK :=
  [.bar, .kS 0, .kS 1, .kS 2, .kS 3, .vS 0, .vS 1, .vS 2, .vS 3, .kR 0, .kR 1, .vR 0, .vR 1,
    .rS 0, .rS 1, .rS 2, .rR 0, .rR 1, .rR 2, .aS 0, .aS 1, .aS 2, .aR 0, .aR 1, .aR 2]

theorem CK.mem_all (k : CK) : k ∈ CK.all := by
  cases k with
  | bar => decide
  | kS d => revert d; decide
  | vS d => revert d; decide
  | kR d => revert d; decide
  | vR d => revert d; decide
  | rS d => revert d; decide
  | rR d => revert d; decide
  | aS d => revert d; decide
  | aR d => revert d; decide

instance : Fintype CK := ⟨⟨CK.all, by decide⟩, fun k => CK.mem_all k⟩

/-- The barrier semaphore. -/
abbrev barS : Sem sig := (SemArray.scalar (sig.barrier 0 rfl) : Sems sig S_).sem

/-- The semaphore of each kind. -/
def csem : CK → SemLoc sig
  | .bar => .reg barS
  | .kS d => .dma ⟨6 + 2 * d.val, by have := d.isLt; have : nD = 4 := rfl; show 6 + 2 * d.val < 30; omega⟩
  | .vS d => .dma ⟨7 + 2 * d.val, by have := d.isLt; have : nD = 4 := rfl; show 7 + 2 * d.val < 30; omega⟩
  | .kR s => .dma ⟨14 + 2 * s.val, by have := s.isLt; show 14 + 2 * s.val < 30; omega⟩
  | .vR s => .dma ⟨15 + 2 * s.val, by have := s.isLt; show 15 + 2 * s.val < 30; omega⟩
  | .rS o => .dma ⟨18 + o.val, by have := o.isLt; show 18 + o.val < 30; omega⟩
  | .rR o => .dma ⟨21 + o.val, by have := o.isLt; show 21 + o.val < 30; omega⟩
  | .aS o => .dma ⟨24 + o.val, by have := o.isLt; show 24 + o.val < 30; omega⟩
  | .aR o => .dma ⟨27 + o.val, by have := o.isLt; show 27 + o.val < 30; omega⟩

theorem csem_injective : Function.Injective csem := by decide +kernel

abbrev Cell : Type := Dev nD × CK
abbrev kcell (x : Cell) : GSem nD τ sig := ((x.1 : Thread nD τ), csem x.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

open Classical in
/-- The cell a semaphore is, if it is one of the kernel's. -/
def kinv (g : GSem nD τ sig) : Option Cell := if h : ∃ x, kcell x = g then some h.choose else none

theorem kinv_kcell (x : Cell) : kinv (kcell x) = some x := by
  unfold kinv
  have h : ∃ y, kcell y = kcell x := ⟨x, rfl⟩
  rw [dif_pos h]
  exact congrArg some (kcell_injective h.choose_spec)

theorem kinv_eq_none {g : GSem nD τ sig} (h : ∀ x, kcell x ≠ g) : kinv g = none := by
  unfold kinv
  exact dif_neg fun ⟨x, hx⟩ => h x hx

/-- The bytes-credit of a transfer of one slot of keys or values, and of one chunk of rows. -/
def NK : ℕ := (slotM kbM 0).view.dmaCredit
def NR : ℕ := (rslM 0).view.dmaCredit
theorem NK_pos : 0 < NK := View.dmaCredit_pos _ (by decide)
theorem NR_pos : 0 < NR := View.dmaCredit_pos _ (by decide)

/-- The units one duty of a cell of each kind is worth. -/
def amtF : CK → ℕ
  | .bar => 1
  | .kS _ | .vS _ | .kR _ | .vR _ => NK
  | .rS _ | .rR _ | .aS _ | .aR _ => NR

theorem amtF_pos (k : CK) : 0 < amtF k := by
  cases k <;> first | exact Nat.one_pos | exact NK_pos | exact NR_pos

/-- Whether device `c` holds a block of keys that every device reads. -/
abbrev isSrc (c : Dev nD) : Prop := c = 0 ∨ c = 2

set_option backward.proofsInPublic true in
/-- Who pays a cell. -/
def dutyF : Cell → Finset (Dev nD)
  | (c, .bar) => Finset.univ.erase c
  | (c, .kS d) | (c, .vS d) => if isSrc c ∧ d ≠ c then {c} else ∅
  | (c, .kR s) | (c, .vR s) => if c ≠ srcD s then {srcD s} else ∅
  | (c, .rS _) | (c, .aS _) => {c}
  | (c, .rR o) | (c, .aR o) => {bk c o}

/-! ## Contents -/

/-- What the staging brings device `c`. -/
def xst (c : Dev nD) : Vec F S2x128x512 .f32 := (win0_0.blk (0 : Fin 1)).view.read (Elt F) ((s₀ m ρ).mem ((c : Thread nD τ).loc main_arg0))
def wqst (c : Dev nD) : Vec F S512x256 .f32 := (win0_1.blk (0 : Fin 1)).view.read (Elt F) ((s₀ m ρ).mem ((c : Thread nD τ).loc main_arg1))
def kst (c : Dev nD) : Vec F S2x128x16x64 .f32 := (win0_2.blk (0 : Fin 1)).view.read (Elt F) ((s₀ m ρ).mem ((c : Thread nD τ).loc main_arg2))
def vst (c : Dev nD) : Vec F S2x128x16x64 .f32 := (win0_3.blk (0 : Fin 1)).view.read (Elt F) ((s₀ m ρ).mem ((c : Thread nD τ).loc main_arg3))
def wost (c : Dev nD) : Vec F S256x512 .f32 := (win0_4.blk (0 : Fin 1)).view.read (Elt F) ((s₀ m ρ).mem ((c : Thread nD τ).loc main_arg4))

set_option backward.proofsInPublic true in
/-- A filled buffer of keys or values on device `c`: slot `s` holds the heads of `c` from the block of device `srcD s`. -/
def gath (g : Dev nD → Vec F S2x128x16x64 .f32) (c : Dev nD) : Vec F S2x2x128x4x64 .f32 := fun i =>
  g (srcD (i 0)) (ix4 (i 1) (i 2) (⟨4 * c.val + (i 3).val, by have h1 : c.val < 4 := c.isLt; have h2 : (i 3).val < 4 := (i 3).isLt; omega⟩ : Fin 16) (i 4))

def KB (c : Dev nD) : Vec F S2x2x128x4x64 .f32 := gath (kst m ρ) c
def VB (c : Dev nD) : Vec F S2x2x128x4x64 .f32 := gath (vst m ρ) c

theorem hld_inb (s b r : Fin 2) (h : Fin 4) : ∀ a, (![s.val, b.val, r.val * 64, h.val, 0] : Fin 5 → ℕ) a + S1x1x64x1x64.size a ≤ S2x2x128x4x64.size a := by
  revert s b r h; decide

/-- The 64 rows `64 r …` of head `h`, batch `b`, slot `s` of a buffer of gathered keys or values. -/
def hld (f : Vec F S2x2x128x4x64 .f32) (s b r : Fin 2) (h : Fin 4) : Vec F S1x1x64x1x64 .f32 :=
  kbM.view.readAt (Elt F) (Rect.unit (s := S2x2x128x4x64) ![s.val, b.val, r.val * 64, h.val, 0] S1x1x64x1x64.size (hld_inb s b r h)).toLoadRect f

theorem xld_inb (b : Fin 2) : ∀ a, (![b.val, 0, 0] : Fin 3 → ℕ) a + S1x128x512.size a ≤ S2x128x512.size a := by revert b; decide

/-- Batch `b` of the activations; the projection weights. -/
def xld (f : Vec F S2x128x512 .f32) (b : Fin 2) : Vec F S1x128x512 .f32 :=
  xM.view.readAt (Elt F) (Rect.unit (s := S2x128x512) ![b.val, 0, 0] S1x128x512.size (xld_inb b)).toLoadRect f
def wqld (f : Vec F S512x256 .f32) : Vec F S512x256 .f32 :=
  wqM.view.readAt (Elt F) (Rect.unit (s := S512x256) ![0, 0] S512x256.size inb_S512x256_S512x256_0_0).toLoadRect f
def wold (f : Vec F S256x512 .f32) : Vec F S256x512 .f32 :=
  woM.view.readAt (Elt F) (Rect.unit (s := S256x512) ![0, 0] S256x512.size inb_S256x512_S256x512_0_0).toLoadRect f

/-- The queries of batch `b` on device `c`. -/
def qF (c : Dev nD) : Fin 2 → FVec F S128x256 .f32
  | 0 => k0_pay7 (xld (xst m ρ c) 0) (wqld (wqst m ρ c))
  | 1 => k0_pay8 (xld (xst m ρ c) 1) (wqld (wqst m ρ c))

theorem qsl_slices (r : Fin 2) (h : Fin 4) : S128x256.Slices ![r.val * 64, h.val * 64] S64x64 := by revert r h; decide

/-- The queries of head `h`, rows `64 r …`. -/
def qsl (q : FVec F S128x256 .f32) (r : Fin 2) (h : Fin 4) : FVec F S64x64 .f32 :=
  extractStridedSlice S64x64 ![r.val * 64, h.val * 64] q (qsl_slices r h)

/-- One head's attention over the kept rows. -/
def headF (q : FVec F S128x256 .f32) (kb vb : Vec F S2x2x128x4x64 .f32) (b r : Fin 2) (h : Fin 4) : FVec F S64x64 .f32 :=
  k0_pay11 (qsl q r h) (hld kb 0 b r h) (hld kb 1 b r h) (hld vb 0 b r h) (hld vb 1 b r h)

/-- The four heads through this device's rows of the output projection. -/
def chunkF (q : FVec F S128x256 .f32) (kb vb : Vec F S2x2x128x4x64 .f32) (wo : Vec F S256x512 .f32) (b r : Fin 2) : FVec F S1x64x512 .f32 :=
  shapeCast S1x64x512 (matmul dot_S64x256_S256x512_S64x512_1_0_0_1_n_n none
    (concatenate S64x256 1 [⟨S64x64, headF q kb vb b r 0⟩, ⟨S64x64, headF q kb vb b r 1⟩, ⟨S64x64, headF q kb vb b r 2⟩, ⟨S64x64, headF q kb vb b r 3⟩]
      concatenates_S64x64_S64x64_S64x64_S64x64_S64x256_d1)
    (shapeCast S256x512 (wold wo) shapeCasts_S256x512_S256x512) (constant S64x512 .f32 0x00000000#32)) shapeCasts_S64x512_S1x64x512

set_option backward.proofsInPublic true in
/-- The batch and the row block device `d` reduces. -/
def bOf (d : Dev nD) : Fin 2 := ⟨d.val / 2, by have h : d.val < 4 := d.isLt; omega⟩
set_option backward.proofsInPublic true in
def rOf (d : Dev nD) : Fin 2 := ⟨d.val % 2, by omega⟩

/-- Device `c`'s partial product of the rows device `d` reduces. -/
def pch (c d : Dev nD) : FVec F S1x64x512 .f32 :=
  chunkF (qF m ρ c (bOf d)) (KB m ρ c) (VB m ρ c) (wost m ρ c) (bOf d) (rOf d)

/-- All of device `c`'s partial products, chunk by chunk. -/
def PW (c : Dev nD) : Vec F S4x64x512 .f32 := fun i => pch m ρ c (i 0) (ix3 (0 : Fin 1) (i 1) (i 2))

/-- The partial products that arrive at device `c`. -/
def RB (c : Dev nD) : Vec F S3x64x512 .f32 := fun i => PW m ρ (bk c (i 0)) (ix3 (show Fin 4 from c) (i 1) (i 2))

def pld (c : Dev nD) : Vec F S1x64x512 .f32 :=
  pwM.view.readAt (Elt F) (Rect.unit (s := S4x64x512) ![c.val, 0, 0] S1x64x512.size (pchunk_inb c)).toLoadRect (PW m ρ c)
def rld (c : Dev nD) (o : Fin 3) : Vec F S1x64x512 .f32 :=
  rbM.view.readAt (Elt F) (Rect.unit (s := S3x64x512) ![o.val, 0, 0] S1x64x512.size (rslot_inb o)).toLoadRect (RB m ρ c)

/-- The rows device `c` reduces, reduced. -/
def SUM (c : Dev nD) : FVec F S64x512 .f32 :=
  k0_pay55 (k0_pay53 (pld m ρ c)) (k0_pay54 (rld m ρ c 0)) (rld m ρ c 1) (rld m ρ c 2)
/-- The same, as the buffer they are sent from holds them. -/
def RED (c : Dev nD) : Vec F S64x512 .f32 :=
  k0_pay56 (k0_pay53 (pld m ρ c)) (k0_pay54 (rld m ρ c 0)) (rld m ρ c 1) (rld m ρ c 2)

set_option backward.proofsInPublic true in
/-- The device that reduces row `j` of batch `i`. -/
def own (i : Fin 2) (j : Fin 128) : Dev nD := ⟨2 * i.val + j.val / 64, by have := i.isLt; have := j.isLt; show _ < 4; omega⟩

set_option backward.proofsInPublic true in
/-- The result, the same on every device. -/
def OUT : Vec F S2x128x512 .f32 := fun i =>
  RED m ρ (own (i 0) (i 1)) (ix2 (⟨(i 1).val % 64, Nat.mod_lt _ (by decide)⟩ : Fin 64) (i 2))

/-! ## What is handed over -/

/-- The elements of a memref of device `c`, held outright at contents `f`, … -/
def pt (c : Dev nD) {s : Shape} {e : EltTy} (M : Memref sig .tc .vmem s e) (f : Buf (Elt F) (M.view.loc (c : Thread nD τ))) : sProp 𝕄 :=
  M.view.loc (c : Thread nD τ) ↦[M.view.set]{fullShare} f
/-- … at some contents. -/
def ptE (c : Dev nD) {s : Shape} {e : EltTy} (M : Memref sig .tc .vmem s e) : sProp 𝕄 :=
  iprop(∃ f : Buf (Elt F) (M.view.loc (c : Thread nD τ)), pt c M f)

instance pt_storable (c : Dev nD) {s : Shape} {e : EltTy} (M : Memref sig .tc .vmem s e) (f) : BI.Storable (upEmb : UEmb _ 𝕄) (pt (F := F) c M f) := by
  unfold pt; infer_instance
instance ptE_storable (c : Dev nD) {s : Shape} {e : EltTy} (M : Memref sig .tc .vmem s e) : BI.Storable (upEmb : UEmb _ 𝕄) (ptE (F := F) c M) := by
  unfold ptE; infer_instance

/-- The slots of device `c`'s two gathering buffers that device `p` fills. -/
def kvGive (c p : Dev nD) : sProp 𝕄 :=
  if p = 0 then iprop(ptE c (slotM kbM 0) ∗ ptE c (slotM vbM 0))
  else if p = 2 then iprop(ptE c (slotM kbM 1) ∗ ptE c (slotM vbM 1)) else iprop(emp)

/-- What device `p`'s signal hands device `c`: every place `c` will write on `p`. -/
def barPay (c p : Dev nD) : sProp 𝕄 := iprop(ptE p (rslM (dif c p)) ∗ ptE p (ochM c) ∗ kvGive p c)

/-- The share of the reduced rows lent to the transfer at distance `o`. -/
def shr : Fin 3 → PosShare TreeShare
  | 0 => (fullShare : PosShare TreeShare).right
  | 1 => (fullShare : PosShare TreeShare).left.right
  | 2 => (fullShare : PosShare TreeShare).left.left

/-- The payload of a cell's duty. -/
def payF : Cell → Dev nD → sProp 𝕄
  | (c, .bar), p => barPay c p
  | (c, .kS d), _ => pt c (headsM kM d) (kst m ρ c)
  | (c, .vS d), _ => pt c (headsM vM d) (vst m ρ c)
  | (c, .kR s), _ => pt c (slotM kbM s) (KB m ρ c)
  | (c, .vR s), _ => pt c (slotM vbM s) (VB m ρ c)
  | (c, .rS o), _ => pt c (pchM (fw c o)) (PW m ρ c)
  | (c, .rR o), _ => pt c (rslM o) (RB m ρ c)
  | (c, .aS o), _ => (abM.view.loc (c : Thread nD τ) ↦[abM.view.set]{shr o} RED m ρ c)
  | (c, .aR o), _ => pt c (ochM (bk c o)) (OUT m ρ)

instance kvGive_storable (c p : Dev nD) : BI.Storable (upEmb : UEmb _ 𝕄) (kvGive (F := F) c p) := by
  unfold kvGive; (repeat' split) <;> infer_instance

instance payF_storable (x : Cell) (d : Dev nD) : BI.Storable (upEmb : UEmb _ 𝕄) (payF (F := F) m ρ x d) := by
  rcases x with ⟨c, k⟩
  cases k with
  | bar => show BI.Storable upEmb (barPay c d); unfold barPay; infer_instance
  | kS e => exact pt_storable c (headsM kM e) _
  | vS e => exact pt_storable c (headsM vM e) _
  | kR s => exact pt_storable c (slotM kbM s) _
  | vR s => exact pt_storable c (slotM vbM s) _
  | rS o => exact pt_storable c (pchM (fw c o)) _
  | rR o => exact pt_storable c (rslM o) _
  | aS o => show BI.Storable upEmb (abM.view.loc (c : Thread nD τ) ↦[abM.view.set]{shr o} RED m ρ c); infer_instance
  | aR o => exact pt_storable c (ochM (bk c o)) _

/-- The schedule: one round of duties on each of the kernel's cells. -/
def Rd : Rounds.Schedule (GSem nD τ sig) (Dev nD) 𝕄 where
  duties g r := match kinv g with
    | some x => if r = 0 then dutyF x else ∅
    | none => ∅
  unitless _ := False
  amount g _ _ := match kinv g with
    | some x => amtF x.2
    | none => 1
  payload g _ d := match kinv g with
    | some x => payF m ρ x d
    | none => iprop(emp)
  amount_pos g _ _ _ := by
    split
    · exact amtF_pos _
    · exact Nat.one_pos

instance Rd_payload_storable (g : GSem nD τ sig) (r : ℕ) (d : Dev nD) : BI.Storable (upEmb : UEmb _ 𝕄) ((Rd (F := F) m ρ).payload g r d) := by
  show BI.Storable upEmb (match kinv g with | some x => payF m ρ x d | none => iprop(emp))
  split <;> infer_instance

section Sched
variable (x : Cell)

theorem duties_at : (Rd (F := F) m ρ).duties (kcell x) 0 = dutyF x := by
  dsimp only [Rd]; rw [kinv_kcell]; exact if_pos rfl
theorem duties_later (g : GSem nD τ sig) : ∀ r, 1 ≤ r → (Rd (F := F) m ρ).duties g r = ∅ := fun r hr => by
  dsimp only [Rd]
  split
  · exact if_neg (by omega)
  · rfl
theorem amount_at (d : Dev nD) : (Rd (F := F) m ρ).amount (kcell x) 0 d = amtF x.2 := by dsimp only [Rd]; rw [kinv_kcell]
theorem payload_at (d : Dev nD) : (Rd (F := F) m ρ).payload (kcell x) 0 d = payF m ρ x d := by dsimp only [Rd]; rw [kinv_kcell]
theorem expect_at : (Rd (F := F) m ρ).expect (kcell x) 0 = (dutyF x).card * amtF x.2 := by
  unfold Schedule.expect Schedule.amountOf
  rw [duties_at, Finset.sum_congr rfl fun d _ => amount_at m ρ x d, Finset.sum_const, smul_eq_mul]
theorem rest_at : bigSep ((Rd (F := F) m ρ).duties (kcell x) 0 \ ∅) (fun d => (Rd (F := F) m ρ).payload (kcell x) 0 d)
    = bigSep (dutyF x) (fun d => payF m ρ x d) := by
  rw [Finset.sdiff_empty, duties_at]
  exact bigSep_congr fun d _ => payload_at m ρ x d

end Sched

/-! ## What each device owes; the levels -/

/-- The units owed the cells of a list, last to first. -/
def tl : List Cell → CellTallies nD τ sig Unit
  | [] => 0
  | x :: l => tl l + tallyAt (kcell x) () (amtF x.2)

theorem tl_at (l : List Cell) (x : Cell) : tl l (kcell x) () = l.count x * amtF x.2 := by
  induction l with
  | nil => simp [tl]
  | cons y l ih =>
    show (tl l + tallyAt (kcell y) () (amtF y.2)) (kcell x) () = _
    rw [Pi.add_apply, Finsupp.add_apply, ih, tallyAt_apply, List.count_cons]
    by_cases h : y = x
    · subst h; simp [Nat.add_mul]
    · rw [if_neg (fun h' => h (kcell_injective h'.1).symm), if_neg (by simpa using h)]; simp

theorem tl_pos {l : List Cell} {g : GSem nD τ sig} {u : Unit} (h : 0 < tl l g u) : ∃ x ∈ l, g = kcell x := by
  induction l with
  | nil => exact absurd h (by simp [tl])
  | cons y l ih =>
    change 0 < (tl l + tallyAt (kcell y) () (amtF y.2)) g u at h
    rw [Pi.add_apply, Finsupp.add_apply, tallyAt_apply] at h
    by_cases hg : g = kcell y
    · exact ⟨y, List.mem_cons_self, hg⟩
    · rw [if_neg (fun h' => hg h'.1), Nat.add_zero] at h
      obtain ⟨x, hx, hgx⟩ := ih h
      exact ⟨x, List.mem_cons_of_mem _ hx, hgx⟩

/-- The order the cells are waited in: a device waits only on a cell below everything it still owes. -/
def lvK : CK → ℕ
  | .bar => 1
  | .kR _ | .vR _ => 2
  | .rR _ => 3
  | .aR _ => 4
  | _ => 0

def L (g : GSem nD τ sig) : Finset Unit := if g.1.2 = .tc then {()} else ∅
def lv (g : GSem nD τ sig) (_ : Unit) : ℕ := match kinv g with
  | some x => lvK x.2
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_at (x : Cell) (u : Unit) : lv (kcell x) u = lvK x.2 := by unfold lv; rw [kinv_kcell]

theorem mayWait_tl (c : Dev nD) (sm : SemLoc sig) (l : List Cell) (h : ∀ x ∈ l, lv ((c : Thread nD τ), sm) () < lvK x.2) :
    (levAts L lv : sProp 𝕄) ⊢ MayWait (c : Thread nD τ) sm () (tl l) :=
  MayOwe.of_cut (L := L) (lev := lv) (lv ((c : Thread nD τ), sm) ())
    (fun p hp => by rw [Finset.mem_singleton.mp hp, L_tc]; exact Finset.mem_singleton_self _)
    (fun g u hg => by obtain ⟨x, hx, rfl⟩ := tl_pos hg; exact Finset.mem_singleton_self _)
    (fun p hp => by rw [Finset.mem_singleton.mp hp])
    (fun g u hg => by obtain ⟨x, hx, rfl⟩ := tl_pos hg; rw [lv_at]; exact h x hx)

/-- What a device owes other devices at launch, in the order it pays: the three signals; its block of keys and values
    if every device reads it; its partial products; its reduced rows. -/
def payR (c : Dev nD) : List Cell := [(fw c 0, .rR 0), (fw c 1, .rR 1), (fw c 2, .rR 2)]
def payA (c : Dev nD) : List Cell := [(fw c 0, .aR 0), (fw c 1, .aR 1), (fw c 2, .aR 2)]
set_option backward.proofsInPublic true in
def payKV (c : Dev nD) : List Cell :=
  if c = 0 then [(1, .kR 0), (1, .vR 0), (2, .kR 0), (2, .vR 0), (3, .kR 0), (3, .vR 0)]
  else if c = 2 then [(0, .kR 1), (0, .vR 1), (1, .kR 1), (1, .vR 1), (3, .kR 1), (3, .vR 1)] else []
def payB (c : Dev nD) : List Cell := [(fw c 0, .bar), (fw c 1, .bar), (fw c 2, .bar)]
def pay (c : Dev nD) : List Cell := payB c ++ (payKV c ++ (payR c ++ payA c))

def O₀ (c : Dev nD) : CellTallies nD τ sig Unit := tl (pay c)

/-- Device `c` owes the cells of `l`, whatever it has waited on. -/
def ow (c : Dev nD) (l : List Cell) : sProp 𝕄 := iprop(∃ W, owes (c : Thread nD τ) (tl l) W)

abbrev 𝒱₀ : Variants := Variants.none

/-! ## The rule of each kind of effect -/

/-- Every cell's invariant, under the names `K`, and that every cell is at its first round. -/
def records (K : Cell → ℕ) : sProp 𝕄 :=
  iprop((bigSep Finset.univ fun x : Cell => cellInv ER (Rd m ρ) (K x) (kcell x)) ∗ bigSep Finset.univ fun x : Cell => reached ER (kcell x) 0)

instance records_persistent (K : Cell → ℕ) : BI.Persistent (records m ρ K) := by unfold records; infer_instance

variable (K : Cell → ℕ)

theorem inv_elim (x : Cell) : (bigSep Finset.univ fun x : Cell => (cellInv ER (Rd m ρ) (K x) (kcell x) : sProp 𝕄)) ⊢ cellInv ER (Rd m ρ) (K x) (kcell x) :=
  bigSep_elim (Finset.mem_univ x)
omit [FloatOps F] in
theorem reached_elim (x : Cell) : (bigSep Finset.univ fun x : Cell => (reached ER (kcell x) 0 : sProp 𝕄)) ⊢ reached ER (kcell x) 0 :=
  bigSep_elim (Finset.mem_univ x)

theorem inv_at (x : Cell) : records m ρ K ⊢ cellInv ER (Rd m ρ) (K x) (kcell x) := by
  unfold records
  iintro ⟨#H, -⟩
  iapply (inv_elim m ρ K x); iexact H
theorem reached_at (x : Cell) : records m ρ K ⊢ reached ER (kcell x) 0 := by
  unfold records
  iintro ⟨-, #H⟩
  iapply (reached_elim (F := F) x); iexact H

/-- A signal of device `c` to the barrier of `p`. -/
theorem wp_sig (c p n : Dev nD) (hn : n = p) (hp : c ∈ dutyF (p, .bar)) {k' : ℕ} (hk : k' = 1) (l : List Cell)
    {α : Type} {Q : α → sProp 𝕄} {k : PUnit → Prog (TpuEff nD τ sig (Elt F) Λ₀ .tc) α} :
    iprop(records m ρ K ∗ ow c ((p, .bar) :: l) ∗ dutyTok ER (kcell (p, .bar)) 0 c ∗ barPay p c)
      ⊢ iprop((ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  unfold ow
  iintro ⟨#Hrec, ⟨%W, HO⟩, Ht, Hp⟩ Hk
  iapply (Rounds.wp_signal 𝒱₀ ER (Rd m ρ) (c : Thread nD τ) none (dst := (n : Thread nD τ)) (κ := K (n, .bar)) (r := 0)
      (d := c) (by rw [show ((n : Thread nD τ), SemLoc.reg barS) = kcell (n, .bar) from rfl, duties_at]; exact hp)
      ((amount_at m ρ (n, .bar) c)) () (tl l) rfl) $$ [HO Ht Hp]
  · isplitr; · iapply (inv_at m ρ K (n, .bar)); iexact Hrec
    isplitl [HO]; · iexact HO
    isplitl [Ht]; · iexact Ht
    isplitl [Hp]
    · rw [show ((n : Thread nD τ), SemLoc.reg barS) = kcell (n, .bar) from rfl, payload_at]; dsimp only [payF]; iexact Hp
    · iapply (reached_at m ρ K (n, .bar)); iexact Hrec
  iintro HO; iapply Hk; iexists W; iexact HO

/-- A transfer of device `c` to device `p`, from and to elements it holds. -/
theorem wp_snd (c p n : Dev nD) (hn : n = p) (kS kR : CK) {κS κR : SemLoc sig} (hS : κS = csem kS) (hR : κR = csem kR)
    {s : Shape} {e : EltTy} {src dst : Memref sig .tc .vmem s e}
    (dS : c ∈ dutyF (c, kS)) (dR : c ∈ dutyF (p, kR)) (hN : dst.view.amount κR = amtF kR) (hNS : amtF kS = amtF kR)
    {q : PosShare TreeShare} (fs : Buf (Elt F) (src.view.loc (c : Thread nD τ))) (fd : Buf (Elt F) (dst.view.loc (p : Thread nD τ)))
    (hpS : (src.view.loc (c : Thread nD τ) ↦[src.view.set]{q} fs : sProp 𝕄) ⊢ payF m ρ (c, kS) c)
    (hpR : (pt p dst (dst.view.write (Elt F) fd (src.view.read (Elt F) fs) Finset.univ) : sProp 𝕄) ⊢ payF m ρ (p, kR) c)
    (l : List Cell) {hsc : dst.view.ref.isScScratch = false} {hsrc : src.view.WordExact} {hdst : dst.view.WordExact}
    {hsem : DmaTarget.Typed .vmem κR (.remote (Dev.tc n : Thread nD τ) dst κS hsc)}
    {α : Type} {Q : α → sProp 𝕄} {k : PUnit → Prog (TpuEff nD τ sig (Elt F) Λ₀ .tc) α} :
    iprop(records m ρ K ∗ (src.view.loc (c : Thread nD τ) ↦[src.view.set]{q} fs) ∗ pt p dst fd ∗ ow c ((p, kR) :: l)
        ∗ dutyTok ER (kcell (c, kS)) 0 c ∗ dutyTok ER (kcell (p, kR)) 0 c)
      ⊢ iprop(((cred (tallyAt (kcell (c, kS)) () (amtF kS)) ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst κS hsc) κR hsrc hdst hsem) k) Q) := by
  subst hn hS hR
  unfold pt at hpR
  unfold ow pt
  iintro ⟨#Hrec, Hs, Hd, ⟨%W, HO⟩, HtS, HtR⟩ Hk
  iapply (Rounds.wp_send_pointsTo 𝒱₀ ER (Rd m ρ) (c : Thread nD τ) none (κ₁ := K (c, kS)) (κ₂ := K (n, kR))
    (r₁ := 0) (r₂ := 0) (d₁ := c) (d₂ := c) (fs := fs) (fd := fd)
    (show c ∈ (Rd m ρ).duties (kcell (c, kS)) 0 by rw [duties_at]; exact dS) (show c ∈ (Rd m ρ).duties (kcell (n, kR)) 0 by rw [duties_at]; exact dR)
    () () (amtF kR) hN ((amount_at m ρ (c, kS) c).trans hNS) (amount_at m ρ (n, kR) c) (tl l) rfl (W := W)
    (show _ ⊢ (Rd m ρ).payload (kcell (c, kS)) 0 c by rw [payload_at]; exact hpS)
    (show _ ⊢ (Rd m ρ).payload (kcell (n, kR)) 0 c by rw [payload_at]; exact hpR)) $$ [Hs Hd HO HtS HtR]
  · isplitr; · iapply (inv_at m ρ K (c, kS)); iexact Hrec
    isplitr; · iapply (inv_at m ρ K (n, kR)); iexact Hrec
    isplitl [Hs]; · iexact Hs
    isplitl [Hd]; · iexact Hd
    isplitl [HO]; · iexact HO
    isplitl [HtS]; · iexact HtS
    isplitr; · iapply (reached_at m ρ K (c, kS)); iexact Hrec
    isplitl [HtR]; · iexact HtR
    iapply (reached_at m ρ K (n, kR)); iexact Hrec
  iintro ⟨Hc, HO⟩
  iapply Hk
  isplitl [Hc]; · rw [hNS]; iexact Hc
  iexists W; iexact HO

/-- A wait of device `c` for all of one of its cells: it takes what was handed over, and the cell closes. -/
theorem wp_wt (c : Dev nD) (k : CK) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem k) k' Kt)
    (hk : k' = (dutyF (c, k)).card * amtF k) (l : List Cell) (hl : ∀ x ∈ l, lvK k < lvK x.2)
    {α : Type} {Q : α → sProp 𝕄} {kk : PUnit → Prog (TpuEff nD τ sig (Elt F) Λ₀ .tc) α} :
    iprop(records m ρ K ∗ levAts L lv ∗ cred (tallyAt (kcell (c, k)) () ((dutyF (c, k)).card * amtF k)) ∗ ow c l ∗ atPos ER (kcell (c, k)) 0 ∅ 0)
      ⊢ iprop(((ow c l ∗ semVal (kcell (c, k)) 0 ∗ bigSep (dutyF (c, k)) (fun d => payF m ρ (c, k) d))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk
  unfold ow
  iintro ⟨#Hrec, #Hlev, Hc, ⟨%W, HO⟩, Hat⟩ Hk
  iapply (Rounds.wp_wait_rest_token 𝒱₀ ER (Rd m ρ) (c : Thread nD τ) none (κ := K (c, k)) hw (Set.mem_univ _) () (O := tl l) (W := W)
      (R := 0) (m := 0) (T := ∅) (show 0 + _ = (Rd m ρ).expect (kcell (c, k)) 0 by rw [expect_at, Nat.zero_add])) $$ [Hc HO Hat]
  · isplitr; · iapply (inv_at m ρ K (c, k)); iexact Hrec
    isplitl [Hc]; · iexact Hc
    isplitl [HO]; · iexact HO
    isplitr
    · iapply (mayWait_tl c (csem k) l (fun x hx => by rw [show lv ((c : Thread nD τ), csem k) () = lvK k from lv_at (c, k) ()]; exact hl x hx))
      iexact Hlev
    iexact Hat
  iintro ⟨HO, Hat, -, Hp⟩
  imod (Rounds.cell_close ER (Rd m ρ) (Set.mem_univ (K (c, k))) (fun h => h) (R := 0 + 1) (duties_later m ρ (kcell (c, k)))) $$ [Hat] with Hz
  · isplitr; · iapply (inv_at m ρ K (c, k)); iexact Hrec
    iexact Hat
  ihave Hp := (Entails.of_eq (rest_at m ρ (c, k))) $$ Hp
  iapply Hk
  isplitl [HO]; · iexists _; iexact HO
  isplitl [Hz]; · iexact Hz
  iexact Hp

/-- A cell nobody pays closes unwaited. -/
theorem close_unpaid (x : Cell) (hx : dutyF x = ∅) : iprop(records m ρ K ∗ atPos ER (kcell x) 0 ∅ 0) ⊢ (|={Set.univ}=> semVal (kcell x) 0 : sProp 𝕄) := by
  iintro ⟨#Hrec, Hat⟩
  iapply (Rounds.cell_close ER (Rd m ρ) (Set.mem_univ (K x)) (fun h => h) (R := 0) (fun r _ => by
    rcases Nat.eq_zero_or_pos r with rfl | hr
    · rw [duties_at]; exact hx
    · exact duties_later m ρ _ r hr))
  isplitr; · iapply (inv_at m ρ K x); iexact Hrec
  iexact Hat

end Cert.KernelProof

end
-- ==== Proof.Views.lean ====
/-
What the slices of the kernel's buffers are: which elements of the buffer each one reads, how the slices of one buffer
cover it without overlap, and what each transfer and each store leaves where it lands.
-/
module

public import proofs.«01_k».proof.Proof.Common
public import Idealize.ShloMosaic.Lib.Pipeline.Value
public import Idealize.ShloMosaic.Lib.ViewIndex
public import Idealize.ShloMosaic.Lib.Ring

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4 ix5 eq_ix2 eq_ix3 eq_ix4 eq_ix5)

variable {F : FTy → Type} [FloatOps F]

local notation "𝕄" => MT nD τ sig Unit (Elt F) ℕ UU ℕ

variable (m : (ℓ : Loc nD τ sig) → Buf (Elt F) ℓ) (ρ : Dev nD → PrngReg)

/-! ## Reading through the slices -/

section Reads
variable {Val : EltTy → Type}

theorem read_heads (M : Memref sig .tc .vmem S2x128x16x64 .f32) (d : Dev nD) (f : M.view.ty.Contents Val) (j : S2x128x4x64.Idx) :
    (headsM M d).view.read Val f j = M.view.read Val f (ix4 (j 0) (j 1) (⟨4 * d.val + (j 2).val, by have h1 : d.val < 4 := d.isLt; have h2 : (j 2).val < 4 := (j 2).isLt; omega⟩ : Fin 16) (j 3)) := by
  show M.view.read Val f ((Rect.unit (s := S2x128x16x64) ![0, 0, 4 * d.val, 0] S2x128x4x64.size (heads_inb d)).emb j) = _
  refine congrArg _ (funext fun a => Fin.ext ?_)
  match a with
  | ⟨0, _⟩ => show 0 + 1 * (j 0).val = (j 0).val; omega
  | ⟨1, _⟩ => show 0 + 1 * (j 1).val = (j 1).val; omega
  | ⟨2, _⟩ => show 4 * d.val + 1 * (j 2).val = 4 * d.val + (j 2).val; omega
  | ⟨3, _⟩ => show 0 + 1 * (j 3).val = (j 3).val; omega

theorem read_slot (M : Memref sig .tc .vmem S2x2x128x4x64 .f32) (s : Fin 2) (f : M.view.ty.Contents Val) (j : S2x128x4x64.Idx) :
    (slotM M s).view.read Val f j = M.view.read Val f (ix5 s (j 0) (j 1) (j 2) (j 3)) := by
  rw [Memref.read_squeeze_slice (hc := show S1x2x128x4x64.ShapeCasts S2x128x4x64 by decide)]
  show M.view.read Val f ((Rect.unit (s := S2x2x128x4x64) ![s.val, 0, 0, 0, 0] S1x2x128x4x64.size (slot_inb s)).emb (Shape.reshapeEquiv _ j)) = _
  rw [Shape.reshapeEquiv_cons_one (n := 4) (d := ![2, 128, 4, 64])]
  refine congrArg _ (funext fun a => Fin.ext ?_)
  match a with
  | ⟨0, _⟩ => show s.val + 1 * 0 = s.val; omega
  | ⟨1, _⟩ => show 0 + 1 * (j 0).val = (j 0).val; omega
  | ⟨2, _⟩ => show 0 + 1 * (j 1).val = (j 1).val; omega
  | ⟨3, _⟩ => show 0 + 1 * (j 2).val = (j 2).val; omega
  | ⟨4, _⟩ => show 0 + 1 * (j 3).val = (j 3).val; omega

theorem read_pch (d : Dev nD) (f : pwM.view.ty.Contents Val) (j : S64x512.Idx) :
    (pchM d).view.read Val f j = pwM.view.read Val f (ix3 (d : Fin 4) (j 0) (j 1)) := by
  rw [Memref.read_squeeze_slice (hc := show S1x64x512.ShapeCasts S64x512 by decide)]
  show pwM.view.read Val f ((Rect.unit (s := S4x64x512) ![d.val, 0, 0] S1x64x512.size (pchunk_inb d)).emb (Shape.reshapeEquiv _ j)) = _
  rw [Shape.reshapeEquiv_cons_one (n := 2) (d := ![64, 512])]
  refine congrArg _ (funext fun a => Fin.ext ?_)
  match a with
  | ⟨0, _⟩ => show d.val + 1 * 0 = d.val; omega
  | ⟨1, _⟩ => show 0 + 1 * (j 0).val = (j 0).val; omega
  | ⟨2, _⟩ => show 0 + 1 * (j 1).val = (j 1).val; omega

theorem read_rsl (o : Fin 3) (f : rbM.view.ty.Contents Val) (j : S64x512.Idx) :
    (rslM o).view.read Val f j = rbM.view.read Val f (ix3 o (j 0) (j 1)) := by
  rw [Memref.read_squeeze_slice (hc := show S1x64x512.ShapeCasts S64x512 by decide)]
  show rbM.view.read Val f ((Rect.unit (s := S3x64x512) ![o.val, 0, 0] S1x64x512.size (rslot_inb o)).emb (Shape.reshapeEquiv _ j)) = _
  rw [Shape.reshapeEquiv_cons_one (n := 2) (d := ![64, 512])]
  refine congrArg _ (funext fun a => Fin.ext ?_)
  match a with
  | ⟨0, _⟩ => show o.val + 1 * 0 = o.val; omega
  | ⟨1, _⟩ => show 0 + 1 * (j 0).val = (j 0).val; omega
  | ⟨2, _⟩ => show 0 + 1 * (j 1).val = (j 1).val; omega

theorem read_och (d : Dev nD) (f : oM.view.ty.Contents Val) (j : S64x512.Idx) :
    (ochM d).view.read Val f j = oM.view.read Val f (ix3 (bOf d)
      (⟨d.val % 2 * 64 + (j 0).val, by have h2 : (j 0).val < 64 := (j 0).isLt; omega⟩ : Fin 128) (j 1)) := by
  rw [Memref.read_squeeze_slice (hc := show S1x64x512.ShapeCasts S64x512 by decide)]
  show oM.view.read Val f ((Rect.unit (s := S2x128x512) ![d.val / 2, d.val % 2 * 64, 0] S1x64x512.size (ochunk_inb d)).emb (Shape.reshapeEquiv _ j)) = _
  rw [Shape.reshapeEquiv_cons_one (n := 2) (d := ![64, 512])]
  refine congrArg _ (funext fun a => Fin.ext ?_)
  match a with
  | ⟨0, _⟩ => show d.val / 2 + 1 * 0 = d.val / 2; omega
  | ⟨1, _⟩ => show d.val % 2 * 64 + 1 * (j 0).val = d.val % 2 * 64 + (j 0).val; omega
  | ⟨2, _⟩ => show 0 + 1 * (j 1).val = (j 1).val; omega

end Reads

/-! ## Contents that read alike are held alike -/

theorem pt_congr (c : Dev nD) {s : Shape} {e : EltTy} (M : Memref sig .tc .vmem s e) {q : PosShare TreeShare}
    {f g : Buf (Elt F) (M.view.loc (c : Thread nD τ))} (h : M.view.read (Elt F) f = M.view.read (Elt F) g) :
    (M.view.loc (c : Thread nD τ) ↦[M.view.set]{q} f : sProp 𝕄) = M.view.loc (c : Thread nD τ) ↦[M.view.set]{q} g :=
  pointsTo_congr fun i hi => by
    obtain ⟨x, -, rfl⟩ := Finset.mem_map.mp hi
    exact View.eq_of_read_eq (congrFun h x)

theorem pt_written (c : Dev nD) {s : Shape} {e : EltTy} (M : Memref sig .tc .vmem s e)
    {f g : Buf (Elt F) (M.view.loc (c : Thread nD τ))} {w : s.Idx → Elt F e} (h : w = M.view.read (Elt F) g) :
    (pt c M (M.view.write (Elt F) f w Finset.univ) : sProp 𝕄) = pt c M g :=
  pt_congr c M (by rw [View.read_write_univ, h])

/-- The heads device `c` needs, read out of the block of device `srcD s`, are slot `s` of what `c` gathers. -/
theorem gath_k (g : Dev nD → Vec F S2x128x16x64 .f32) (c : Dev nD) (s : Fin 2) :
    (headsM kM c).view.read (Elt F) (g (srcD s)) = (slotM kbM s).view.read (Elt F) (gath g c) := by
  funext j; rw [read_heads, read_slot]; rfl
theorem gath_v (g : Dev nD → Vec F S2x128x16x64 .f32) (c : Dev nD) (s : Fin 2) :
    (headsM vM c).view.read (Elt F) (g (srcD s)) = (slotM vbM s).view.read (Elt F) (gath g c) := by
  funext j; rw [read_heads, read_slot]; rfl

/-- The chunk meant for the device at distance `o`, as it arrives there. -/
theorem part_r (c : Dev nD) (o : Fin 3) :
    (pchM (fw c o)).view.read (Elt F) (PW m ρ c) = (rslM o).view.read (Elt F) (RB m ρ (fw c o)) := by
  funext j; rw [read_pch, read_rsl]
  show PW m ρ c _ = PW m ρ (bk (fw c o) o) _
  rw [bk_fw]; rfl

theorem own_at (c : Dev nD) (j : Fin 64) : own (bOf c) (⟨c.val % 2 * 64 + j.val, by have := j.isLt; omega⟩ : Fin 128) = c := by
  have h : c.val < 4 := c.isLt
  apply Fin.ext
  show 2 * (c.val / 2) + (c.val % 2 * 64 + j.val) / 64 = c.val
  have := j.isLt; omega

/-- Device `c`'s rows of the result are its reduced rows. -/
theorem out_r (c : Dev nD) : abM.view.read (Elt F) (RED m ρ c) = (ochM c).view.read (Elt F) (OUT m ρ) := by
  funext j; rw [read_och]
  show RED m ρ c j = RED m ρ (own (bOf c) (⟨c.val % 2 * 64 + (j 0).val, _⟩ : Fin 128)) (ix2 (⟨(c.val % 2 * 64 + (j 0).val) % 64, _⟩ : Fin 64) (j 1))
  have h2 : (j 0).val < 64 := (j 0).isLt
  refine Eq.trans ?_ (congrArg (fun d => RED m ρ d (ix2 (⟨(c.val % 2 * 64 + (j 0).val) % 64, Nat.mod_lt _ (by decide)⟩ : Fin 64) (j 1))) (own_at c (j 0)).symm)
  refine congrArg _ ((eq_ix2 j).trans ?_)
  exact congrArg (fun a => ix2 a (j 1)) (Fin.ext (show (j 0).val = (c.val % 2 * 64 + (j 0).val) % 64 by omega))

/-! ## A buffer held slice by slice -/

theorem slot_set_k (s : Fin 2) : (slotM kbM s).view.set = (Rect.unit (s := S2x2x128x4x64) ![s.val, 0, 0, 0, 0] S1x2x128x4x64.size (slot_inb s)).set := by
  rw [Memref.set_view_squeeze]; exact View.set_slice_whole _ _
theorem slot_set_v (s : Fin 2) : (slotM vbM s).view.set = (Rect.unit (s := S2x2x128x4x64) ![s.val, 0, 0, 0, 0] S1x2x128x4x64.size (slot_inb s)).set := by
  rw [Memref.set_view_squeeze]; exact View.set_slice_whole _ _
theorem heads_set_k (d : Dev nD) : (headsM kM d).view.set = (Rect.unit (s := S2x128x16x64) ![0, 0, 4 * d.val, 0] S2x128x4x64.size (heads_inb d)).set :=
  View.set_slice_whole _ _
theorem heads_set_v (d : Dev nD) : (headsM vM d).view.set = (Rect.unit (s := S2x128x16x64) ![0, 0, 4 * d.val, 0] S2x128x4x64.size (heads_inb d)).set :=
  View.set_slice_whole _ _
theorem pch_set (d : Dev nD) : (pchM d).view.set = (Rect.unit (s := S4x64x512) ![d.val, 0, 0] S1x64x512.size (pchunk_inb d)).set := by
  rw [Memref.set_view_squeeze]; exact View.set_slice_whole _ _
theorem rsl_set (o : Fin 3) : (rslM o).view.set = (Rect.unit (s := S3x64x512) ![o.val, 0, 0] S1x64x512.size (rslot_inb o)).set := by
  rw [Memref.set_view_squeeze]; exact View.set_slice_whole _ _
theorem och_set (d : Dev nD) : (ochM d).view.set = (Rect.unit (s := S2x128x512) ![d.val / 2, d.val % 2 * 64, 0] S1x64x512.size (ochunk_inb d)).set := by
  rw [Memref.set_view_squeeze]; exact View.set_slice_whole _ _

theorem lt_zero_add {n k : ℕ} (h : n < k) : n < 0 + k := by omega

theorem slot_disj (s s' : Fin 2) (h : s ≠ s') : Disjoint (Rect.unit (s := S2x2x128x4x64) ![s.val, 0, 0, 0, 0] S1x2x128x4x64.size (slot_inb s)).set
    (Rect.unit (s := S2x2x128x4x64) ![s'.val, 0, 0, 0, 0] S1x2x128x4x64.size (slot_inb s')).set :=
  Rect.unit_disjoint 0 (show s.val + 1 ≤ s'.val ∨ s'.val + 1 ≤ s.val by have := fun e => h (Fin.ext e); omega)
theorem slot_cover : Finset.univ.biUnion (fun s : Fin 2 => (Rect.unit (s := S2x2x128x4x64) ![s.val, 0, 0, 0, 0] S1x2x128x4x64.size (slot_inb s)).set) = Finset.univ := by
  refine Finset.eq_univ_of_forall fun i => Finset.mem_biUnion.mpr ⟨(i 0 : Fin 2), Finset.mem_univ _, Rect.mem_set_unit.mpr fun a => ?_⟩
  match a with
  | ⟨0, _⟩ => exact ⟨le_refl _, Nat.lt_succ_self _⟩
  | ⟨1, _⟩ => exact ⟨Nat.zero_le _, lt_zero_add (i 1).isLt⟩
  | ⟨2, _⟩ => exact ⟨Nat.zero_le _, lt_zero_add (i 2).isLt⟩
  | ⟨3, _⟩ => exact ⟨Nat.zero_le _, lt_zero_add (i 3).isLt⟩
  | ⟨4, _⟩ => exact ⟨Nat.zero_le _, lt_zero_add (i 4).isLt⟩

theorem heads_disj (d d' : Dev nD) (h : d ≠ d') : Disjoint (Rect.unit (s := S2x128x16x64) ![0, 0, 4 * d.val, 0] S2x128x4x64.size (heads_inb d)).set
    (Rect.unit (s := S2x128x16x64) ![0, 0, 4 * d'.val, 0] S2x128x4x64.size (heads_inb d')).set :=
  Rect.unit_disjoint 2 (show 4 * d.val + 4 ≤ 4 * d'.val ∨ 4 * d'.val + 4 ≤ 4 * d.val by have hv : d.val ≠ d'.val := fun e => h (Fin.ext e); omega)
theorem heads_cover : Finset.univ.biUnion (fun d : Dev nD => (Rect.unit (s := S2x128x16x64) ![0, 0, 4 * d.val, 0] S2x128x4x64.size (heads_inb d)).set) = Finset.univ := by
  refine Finset.eq_univ_of_forall fun i => Finset.mem_biUnion.mpr ⟨(⟨(i 2).val / 4, by have : (i 2).val < 16 := (i 2).isLt; show _ < 4; omega⟩ : Dev nD), Finset.mem_univ _, Rect.mem_set_unit.mpr fun a => ?_⟩
  match a with
  | ⟨0, _⟩ => exact ⟨Nat.zero_le _, lt_zero_add (i 0).isLt⟩
  | ⟨1, _⟩ => exact ⟨Nat.zero_le _, lt_zero_add (i 1).isLt⟩
  | ⟨2, _⟩ =>
    show 4 * ((i 2).val / 4) ≤ (i 2).val ∧ (i 2).val < 4 * ((i 2).val / 4) + 4
    omega
  | ⟨3, _⟩ => exact ⟨Nat.zero_le _, lt_zero_add (i 3).isLt⟩

theorem pch_disj (d d' : Dev nD) (h : d ≠ d') : Disjoint (Rect.unit (s := S4x64x512) ![d.val, 0, 0] S1x64x512.size (pchunk_inb d)).set
    (Rect.unit (s := S4x64x512) ![d'.val, 0, 0] S1x64x512.size (pchunk_inb d')).set :=
  Rect.unit_disjoint 0 (show d.val + 1 ≤ d'.val ∨ d'.val + 1 ≤ d.val by have hv : d.val ≠ d'.val := fun e => h (Fin.ext e); omega)
theorem pch_cover : Finset.univ.biUnion (fun d : Dev nD => (Rect.unit (s := S4x64x512) ![d.val, 0, 0] S1x64x512.size (pchunk_inb d)).set) = Finset.univ := by
  refine Finset.eq_univ_of_forall fun i => Finset.mem_biUnion.mpr ⟨(i 0 : Fin 4), Finset.mem_univ _, Rect.mem_set_unit.mpr fun a => ?_⟩
  match a with
  | ⟨0, _⟩ => exact ⟨le_refl _, Nat.lt_succ_self _⟩
  | ⟨1, _⟩ => exact ⟨Nat.zero_le _, lt_zero_add (i 1).isLt⟩
  | ⟨2, _⟩ => exact ⟨Nat.zero_le _, lt_zero_add (i 2).isLt⟩

theorem rsl_disj (d d' : Fin 3) (h : d ≠ d') : Disjoint (Rect.unit (s := S3x64x512) ![d.val, 0, 0] S1x64x512.size (rslot_inb d)).set
    (Rect.unit (s := S3x64x512) ![d'.val, 0, 0] S1x64x512.size (rslot_inb d')).set :=
  Rect.unit_disjoint 0 (show d.val + 1 ≤ d'.val ∨ d'.val + 1 ≤ d.val by have hv : d.val ≠ d'.val := fun e => h (Fin.ext e); omega)
theorem rsl_cover : Finset.univ.biUnion (fun d : Fin 3 => (Rect.unit (s := S3x64x512) ![d.val, 0, 0] S1x64x512.size (rslot_inb d)).set) = Finset.univ := by
  refine Finset.eq_univ_of_forall fun i => Finset.mem_biUnion.mpr ⟨(i 0 : Fin 3), Finset.mem_univ _, Rect.mem_set_unit.mpr fun a => ?_⟩
  match a with
  | ⟨0, _⟩ => exact ⟨le_refl _, Nat.lt_succ_self _⟩
  | ⟨1, _⟩ => exact ⟨Nat.zero_le _, lt_zero_add (i 1).isLt⟩
  | ⟨2, _⟩ => exact ⟨Nat.zero_le _, lt_zero_add (i 2).isLt⟩

theorem och_disj (d d' : Dev nD) (h : d ≠ d') : Disjoint (Rect.unit (s := S2x128x512) ![d.val / 2, d.val % 2 * 64, 0] S1x64x512.size (ochunk_inb d)).set
    (Rect.unit (s := S2x128x512) ![d'.val / 2, d'.val % 2 * 64, 0] S1x64x512.size (ochunk_inb d')).set := by
  have hv : d.val ≠ d'.val := fun e => h (Fin.ext e)
  by_cases hb : d.val / 2 = d'.val / 2
  · exact Rect.unit_disjoint 1 (show d.val % 2 * 64 + 64 ≤ d'.val % 2 * 64 ∨ d'.val % 2 * 64 + 64 ≤ d.val % 2 * 64 by omega)
  · exact Rect.unit_disjoint 0 (show d.val / 2 + 1 ≤ d'.val / 2 ∨ d'.val / 2 + 1 ≤ d.val / 2 by omega)
theorem och_cover : Finset.univ.biUnion (fun d : Dev nD => (Rect.unit (s := S2x128x512) ![d.val / 2, d.val % 2 * 64, 0] S1x64x512.size (ochunk_inb d)).set) = Finset.univ := by
  refine Finset.eq_univ_of_forall fun i => Finset.mem_biUnion.mpr ⟨own (i 0) (i 1), Finset.mem_univ _, Rect.mem_set_unit.mpr fun a => ?_⟩
  have h0 : (i 0).val < 2 := (i 0).isLt
  have h1 : (i 1).val < 128 := (i 1).isLt
  match a with
  | ⟨0, _⟩ =>
    show (2 * (i 0).val + (i 1).val / 64) / 2 ≤ (i 0).val ∧ (i 0).val < (2 * (i 0).val + (i 1).val / 64) / 2 + 1
    omega
  | ⟨1, _⟩ =>
    show (2 * (i 0).val + (i 1).val / 64) % 2 * 64 ≤ (i 1).val ∧ (i 1).val < (2 * (i 0).val + (i 1).val / 64) % 2 * 64 + 64
    omega
  | ⟨2, _⟩ => exact ⟨Nat.zero_le _, lt_zero_add (i 2).isLt⟩

/-- The four devices, seen from `c`. -/
theorem devs_from (c : Dev nD) : (Finset.univ : Finset (Dev nD)) = [c, fw c 0, fw c 1, fw c 2].toFinset := by revert c; decide
theorem devs_from_nodup (c : Dev nD) : [c, fw c 0, fw c 1, fw c 2].Nodup := by revert c; decide
theorem bigSep_from (c : Dev nD) (Φ : Dev nD → sProp 𝕄) : bigSep Finset.univ Φ = iprop(Φ c ∗ Φ (fw c 0) ∗ Φ (fw c 1) ∗ Φ (fw c 2)) :=
  BI.bigSep_univ_eq_bigSepL _ (devs_from c) (devs_from_nodup c) Φ
theorem bigSep_devs (Φ : Dev nD → sProp 𝕄) : bigSep Finset.univ Φ = iprop(Φ 0 ∗ Φ 1 ∗ Φ 2 ∗ Φ 3) := bigSep_from 0 Φ

theorem pt_whole (c : Dev nD) {s : Shape} {e : EltTy} (M : Memref sig .tc .vmem s e) (h : M.view.set = Finset.univ) (f : Buf (Elt F) (M.view.loc (c : Thread nD τ))) :
    (pt c M f : sProp 𝕄) = M.view.loc (c : Thread nD τ) ↦{fullShare} f := by
  unfold pt; rw [h]

theorem kb_slots_disj (s s' : Fin 2) (h : s ≠ s') : Disjoint (slotM kbM s).view.set (slotM kbM s').view.set := by rw [slot_set_k, slot_set_k]; exact slot_disj s s' h
theorem kb_slots_cover : Finset.biUnion (β := S2x2x128x4x64.Idx) Finset.univ (fun s : Fin 2 => (slotM kbM s).view.set) = Finset.univ :=
  (congrArg (Finset.biUnion Finset.univ) (funext fun s => slot_set_k s)).trans slot_cover
theorem kb_slots_all (c : Dev nD) (f : Vec F S2x2x128x4x64 .f32) : (pt c kbM f : sProp 𝕄) = bigSep Finset.univ fun s => pt c (slotM kbM s) f := by
  refine (pt_whole c kbM (View.set_whole cc0_scratch0) f).trans ?_
  unfold pt
  exact Ring.pointsTo_blocks (ℓ := kbM.view.loc (c : Thread nD τ)) (fun s : Fin 2 => (slotM kbM s).view.set) kb_slots_disj kb_slots_cover f

theorem vb_slots_disj (s s' : Fin 2) (h : s ≠ s') : Disjoint (slotM vbM s).view.set (slotM vbM s').view.set := by rw [slot_set_v, slot_set_v]; exact slot_disj s s' h
theorem vb_slots_cover : Finset.biUnion (β := S2x2x128x4x64.Idx) Finset.univ (fun s : Fin 2 => (slotM vbM s).view.set) = Finset.univ :=
  (congrArg (Finset.biUnion Finset.univ) (funext fun s => slot_set_v s)).trans slot_cover
theorem vb_slots_all (c : Dev nD) (f : Vec F S2x2x128x4x64 .f32) : (pt c vbM f : sProp 𝕄) = bigSep Finset.univ fun s => pt c (slotM vbM s) f := by
  refine (pt_whole c vbM (View.set_whole cc0_scratch1) f).trans ?_
  unfold pt
  exact Ring.pointsTo_blocks (ℓ := vbM.view.loc (c : Thread nD τ)) (fun s : Fin 2 => (slotM vbM s).view.set) vb_slots_disj vb_slots_cover f

theorem k_heads_disj (s s' : Dev nD) (h : s ≠ s') : Disjoint (headsM kM s).view.set (headsM kM s').view.set := by rw [heads_set_k, heads_set_k]; exact heads_disj s s' h
theorem k_heads_cover : Finset.biUnion (β := S2x128x16x64.Idx) Finset.univ (fun s : Dev nD => (headsM kM s).view.set) = Finset.univ :=
  (congrArg (Finset.biUnion Finset.univ) (funext fun s => heads_set_k s)).trans heads_cover
theorem k_heads_all (c : Dev nD) (f : Vec F S2x128x16x64 .f32) : (pt c kM f : sProp 𝕄) = bigSep Finset.univ fun s => pt c (headsM kM s) f := by
  refine (pt_whole c kM (View.set_whole cc0_stg2_0) f).trans ?_
  unfold pt
  exact Ring.pointsTo_blocks (ℓ := kM.view.loc (c : Thread nD τ)) (fun s : Dev nD => (headsM kM s).view.set) k_heads_disj k_heads_cover f

theorem v_heads_disj (s s' : Dev nD) (h : s ≠ s') : Disjoint (headsM vM s).view.set (headsM vM s').view.set := by rw [heads_set_v, heads_set_v]; exact heads_disj s s' h
theorem v_heads_cover : Finset.biUnion (β := S2x128x16x64.Idx) Finset.univ (fun s : Dev nD => (headsM vM s).view.set) = Finset.univ :=
  (congrArg (Finset.biUnion Finset.univ) (funext fun s => heads_set_v s)).trans heads_cover
theorem v_heads_all (c : Dev nD) (f : Vec F S2x128x16x64 .f32) : (pt c vM f : sProp 𝕄) = bigSep Finset.univ fun s => pt c (headsM vM s) f := by
  refine (pt_whole c vM (View.set_whole cc0_stg3_0) f).trans ?_
  unfold pt
  exact Ring.pointsTo_blocks (ℓ := vM.view.loc (c : Thread nD τ)) (fun s : Dev nD => (headsM vM s).view.set) v_heads_disj v_heads_cover f

theorem pw_chunks_disj (s s' : Dev nD) (h : s ≠ s') : Disjoint (pchM s).view.set (pchM s').view.set := by rw [pch_set, pch_set]; exact pch_disj s s' h
theorem pw_chunks_cover : Finset.biUnion (β := S4x64x512.Idx) Finset.univ (fun s : Dev nD => (pchM s).view.set) = Finset.univ :=
  (congrArg (Finset.biUnion Finset.univ) (funext fun s => pch_set s)).trans pch_cover
theorem pw_chunks_all (c : Dev nD) (f : Vec F S4x64x512 .f32) : (pt c pwM f : sProp 𝕄) = bigSep Finset.univ fun s => pt c (pchM s) f := by
  refine (pt_whole c pwM (View.set_whole cc0_scratch2) f).trans ?_
  unfold pt
  exact Ring.pointsTo_blocks (ℓ := pwM.view.loc (c : Thread nD τ)) (fun s : Dev nD => (pchM s).view.set) pw_chunks_disj pw_chunks_cover f

theorem rb_slots_disj (s s' : Fin 3) (h : s ≠ s') : Disjoint (rslM s).view.set (rslM s').view.set := by rw [rsl_set, rsl_set]; exact rsl_disj s s' h
theorem rb_slots_cover : Finset.biUnion (β := S3x64x512.Idx) Finset.univ (fun s : Fin 3 => (rslM s).view.set) = Finset.univ :=
  (congrArg (Finset.biUnion Finset.univ) (funext fun s => rsl_set s)).trans rsl_cover
theorem rb_slots_all (c : Dev nD) (f : Vec F S3x64x512 .f32) : (pt c rbM f : sProp 𝕄) = bigSep Finset.univ fun s => pt c (rslM s) f := by
  refine (pt_whole c rbM (View.set_whole cc0_scratch3) f).trans ?_
  unfold pt
  exact Ring.pointsTo_blocks (ℓ := rbM.view.loc (c : Thread nD τ)) (fun s : Fin 3 => (rslM s).view.set) rb_slots_disj rb_slots_cover f

theorem o_chunks_disj (s s' : Dev nD) (h : s ≠ s') : Disjoint (ochM s).view.set (ochM s').view.set := by rw [och_set, och_set]; exact och_disj s s' h
theorem o_chunks_cover : Finset.biUnion (β := S2x128x512.Idx) Finset.univ (fun s : Dev nD => (ochM s).view.set) = Finset.univ :=
  (congrArg (Finset.biUnion Finset.univ) (funext fun s => och_set s)).trans och_cover
theorem o_chunks_all (c : Dev nD) (f : Vec F S2x128x512 .f32) : (pt c oM f : sProp 𝕄) = bigSep Finset.univ fun s => pt c (ochM s) f := by
  refine (pt_whole c oM (View.set_whole cc0_stg5_0) f).trans ?_
  unfold pt
  exact Ring.pointsTo_blocks (ℓ := oM.view.loc (c : Thread nD τ)) (fun s : Dev nD => (ochM s).view.set) o_chunks_disj o_chunks_cover f

theorem kb_slots (c : Dev nD) (f : Vec F S2x2x128x4x64 .f32) : (pt c kbM f : sProp 𝕄) = iprop(pt c (slotM kbM 0) f ∗ pt c (slotM kbM 1) f) :=
  (kb_slots_all c f).trans (Ring.bigSep_fin2 _)
theorem vb_slots (c : Dev nD) (f : Vec F S2x2x128x4x64 .f32) : (pt c vbM f : sProp 𝕄) = iprop(pt c (slotM vbM 0) f ∗ pt c (slotM vbM 1) f) :=
  (vb_slots_all c f).trans (Ring.bigSep_fin2 _)
theorem rb_slots (c : Dev nD) (f : Vec F S3x64x512 .f32) : (pt c rbM f : sProp 𝕄) = iprop(pt c (rslM 0) f ∗ pt c (rslM 1) f ∗ pt c (rslM 2) f) :=
  (rb_slots_all c f).trans (Ring.bigSep_fin3 _)

end Cert.KernelProof

end
-- ==== Proof.Ops.lean ====
/-
Each transfer and each wait of the kernel, as a step from what a device holds before it to what it holds after.
-/
module

public import proofs.«01_k».proof.Proof.Views

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Cell → ℕ)

/-- The run of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A device's place at one of its cells, before it has waited there; the credit it waits with; the closed cell. -/
def at0 (c : Dev nD) (k : CK) : sProp 𝕄 := atPos ER (kcell (c, k)) 0 ∅ 0
def cr1 (c : Dev nD) (k : CK) : sProp 𝕄 := cred (tallyAt (kcell (c, k)) () (amtF k))
def z0 (c : Dev nD) (k : CK) : sProp 𝕄 := semVal (kcell (c, k)) 0
/-- The token of the duty device `p` has at cell `x`. -/
def tk (x : Cell) (p : Dev nD) : sProp 𝕄 := dutyTok ER (kcell x) 0 p

/-- A wait on a cell paid by one device. -/
theorem wt_one (c p : Dev nD) (k : CK) (hd : dutyF (c, k) = {p}) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem k) k' Kt)
    (hk : k' = amtF k) (l : List Cell) (hl : ∀ x ∈ l, lvK k < lvK x.2)
    {α : Type} {Q : α → sProp 𝕄} {kk : PUnit → Prog (TpuEff nD τ sig (Elt F) Λ₀ .tc) α} :
    iprop(records m ρ K ∗ levAts L lv ∗ cr1 c k ∗ ow c l ∗ at0 c k)
      ⊢ iprop(((ow c l ∗ z0 c k ∗ payF m ρ (c, k) p) -∗ WP c (kk ⟨⟩) Q) -∗ WP c (.op w kk) Q) := by
  have h1 : (dutyF (c, k)).card * amtF k = amtF k := by rw [hd, Finset.card_singleton, Nat.one_mul]
  have h := wp_wt m ρ K c k hw (hk.trans h1.symm) l hl (Q := Q) (kk := kk)
  rw [h1, hd, bigSep_singleton] at h
  exact h

/-! ## Loads and stores -/

/-- A load through a slice that is held. -/
theorem ld_slice (c : Dev nD) {s s' : Shape} {e : EltTy} {M : Memref sig .tc .vmem s e} {r : Rect s} (hr : ∀ a, r.stride a = 1) (hq : r.shape.Squeezes s')
    {f : Buf (Elt F) (((M.slice r hr).squeeze s' hq).view.loc (c : Thread nD τ))} {hld : M.view.LoadsAt r.toLoadRect}
    {α : Type} {Q : α → sProp 𝕄} {k : (r.toLoadRect.shape.Idx → Elt F e) → Prog (TpuEff nD τ sig (Elt F) Λ₀ .tc) α} :
    (pt c ((M.slice r hr).squeeze s' hq) f : sProp 𝕄) ⊢ iprop((pt c ((M.slice r hr).squeeze s' hq) f -∗ WP c (k (M.view.readAt (Elt F) r.toLoadRect f)) Q)
      -∗ WP c (.op (.load M r.toLoadRect hld) k) Q) := by
  unfold pt
  exact wp_load 𝒱₀ (c : Thread nD τ) none Set.univ (m := M) (by rw [Memref.set_view_squeeze]; show _ ⊆ (M.view.slice r).set; rw [View.set_slice]; exact Finset.Subset.refl _)

/-- A load of exactly what is held of a buffer. -/
theorem ld_part (c : Dev nD) {s : Shape} {e : EltTy} {M : Memref sig .tc .vmem s e} {r : Rect s} (hr : ∀ a, r.stride a = 1)
    {f : Buf (Elt F) ((M.slice r hr).view.loc (c : Thread nD τ))} {hld : M.view.LoadsAt r.toLoadRect}
    {α : Type} {Q : α → sProp 𝕄} {k : (r.toLoadRect.shape.Idx → Elt F e) → Prog (TpuEff nD τ sig (Elt F) Λ₀ .tc) α} :
    (pt c (M.slice r hr) f : sProp 𝕄) ⊢ iprop((pt c (M.slice r hr) f -∗ WP c (k (M.view.readAt (Elt F) r.toLoadRect f)) Q)
      -∗ WP c (.op (.load M r.toLoadRect hld) k) Q) := by
  unfold pt
  exact wp_load 𝒱₀ (c : Thread nD τ) none Set.univ (m := M) (by show _ ⊆ (M.view.slice r).set; rw [View.set_slice]; exact Finset.Subset.refl _)

/-- A store through a slice that is held. -/
theorem st_slice (c : Dev nD) {s s' : Shape} {e : EltTy} {M : Memref sig .tc .vmem s e} {r : Rect s} (hr : ∀ a, r.stride a = 1) (hq : r.shape.Squeezes s')
    (hc : r.shape.ShapeCasts s') {f g : Buf (Elt F) (((M.slice r hr).squeeze s' hq).view.loc (c : Thread nD τ))} {w : r.shape.Idx → Elt F e}
    (h : shapeCast s' w hc = ((M.slice r hr).squeeze s' hq).view.read (Elt F) g)
    {hx : (M.access r).Stores Finset.univ} {hm : Finset.univ = Finset.univ ∨ ∀ a, r.stride a = 1}
    {α : Type} {Q : α → sProp 𝕄} {k : PUnit → Prog (TpuEff nD τ sig (Elt F) Λ₀ .tc) α} :
    (pt c ((M.slice r hr).squeeze s' hq) f : sProp 𝕄) ⊢ iprop((pt c ((M.slice r hr).squeeze s' hq) g -∗ WP c (k ⟨⟩) Q)
      -∗ WP c (.op (.store M r w Finset.univ hx hm) k) Q) := by
  have e : (pt c ((M.slice r hr).squeeze s' hq) g : sProp 𝕄)
      = pt c ((M.slice r hr).squeeze s' hq) ((M.access r).write (Elt F) f w Finset.univ) := by
    refine pt_congr c _ ?_
    rw [← h, Memref.read_squeeze_slice (hc := hc)]
    exact congrArg (fun v => shapeCast s' v hc) (View.read_write_univ (v := M.access r) f w).symm
  rw [e]
  unfold pt
  exact wp_store 𝒱₀ (c : Thread nD τ) none Set.univ (m := M) (r := r) (Mk := Finset.univ) (by rw [Memref.set_view_squeeze]; exact Finset.Subset.refl _)

/-- A load through a buffer held whole. -/
theorem ld_whole (c : Dev nD) {s : Shape} {e : EltTy} {M : Memref sig .tc .vmem s e} (hM : M.view.set = Finset.univ) {r : LoadRect s}
    {f : Buf (Elt F) (M.view.loc (c : Thread nD τ))} {hld : M.view.LoadsAt r}
    {α : Type} {Q : α → sProp 𝕄} {k : (r.shape.Idx → Elt F e) → Prog (TpuEff nD τ sig (Elt F) Λ₀ .tc) α} :
    (pt c M f : sProp 𝕄) ⊢ iprop((pt c M f -∗ WP c (k (M.view.readAt (Elt F) r f)) Q) -∗ WP c (.op (.load M r hld) k) Q) := by
  unfold pt
  exact wp_load 𝒱₀ (c : Thread nD τ) none Set.univ (m := M) (by rw [hM]; exact Finset.subset_univ _)

section KV
variable (c d n : Dev nD) (hn : n = d) (s : Fin 2) (hs : c = srcD s) (hne : d ≠ c) {κS κR : SemLoc sig}

theorem isSrc_srcD (s : Fin 2) : isSrc (srcD s) := by revert s; decide
theorem duty_kS (c d : Dev nD) (h : isSrc c) (hne : d ≠ c) : dutyF (c, .kS d) = {c} := if_pos ⟨h, hne⟩
theorem duty_vS (c d : Dev nD) (h : isSrc c) (hne : d ≠ c) : dutyF (c, .vS d) = {c} := if_pos ⟨h, hne⟩
theorem duty_kR (c : Dev nD) (s : Fin 2) (h : c ≠ srcD s) : dutyF (c, .kR s) = {srcD s} := if_pos h
theorem duty_vR (c : Dev nD) (s : Fin 2) (h : c ≠ srcD s) : dutyF (c, .vR s) = {srcD s} := if_pos h

include hn hs hne in
/-- A source device sends device `d` the heads of its keys that `d` needs, … -/
theorem k_snd (hS : κS = csem (.kS d)) (hR : κR = csem (.kR s)) {src dst : Memref sig .tc .vmem S2x128x4x64 .f32}
    (h1 : src = headsM kM d) (h2 : dst = slotM kbM s) (l : List Cell)
    {hsc : dst.view.ref.isScScratch = false} {hsrc : src.view.WordExact} {hdst : dst.view.WordExact}
    {hsem : DmaTarget.Typed .vmem κR (.remote (Dev.tc n : Thread nD τ) dst κS hsc)}
    {α : Type} {Q : α → sProp 𝕄} {k : PUnit → Prog (TpuEff nD τ sig (Elt F) Λ₀ .tc) α} :
    iprop(records m ρ K ∗ pt c (headsM kM d) (kst m ρ c) ∗ ptE d (slotM kbM s) ∗ ow c ((d, .kR s) :: l) ∗ tk (c, .kS d) c ∗ tk (d, .kR s) c)
      ⊢ iprop(((cr1 c (.kS d) ∗ ow c l) -∗ WP c (k ⟨⟩) Q)
          -∗ WP c (.op (.enqueueDma src (.remote (Dev.tc n : Thread nD τ) dst κS hsc) κR hsrc hdst hsem) k) Q) := by
  subst h1 h2 hR hS
  unfold ptE
  iintro ⟨#Hr, Hs, ⟨%fd, Hd⟩, HO, HtS, HtR⟩ Hk
  iapply (wp_snd m ρ K c d n hn (.kS d) (.kR s) rfl rfl (src := headsM kM d) (dst := slotM kbM s)
    (by rw [duty_kS c d (hs ▸ isSrc_srcD s) hne]; exact Finset.mem_singleton_self _)
    (by rw [duty_kR d s (hs ▸ hne), ← hs]; exact Finset.mem_singleton_self _)
    rfl rfl (kst m ρ c) fd (by dsimp only [payF]; unfold pt; exact Entails.rfl)
    (by
      dsimp only [payF]
      exact Entails.of_eq (pt_written d (slotM kbM s) (by rw [hs]; exact gath_k (kst m ρ) d s))) l) $$ [Hs Hd HO HtS HtR] [Hk]
  · isplitr; · iexact Hr
    isplitl [Hs]; · unfold pt; iexact Hs
    isplitl [Hd]; · iexact Hd
    isplitl [HO]; · iexact HO
    isplitl [HtS]; · unfold tk; iexact HtS
    unfold tk; iexact HtR
  · unfold cr1; iexact Hk

include hn hs hne in
/-- … and of its values. -/
theorem v_snd (hS : κS = csem (.vS d)) (hR : κR = csem (.vR s)) {src dst : Memref sig .tc .vmem S2x128x4x64 .f32}
    (h1 : src = headsM vM d) (h2 : dst = slotM vbM s) (l : List Cell)
    {hsc : dst.view.ref.isScScratch = false} {hsrc : src.view.WordExact} {hdst : dst.view.WordExact}
    {hsem : DmaTarget.Typed .vmem κR (.remote (Dev.tc n : Thread nD τ) dst κS hsc)}
    {α : Type} {Q : α → sProp 𝕄} {k : PUnit → Prog (TpuEff nD τ sig (Elt F) Λ₀ .tc) α} :
    iprop(records m ρ K ∗ pt c (headsM vM d) (vst m ρ c) ∗ ptE d (slotM vbM s) ∗ ow c ((d, .vR s) :: l) ∗ tk (c, .vS d) c ∗ tk (d, .vR s) c)
      ⊢ iprop(((cr1 c (.vS d) ∗ ow c l) -∗ WP c (k ⟨⟩) Q)
          -∗ WP c (.op (.enqueueDma src (.remote (Dev.tc n : Thread nD τ) dst κS hsc) κR hsrc hdst hsem) k) Q) := by
  subst h1 h2 hR hS
  unfold ptE
  iintro ⟨#Hr, Hs, ⟨%fd, Hd⟩, HO, HtS, HtR⟩ Hk
  iapply (wp_snd m ρ K c d n hn (.vS d) (.vR s) rfl rfl (src := headsM vM d) (dst := slotM vbM s)
    (by rw [duty_vS c d (hs ▸ isSrc_srcD s) hne]; exact Finset.mem_singleton_self _)
    (by rw [duty_vR d s (hs ▸ hne), ← hs]; exact Finset.mem_singleton_self _)
    rfl rfl (vst m ρ c) fd (by dsimp only [payF]; unfold pt; exact Entails.rfl)
    (by
      dsimp only [payF]
      exact Entails.of_eq (pt_written d (slotM vbM s) (by rw [hs]; exact gath_v (vst m ρ) d s))) l) $$ [Hs Hd HO HtS HtR] [Hk]
  · isplitr; · iexact Hr
    isplitl [Hs]; · unfold pt; iexact Hs
    isplitl [Hd]; · iexact Hd
    isplitl [HO]; · iexact HO
    isplitl [HtS]; · unfold tk; iexact HtS
    unfold tk; iexact HtR
  · unfold cr1; iexact Hk

end KV

section Rows
variable (c n : Dev nD) (o : Fin 3) (hn : n = fw c o) {κS κR : SemLoc sig}

include hn in
/-- A device sends the device `o + 1` places on its partial product of the rows that one reduces, … -/
theorem r_snd (hS : κS = csem (.rS o)) (hR : κR = csem (.rR o)) {src dst : Memref sig .tc .vmem S64x512 .f32}
    (h1 : src = pchM (fw c o)) (h2 : dst = rslM o) (l : List Cell)
    {hsc : dst.view.ref.isScScratch = false} {hsrc : src.view.WordExact} {hdst : dst.view.WordExact}
    {hsem : DmaTarget.Typed .vmem κR (.remote (Dev.tc n : Thread nD τ) dst κS hsc)}
    {α : Type} {Q : α → sProp 𝕄} {k : PUnit → Prog (TpuEff nD τ sig (Elt F) Λ₀ .tc) α} :
    iprop(records m ρ K ∗ pt c (pchM (fw c o)) (PW m ρ c) ∗ ptE (fw c o) (rslM o) ∗ ow c ((fw c o, .rR o) :: l) ∗ tk (c, .rS o) c ∗ tk (fw c o, .rR o) c)
      ⊢ iprop(((cr1 c (.rS o) ∗ ow c l) -∗ WP c (k ⟨⟩) Q)
          -∗ WP c (.op (.enqueueDma src (.remote (Dev.tc n : Thread nD τ) dst κS hsc) κR hsrc hdst hsem) k) Q) := by
  subst h1 h2 hR hS
  unfold ptE
  iintro ⟨#Hr, Hs, ⟨%fd, Hd⟩, HO, HtS, HtR⟩ Hk
  iapply (wp_snd m ρ K c (fw c o) n hn (.rS o) (.rR o) rfl rfl (src := pchM (fw c o)) (dst := rslM o)
    (Finset.mem_singleton_self c)
    (show c ∈ ({bk (fw c o) o} : Finset (Dev nD)) by rw [bk_fw]; exact Finset.mem_singleton_self _)
    rfl rfl (PW m ρ c) fd (by dsimp only [payF]; unfold pt; exact Entails.rfl)
    (by
      dsimp only [payF]
      exact Entails.of_eq (pt_written (fw c o) (rslM o) (part_r m ρ c o))) l) $$ [Hs Hd HO HtS HtR] [Hk]
  · isplitr; · iexact Hr
    isplitl [Hs]; · unfold pt; iexact Hs
    isplitl [Hd]; · iexact Hd
    isplitl [HO]; · iexact HO
    isplitl [HtS]; · unfold tk; iexact HtS
    unfold tk; iexact HtR
  · unfold cr1; iexact Hk

include hn in
/-- … and its reduced rows. -/
theorem a_snd (hS : κS = csem (.aS o)) (hR : κR = csem (.aR o)) {dst : Memref sig .tc .vmem S64x512 .f32}
    (h2 : dst = ochM c) (l : List Cell)
    {hsc : dst.view.ref.isScScratch = false} {hsrc : abM.view.WordExact} {hdst : dst.view.WordExact}
    {hsem : DmaTarget.Typed .vmem κR (.remote (Dev.tc n : Thread nD τ) dst κS hsc)}
    {α : Type} {Q : α → sProp 𝕄} {k : PUnit → Prog (TpuEff nD τ sig (Elt F) Λ₀ .tc) α} :
    iprop(records m ρ K ∗ (abM.view.loc (c : Thread nD τ) ↦[abM.view.set]{shr o} RED m ρ c) ∗ ptE (fw c o) (ochM c) ∗ ow c ((fw c o, .aR o) :: l)
        ∗ tk (c, .aS o) c ∗ tk (fw c o, .aR o) c)
      ⊢ iprop(((cr1 c (.aS o) ∗ ow c l) -∗ WP c (k ⟨⟩) Q)
          -∗ WP c (.op (.enqueueDma abM (.remote (Dev.tc n : Thread nD τ) dst κS hsc) κR hsrc hdst hsem) k) Q) := by
  subst h2 hR hS
  unfold ptE
  iintro ⟨#Hr, Hs, ⟨%fd, Hd⟩, HO, HtS, HtR⟩ Hk
  iapply (wp_snd m ρ K c (fw c o) n hn (.aS o) (.aR o) rfl rfl (src := abM) (dst := ochM c)
    (Finset.mem_singleton_self c)
    (show c ∈ ({bk (fw c o) o} : Finset (Dev nD)) by rw [bk_fw]; exact Finset.mem_singleton_self _)
    rfl rfl (q := shr o) (RED m ρ c) fd (by dsimp only [payF]; exact Entails.rfl)
    (by
      dsimp only [payF]
      rw [bk_fw]
      exact Entails.of_eq (pt_written (fw c o) (ochM c) (out_r m ρ c))) l) $$ [Hs Hd HO HtS HtR] [Hk]
  · isplitr; · iexact Hr
    isplitl [Hs]; · iexact Hs
    isplitl [Hd]; · iexact Hd
    isplitl [HO]; · iexact HO
    isplitl [HtS]; · unfold tk; iexact HtS
    unfold tk; iexact HtR
  · unfold cr1; iexact Hk

end Rows

end Cert.KernelProof

end
-- ==== Proof.Body.lean ====
/-
The kernel's body, phase by phase: the handshake, the sending of the keys and values, the local attention, the exchange
of the partial products and that of the reduced rows.
-/
module

public import proofs.«01_k».proof.Proof.Ops

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Cell → ℕ)

/-- A piece of the kernel's body, at the kernel's buffers and semaphores. -/
abbrev ap {β : Type 1} (f : (a0 : Memref sig .tc .vmem S2x128x512 .f32) → a0.IsWhole → (a1 : Memref sig .tc .vmem S512x256 .f32) → a1.IsWhole → (a2 : Memref sig .tc .vmem S2x128x16x64 .f32) → a2.IsWhole → (a3 : Memref sig .tc .vmem S2x128x16x64 .f32) → a3.IsWhole → (a4 : Memref sig .tc .vmem S256x512 .f32) → a4.IsWhole → (a5 : Memref sig .tc .vmem S2x128x512 .f32) → a5.IsWhole → (a6 : Memref sig .tc .vmem S2x2x128x4x64 .f32) → a6.IsWhole → (a7 : Memref sig .tc .vmem S2x2x128x4x64 .f32) → a7.IsWhole → (a8 : Memref sig .tc .vmem S4x64x512 .f32) → a8.IsWhole → (a9 : Memref sig .tc .vmem S3x64x512 .f32) → a9.IsWhole → (a10 : Memref sig .tc .vmem S64x512 .f32) → a10.IsWhole → DmaSems sig S4x2 → DmaSems sig S2x2 → DmaSems sig S3 → DmaSems sig S3 → DmaSems sig S3 → DmaSems sig S3 → β) : β :=
  f xM (Memref.isWhole_whole _) wqM (Memref.isWhole_whole _) kM (Memref.isWhole_whole _) vM (Memref.isWhole_whole _) woM (Memref.isWhole_whole _) oM (Memref.isWhole_whole _) kbM (Memref.isWhole_whole _) vbM (Memref.isWhole_whole _) pwM (Memref.isWhole_whole _) rbM (Memref.isWhole_whole _) abM (Memref.isWhole_whole _) cc0_scratch5 cc0_scratch6 cc0_scratch7 cc0_scratch8 cc0_scratch9 cc0_scratch10

theorem wp_fin {α : Type} (c : Dev nD) (a : α) {Q : α → sProp 𝕄} : Q a ⊢ WP c (Prog.ret a) Q := by
  unfold WP; rw [wp_ret]; iintro H; imodintro; iexact H

/-- `ld_slice` for a slice given by name. -/
theorem ld_at (c : Dev nD) {s s' : Shape} {e : EltTy} {M : Memref sig .tc .vmem s e} (S : Memref sig .tc .vmem s' e) {r : Rect s} (hr : ∀ a, r.stride a = 1)
    (hq : r.shape.Squeezes s') (hS : S = (M.slice r hr).squeeze s' hq)
    {f : Buf (Elt F) (S.view.loc (c : Thread nD τ))} {hld : M.view.LoadsAt r.toLoadRect}
    {α : Type} {Q : α → sProp 𝕄} {k : (r.toLoadRect.shape.Idx → Elt F e) → Prog (TpuEff nD τ sig (Elt F) Λ₀ .tc) α} :
    (pt c S f : sProp 𝕄) ⊢ iprop((∀ v, ⌜∀ hc : r.shape.ShapeCasts s', shapeCast s' v hc = S.view.read (Elt F) f⌝ -∗ pt c S f -∗ WP c (k v) Q)
      -∗ WP c (.op (.load M r.toLoadRect hld) k) Q) := by
  subst hS
  iintro H HQ
  iapply (ld_slice c hr hq) $$ H; iintro H
  iapply HQ $$ %_ %(fun hc => (Memref.read_squeeze_slice (hc := hc) ..).symm) H

/-- `st_slice` for a slice given by name. -/
theorem st_at (c : Dev nD) {s s' : Shape} {e : EltTy} {M : Memref sig .tc .vmem s e} (S : Memref sig .tc .vmem s' e) {r : Rect s} (hr : ∀ a, r.stride a = 1)
    (hq : r.shape.Squeezes s') (hS : S = (M.slice r hr).squeeze s' hq) (hc : r.shape.ShapeCasts s')
    {f g : Buf (Elt F) (S.view.loc (c : Thread nD τ))} {w : r.shape.Idx → Elt F e} (h : shapeCast s' w hc = S.view.read (Elt F) g)
    {hx : (M.access r).Stores Finset.univ} {hm : Finset.univ = Finset.univ ∨ ∀ a, r.stride a = 1}
    {α : Type} {Q : α → sProp 𝕄} {k : PUnit → Prog (TpuEff nD τ sig (Elt F) Λ₀ .tc) α} :
    (pt c S f : sProp 𝕄) ⊢ iprop((pt c S g -∗ WP c (k ⟨⟩) Q) -∗ WP c (.op (.store M r w Finset.univ hx hm) k) Q) := by
  subst hS
  exact st_slice c hr hq hc h

theorem src0 : (0 : Dev nD) = srcD 0 := by decide
theorem src2 : (2 : Dev nD) = srcD 1 := by decide

/-- What a source device needs to send device `d` its heads, slot `s` there: the two slots and the four duties' tokens. -/
def kvTok (c : Dev nD) (s : Fin 2) (d : Dev nD) : sProp 𝕄 := iprop(tk (c, .kS d) c ∗ tk (d, .kR s) c ∗ tk (c, .vS d) c ∗ tk (d, .vR s) c)
def kvPiece (c : Dev nD) (s : Fin 2) (d : Dev nD) : sProp 𝕄 := iprop(ptE d (slotM kbM s) ∗ ptE d (slotM vbM s) ∗ kvTok c s d)
/-- What the two transfers leave it. -/
def kvSent (c d : Dev nD) : sProp 𝕄 := iprop(cr1 c (.kS d) ∗ cr1 c (.vS d))

theorem kv_pair (c d n n' : Dev nD) (hn : n = d) (hn' : n' = d) (s : Fin 2) (hs : c = srcD s) (hne : d ≠ c) {κS κR κS' κR' : SemLoc sig}
    (hS : κS = csem (.kS d)) (hR : κR = csem (.kR s)) (hS' : κS' = csem (.vS d)) (hR' : κR' = csem (.vR s))
    {src dst src' dst' : Memref sig .tc .vmem S2x128x4x64 .f32}
    (h1 : src = headsM kM d) (h2 : dst = slotM kbM s) (h1' : src' = headsM vM d) (h2' : dst' = slotM vbM s) (l : List Cell)
    {hsc : dst.view.ref.isScScratch = false} {hsrc : src.view.WordExact} {hdst : dst.view.WordExact}
    {hsem : DmaTarget.Typed .vmem κR (.remote (Dev.tc n : Thread nD τ) dst κS hsc)}
    {hsc' : dst'.view.ref.isScScratch = false} {hsrc' : src'.view.WordExact} {hdst' : dst'.view.WordExact}
    {hsem' : DmaTarget.Typed .vmem κR' (.remote (Dev.tc n' : Thread nD τ) dst' κS' hsc')}
    {α : Type} {Q : α → sProp 𝕄} {k : PUnit → Prog (TpuEff nD τ sig (Elt F) Λ₀ .tc) α} :
    iprop(records m ρ K ∗ pt c (headsM kM d) (kst m ρ c) ∗ pt c (headsM vM d) (vst m ρ c) ∗ kvPiece c s d ∗ ow c ((d, .kR s) :: (d, .vR s) :: l))
      ⊢ iprop(((kvSent c d ∗ ow c l) -∗ WP c (k ⟨⟩) Q)
          -∗ WP c (.op (.enqueueDma src (.remote (Dev.tc n : Thread nD τ) dst κS hsc) κR hsrc hdst hsem) fun _ =>
                   .op (.enqueueDma src' (.remote (Dev.tc n' : Thread nD τ) dst' κS' hsc') κR' hsrc' hdst' hsem') k) Q) := by
  unfold kvPiece kvTok kvSent
  iintro ⟨#Hr, Hk, Hv, ⟨Hdk, Hdv, T1, T2, T3, T4⟩, HO⟩ HQ
  iapply (k_snd m ρ K c d _ hn s hs hne hS hR h1 h2 _) $$ [Hk Hdk HO T1 T2]
  · isplitr; · iexact Hr
    isplitl [Hk]; · iexact Hk
    isplitl [Hdk]; · iexact Hdk
    isplitl [HO]; · iexact HO
    isplitl [T1] <;> iassumption
  iintro ⟨C1, HO⟩
  iapply (v_snd m ρ K c d _ hn' s hs hne hS' hR' h1' h2' _) $$ [Hv Hdv HO T3 T4]
  · isplitr; · iexact Hr
    isplitl [Hv]; · iexact Hv
    isplitl [Hdv]; · iexact Hdv
    isplitl [HO]; · iexact HO
    isplitl [T3] <;> iassumption
  iintro ⟨C2, HO⟩
  iapply HQ
  isplitl [C1 C2]; · isplitl [C1] <;> iassumption
  iexact HO

/-- The loads of the activations and the projection weights. -/
theorem q_loads (c : Dev nD) {h1 h2 h3 h4} {α : Type} {Q : α → sProp 𝕄}
    {k : Vec F S1x128x512 .f32 → Vec F S512x256 .f32 → Vec F S1x128x512 .f32 → Vec F S512x256 .f32 → Prog (TpuEff nD τ sig (Elt F) Λ₀ .tc) α} :
    iprop(pt c xM (xst m ρ c) ∗ pt c wqM (wqst m ρ c))
      ⊢ iprop(((pt c xM (xst m ρ c) ∗ pt c wqM (wqst m ρ c)) -∗ WP c (k (xld (xst m ρ c) 0) (wqld (wqst m ρ c)) (xld (xst m ρ c) 1) (wqld (wqst m ρ c))) Q)
        -∗ WP c (.op (.load xM (Rect.unit (s := S2x128x512) ![0, 0, 0] S1x128x512.size inb_S2x128x512_S1x128x512_0_0_0).toLoadRect h1) fun a =>
            .op (.load wqM (Rect.unit (s := S512x256) ![0, 0] S512x256.size inb_S512x256_S512x256_0_0).toLoadRect h2) fun b =>
            .op (.load xM (Rect.unit (s := S2x128x512) ![1, 0, 0] S1x128x512.size inb_S2x128x512_S1x128x512_1_0_0).toLoadRect h3) fun a' =>
            .op (.load wqM (Rect.unit (s := S512x256) ![0, 0] S512x256.size inb_S512x256_S512x256_0_0).toLoadRect h4) fun b' => k a b a' b') Q) := by
  iintro ⟨Hx, Hw⟩ HQ
  iapply (ld_whole c (M := xM) (View.set_whole _)) $$ Hx; iintro Hx
  iapply (ld_whole c (M := wqM) (View.set_whole _)) $$ Hw; iintro Hw
  iapply (ld_whole c (M := xM) (View.set_whole _)) $$ Hx; iintro Hx
  iapply (ld_whole c (M := wqM) (View.set_whole _)) $$ Hw; iintro Hw
  iapply HQ
  isplitl [Hx] <;> iassumption

/-- A device's copy of its own heads into its slot. -/
theorem copy_own (c : Dev nD) (M : Memref sig .tc .vmem S2x128x16x64 .f32) (B : Memref sig .tc .vmem S2x2x128x4x64 .f32) (d : Dev nD) (s : Fin 2)
    {off : Fin 4 → ℕ} {hoff : ∀ a, off a + S2x128x4x64.size a ≤ S2x128x16x64.size a} (ho : off = ![0, 0, 4 * d.val, 0])
    {off' : Fin 5 → ℕ} {hoff' : ∀ a, off' a + S1x2x128x4x64.size a ≤ S2x2x128x4x64.size a} (ho' : off' = ![s.val, 0, 0, 0, 0])
    {f : Buf (Elt F) ((headsM M d).view.loc (c : Thread nD τ))} (g : Buf (Elt F) ((slotM B s).view.loc (c : Thread nD τ)))
    (hg : (headsM M d).view.read (Elt F) f = (slotM B s).view.read (Elt F) g)
    (py : Vec F S2x128x4x64 .f32 → FVec F S1x2x128x4x64 .f32) (hp : ∀ v, shapeCast S2x128x4x64 (py v) (by decide) = v)
    {h1 h2 h3 h4} {α : Type} {Q : α → sProp 𝕄} {k : PUnit → Prog (TpuEff nD τ sig (Elt F) Λ₀ .tc) α} :
    iprop(pt c (headsM M d) f ∗ ptE c (slotM B s))
      ⊢ iprop(((pt c (headsM M d) f ∗ pt c (slotM B s) g) -∗ WP c (k ⟨⟩) Q)
        -∗ WP c (.op (.load M (Rect.unit (s := S2x128x16x64) off S2x128x4x64.size hoff).toLoadRect h1) fun a =>
            .op (.load B (Rect.unit (s := S2x2x128x4x64) off' S1x2x128x4x64.size hoff').toLoadRect h2) fun _ =>
            .op (.store B (Rect.unit (s := S2x2x128x4x64) off' S1x2x128x4x64.size hoff') (py a) Finset.univ h3 h4) k) Q) := by
  subst ho ho'
  unfold ptE
  iintro ⟨Hk, %f', Hs⟩ HQ
  iapply (ld_part c (M := M) (fun _ => rfl)) $$ Hk; iintro Hk
  iapply (ld_slice c (M := B) (fun _ => rfl) squeezes_S1x2x128x4x64_S2x128x4x64) $$ Hs; iintro Hs
  iapply (st_slice c (M := B) (fun _ => rfl) squeezes_S1x2x128x4x64_S2x128x4x64 (by decide : S1x2x128x4x64.ShapeCasts S2x128x4x64) (g := g)
    ((hp _).trans hg)) $$ Hs; iintro Hs
  iapply HQ
  isplitl [Hk] <;> iassumption

/-! ## The handshake and the sending of the keys and values -/

/-- The device's own number, as the kernel computes it. -/
abbrev w2 (c : Dev nD) : BitVec 32 := Scalar.remsi (Scalar.divsi (Dev.word c) 1#32) 4#32

/-- What the signal to the device `o + 1` places on needs. -/
def gv (c : Dev nD) (o : Fin 3) : sProp 𝕄 := iprop(tk (fw c o, .bar) c ∗ barPay (fw c o) c)
/-- What the wait on the barrier gains from it: where to write there. -/
def got (c : Dev nD) (o : Fin 3) : sProp 𝕄 := iprop(ptE (fw c o) (rslM o) ∗ ptE (fw c o) (ochM c))

theorem dev1_eq : ∀ c : Dev nD, (⟨k0_dev1 c, k0_dev1_lt c⟩ : Dev nD) = fw c 0 := by decide +kernel
theorem dev2_eq : ∀ c : Dev nD, (⟨k0_dev2 c, k0_dev2_lt c⟩ : Dev nD) = fw c 1 := by decide +kernel
theorem dev3_eq : ∀ c : Dev nD, (⟨k0_dev3 c, k0_dev3_lt c⟩ : Dev nD) = fw c 2 := by decide +kernel
theorem mem_bar : ∀ (c : Dev nD) (o : Fin 3), c ∈ dutyF (fw c o, .bar) := by decide
theorem univ_erase : ∀ c : Dev nD, Finset.univ.erase c = [fw c 0, fw c 1, fw c 2].toFinset := by decide
theorem nodup_fw : ∀ c : Dev nD, [fw c 0, fw c 1, fw c 2].Nodup := by decide

theorem part11 (c : Dev nD) (l : List Cell) {Q : _ → sProp 𝕄} :
    iprop(records m ρ K ∗ ow c ((fw c 0, .bar) :: (fw c 1, .bar) :: l) ∗ gv c 0 ∗ gv c 1)
      ⊢ iprop((ow c l -∗ Q ⟨c, w2 c, SemArray.scalar (sig.barrier 0 rfl), Scalar.addi (w2 c) 3#32, 4#32, Scalar.cmpi .eq 4#32 0#32⟩)
        -∗ WP c (ap (k0_part11 (F := F))) Q) := by
  unfold gv
  iintro ⟨#Hr, HO, ⟨T0, G0⟩, ⟨T1, G1⟩⟩ HQ
  simp only [ap, k0_part11_eq_skeleton]; unfold k0_part11_skel
  simp only [semSignalWord, Prog.lift, Prog.bind_op, Prog.bind_ret, Prog.pure_eq_ret, wp_deviceId, tk]
  iapply (wp_sig m ρ K c (fw c 0) _ (dev1_eq c) (mem_bar c 0) rfl _) $$ [HO T0 G0]
  · isplitr; · iexact Hr
    isplitl [HO]; · iexact HO
    isplitl [T0] <;> iassumption
  iintro HO
  iapply (wp_sig m ρ K c (fw c 1) _ (dev2_eq c) (mem_bar c 1) rfl _) $$ [HO T1 G1]
  · isplitr; · iexact Hr
    isplitl [HO]; · iexact HO
    isplitl [T1] <;> iassumption
  iintro HO
  iapply wp_fin
  iapply HQ; iexact HO

/-- The tokens for the transfers of the keys and values. -/
def kvT (c : Dev nD) : sProp 𝕄 :=
  if c = 0 then iprop(kvTok 0 0 1 ∗ kvTok 0 0 2 ∗ kvTok 0 0 3)
  else if c = 2 then iprop(kvTok 2 1 0 ∗ kvTok 2 1 1 ∗ kvTok 2 1 3) else iprop(emp)
/-- The keys and values once the transfers are under way: what a source keeps, and its credits. -/
def kvKeep (c : Dev nD) : sProp 𝕄 :=
  if c = 0 then iprop(pt 0 (headsM kM 0) (kst m ρ 0) ∗ pt 0 (headsM vM 0) (vst m ρ 0) ∗ kvSent 0 1 ∗ kvSent 0 2 ∗ kvSent 0 3)
  else if c = 2 then iprop(pt 2 (headsM kM 2) (kst m ρ 2) ∗ pt 2 (headsM vM 2) (vst m ρ 2) ∗ kvSent 2 0 ∗ kvSent 2 1 ∗ kvSent 2 3)
  else iprop(pt c kM (kst m ρ c) ∗ pt c vM (vst m ρ c))
/-- A source's own slot, filled. -/
def kvOwn (c : Dev nD) : sProp 𝕄 :=
  if c = 0 then iprop(pt 0 (slotM kbM 0) (KB m ρ 0) ∗ pt 0 (slotM vbM 0) (VB m ρ 0))
  else if c = 2 then iprop(pt 2 (slotM kbM 1) (KB m ρ 2) ∗ pt 2 (slotM vbM 1) (VB m ρ 2)) else iprop(emp)

/-- What the barrier wait takes. -/
def barIn (c : Dev nD) : sProp 𝕄 := iprop(cred (tallyAt (kcell (c, .bar)) () 3) ∗ at0 c .bar)

theorem cond1_iff : ∀ c : Dev nD, k0_cond1 c = 1#1 ↔ c = 0 := by decide +kernel
theorem cond2_iff : ∀ c : Dev nD, k0_cond2 c = 1#1 ↔ c = 2 := by decide +kernel
theorem bar_low : ∀ c : Dev nD, ∀ x ∈ payKV c ++ (payR c ++ payA c), lvK .bar < lvK x.2 := by decide
theorem card_bar : ∀ c : Dev nD, (dutyF (c, .bar)).card * amtF .bar = 3 := by decide

/-- The signal to the last device and the wait for all of them. -/
theorem meet (c : Dev nD) {n : Dev nD} (hn : n = fw c 2) {α : Type} {Q : α → sProp 𝕄} {k : PUnit → Prog (TpuEff nD τ sig (Elt F) Λ₀ .tc) α} :
    iprop(records m ρ K ∗ levAts L lv ∗ ow c ((fw c 2, .bar) :: (payKV c ++ (payR c ++ payA c))) ∗ gv c 2 ∗ barIn c)
      ⊢ iprop(((ow c (payKV c ++ (payR c ++ payA c)) ∗ z0 c .bar ∗ (got c 0 ∗ kvGive (fw c 0) c) ∗ (got c 1 ∗ kvGive (fw c 1) c) ∗ (got c 2 ∗ kvGive (fw c 2) c))
            -∗ WP c (k ⟨⟩) Q)
        -∗ WP c (.op (.semSignal (n : Thread nD τ) barS 1) fun _ => .op (.semWait barS 3) k) Q) := by
  unfold gv barIn tk at0 z0
  iintro ⟨#Hr, #Hl, HO, ⟨T0, G0⟩, Hc, Ha⟩ HQ
  iapply (wp_sig m ρ K c (fw c 2) _ hn (mem_bar c 2) rfl _) $$ [HO T0 G0]
  · isplitr; · iexact Hr
    isplitl [HO]; · iexact HO
    isplitl [T0] <;> iassumption
  iintro HO
  iapply (wp_wt m ρ K c .bar (w := .semWait barS 3) (k' := 3) (fun _ => rfl) (card_bar c).symm _ (bar_low c)) $$ [HO Hc Ha]
  · isplitr; · iexact Hr
    isplitr; · iexact Hl
    isplitl [Hc]; · rw [card_bar]; iexact Hc
    isplitl [HO] <;> iassumption
  have e : bigSep (dutyF (c, .bar)) (fun d => payF m ρ (c, .bar) d)
      = iprop((got c 0 ∗ kvGive (fw c 0) c) ∗ (got c 1 ∗ kvGive (fw c 1) c) ∗ (got c 2 ∗ kvGive (fw c 2) c)) := by
    show bigSep (Finset.univ.erase c) (fun d => barPay c d) = _
    rw [bigSep_eq_bigSepL_of_eq _ (univ_erase c) (nodup_fw c)]
    have h (o : Fin 3) : (barPay c (fw c o) : sProp 𝕄) = iprop(got c o ∗ kvGive (fw c o) c) := by
      unfold barPay got; rw [dif_fw]; exact Entails.antisymm BI.sep_assoc' BI.sep_assoc
    rw [← h, ← h, ← h]; rfl
  rw [e]
  iintro ⟨HO, Hz, HG⟩
  iapply HQ
  isplitl [HO]; · iexact HO
  isplitl [Hz] <;> iassumption

theorem payKV_0 : payKV 0 = [(1, .kR 0), (1, .vR 0), (2, .kR 0), (2, .vR 0), (3, .kR 0), (3, .vR 0)] := rfl
theorem payKV_2 : payKV 2 = [(0, .kR 1), (0, .vR 1), (1, .kR 1), (1, .vR 1), (3, .kR 1), (3, .vR 1)] := rfl
theorem kvGive_0 (c : Dev nD) : (kvGive c 0 : sProp 𝕄) = iprop(ptE c (slotM kbM 0) ∗ ptE c (slotM vbM 0)) := if_pos rfl
theorem kvGive_2 (c : Dev nD) : (kvGive c 2 : sProp 𝕄) = iprop(ptE c (slotM kbM 1) ∗ ptE c (slotM vbM 1)) := (if_neg (by decide)).trans (if_pos rfl)
theorem kvGive_ne (c d : Dev nD) (h0 : d ≠ 0) (h2 : d ≠ 2) : (kvGive c d : sProp 𝕄) = iprop(emp) := (if_neg h0).trans (if_neg h2)
theorem kvT_0 : (kvT 0 : sProp 𝕄) = iprop(kvTok 0 0 1 ∗ kvTok 0 0 2 ∗ kvTok 0 0 3) := if_pos rfl
theorem kvT_2 : (kvT 2 : sProp 𝕄) = iprop(kvTok 2 1 0 ∗ kvTok 2 1 1 ∗ kvTok 2 1 3) := (if_neg (by decide)).trans (if_pos rfl)
theorem kvKeep_0 : kvKeep m ρ 0
    = iprop(pt 0 (headsM kM 0) (kst m ρ 0) ∗ pt 0 (headsM vM 0) (vst m ρ 0) ∗ kvSent 0 1 ∗ kvSent 0 2 ∗ kvSent 0 3) := if_pos rfl
theorem kvKeep_2 : kvKeep m ρ 2
    = iprop(pt 2 (headsM kM 2) (kst m ρ 2) ∗ pt 2 (headsM vM 2) (vst m ρ 2) ∗ kvSent 2 0 ∗ kvSent 2 1 ∗ kvSent 2 3) := (if_neg (by decide)).trans (if_pos rfl)
theorem kvKeep_ne (c : Dev nD) (h0 : c ≠ 0) (h2 : c ≠ 2) : kvKeep m ρ c = iprop(pt c kM (kst m ρ c) ∗ pt c vM (vst m ρ c)) := (if_neg h0).trans (if_neg h2)
theorem kvOwn_0 : kvOwn m ρ 0 = iprop(pt 0 (slotM kbM 0) (KB m ρ 0) ∗ pt 0 (slotM vbM 0) (VB m ρ 0)) := if_pos rfl
theorem kvOwn_2 : kvOwn m ρ 2 = iprop(pt 2 (slotM kbM 1) (KB m ρ 2) ∗ pt 2 (slotM vbM 1) (VB m ρ 2)) := (if_neg (by decide)).trans (if_pos rfl)
theorem kvOwn_ne (c : Dev nD) (h0 : c ≠ 0) (h2 : c ≠ 2) : kvOwn m ρ c = iprop(emp) := (if_neg h0).trans (if_neg h2)

theorem pieces0 : iprop(kvGive (fw 0 0) 0 ∗ kvGive (fw 0 1) 0 ∗ kvGive (fw 0 2) 0 ∗ kvT 0) ⊢ (iprop(kvPiece 0 0 1 ∗ kvPiece 0 0 2 ∗ kvPiece 0 0 3) : sProp 𝕄) := by
  rw [show fw 0 0 = 1 from by decide, show fw 0 1 = 2 from by decide, show fw 0 2 = 3 from by decide]
  rw [kvGive_0, kvGive_0, kvGive_0, kvT_0]
  unfold kvPiece
  iintro ⟨⟨A, B⟩, ⟨C, D⟩, ⟨E, G⟩, T1, T2, T3⟩
  isplitl [A B T1]; · isplitl [A]; · iexact A
                      isplitl [B] <;> iassumption
  isplitl [C D T2]; · isplitl [C]; · iexact C
                      isplitl [D] <;> iassumption
  isplitl [E]; · iexact E
  isplitl [G] <;> iassumption

theorem pieces2 : iprop(kvGive (fw 2 0) 2 ∗ kvGive (fw 2 1) 2 ∗ kvGive (fw 2 2) 2 ∗ kvT 2) ⊢ (iprop(kvPiece 2 1 0 ∗ kvPiece 2 1 1 ∗ kvPiece 2 1 3) : sProp 𝕄) := by
  rw [show fw 2 0 = 3 from by decide, show fw 2 1 = 0 from by decide, show fw 2 2 = 1 from by decide]
  rw [kvGive_2, kvGive_2, kvGive_2, kvT_2]
  unfold kvPiece
  iintro ⟨⟨A, B⟩, ⟨C, D⟩, ⟨E, G⟩, T1, T2, T3⟩
  isplitl [C D T1]; · isplitl [C]; · iexact C
                      isplitl [D] <;> iassumption
  isplitl [E G T2]; · isplitl [E]; · iexact E
                      isplitl [G] <;> iassumption
  isplitl [A]; · iexact A
  isplitl [B] <;> iassumption

/-- What the sending phase starts from. -/
def kvIn (c : Dev nD) : sProp 𝕄 := iprop(pt c kM (kst m ρ c) ∗ pt c vM (vst m ρ c) ∗ kvGive c c ∗ kvT c)

theorem part12 (c : Dev nD) (v30 v32 : BitVec 32) (v31 : BitVec 1) {Q : _ → sProp 𝕄} :
    iprop(records m ρ K ∗ levAts L lv ∗ ow c ((fw c 2, .bar) :: (payKV c ++ (payR c ++ payA c))) ∗ gv c 2 ∗ barIn c
        ∗ (pt c xM (xst m ρ c) ∗ pt c wqM (wqst m ρ c)) ∗ kvIn m ρ c)
      ⊢ iprop(((ow c (payR c ++ payA c) ∗ z0 c .bar ∗ got c 0 ∗ got c 1 ∗ got c 2 ∗ (pt c xM (xst m ρ c) ∗ pt c wqM (wqst m ρ c))
              ∗ kvKeep m ρ c ∗ kvOwn m ρ c)
            -∗ Q ⟨qF m ρ c 0, qF m ρ c 1, Scalar.extui (Scalar.cmpi .ne (w2 c) 0#32), 0#32⟩)
        -∗ WP c (ap (k0_part12 (F := F)) c (w2 c) (SemArray.scalar (sig.barrier 0 rfl)) v30 v32 v31) Q) := by
  unfold kvIn
  rw [show qF m ρ c 0 = k0_pay7 (xld (xst m ρ c) 0) (wqld (wqst m ρ c)) from rfl, show qF m ρ c 1 = k0_pay8 (xld (xst m ρ c) 1) (wqld (wqst m ρ c)) from rfl]
  iintro ⟨#Hr, #Hl, HO, G2, HB, Hq, Hk, Hv, Hg, Ht⟩ HQ
  simp only [ap, k0_part12_eq_skeleton]; unfold k0_part12_skel
  simp only [semSignalWord, semWaitWord, Prog.lift, Prog.bind_op, Prog.bind_ret, Prog.pure_eq_ret]
  iapply (meet m ρ K c (dev3_eq c)) $$ [HO G2 HB]
  · isplitr; · iexact Hr
    isplitr; · iexact Hl
    isplitl [HO]; · iexact HO
    isplitl [G2] <;> iassumption
  iintro ⟨HO, Hz, ⟨g0, v0⟩, ⟨g1, v1⟩, ⟨g2, v2⟩⟩
  by_cases h0 : c = 0
  · subst h0
    rw [dif_pos ((cond1_iff 0).2 rfl), dif_neg (fun h => absurd ((cond2_iff 0).1 h) (by decide))]
    simp only [k0_part1_eq_skeleton, k0_part2_eq_skeleton, k0_part3_eq_skeleton, k0_part1_skel, k0_part2_skel, k0_part3_skel,
      Prog.lift, Prog.bind_op, Prog.bind_ret, Prog.pure_eq_ret]
    simp only [payKV_0, List.cons_append, List.nil_append]
    ihave Hp := (pieces0 (F := F)) $$ [v0 v1 v2 Ht]
    · isplitl [v0]; · iexact v0
      isplitl [v1]; · iexact v1
      isplitl [v2] <;> iassumption
    icases Hp with ⟨P1, P2, P3⟩
    ihave Hk := (Entails.of_eq ((k_heads_all _ _).trans (bigSep_devs _))) $$ Hk
    ihave Hv := (Entails.of_eq ((v_heads_all _ _).trans (bigSep_devs _))) $$ Hv
    icases Hk with ⟨K0, K1, K2, K3⟩
    icases Hv with ⟨V0, V1, V2, V3⟩
    iapply (kv_pair m ρ K 0 1 _ _ (Fin.ext k0_dev4_eq) (Fin.ext k0_dev5_eq) 0 src0 (by decide) rfl rfl rfl rfl rfl rfl rfl rfl _) $$ [K1 V1 P1 HO]
    · isplitr; · iexact Hr
      isplitl [K1]; · iexact K1
      isplitl [V1]; · iexact V1
      isplitl [P1] <;> iassumption
    iintro ⟨S1, HO⟩
    iapply (kv_pair m ρ K 0 2 _ _ (Fin.ext k0_dev6_eq) (Fin.ext k0_dev7_eq) 0 src0 (by decide) rfl rfl rfl rfl rfl rfl rfl rfl _) $$ [K2 V2 P2 HO]
    · isplitr; · iexact Hr
      isplitl [K2]; · iexact K2
      isplitl [V2]; · iexact V2
      isplitl [P2] <;> iassumption
    iintro ⟨S2, HO⟩
    iapply (kv_pair m ρ K 0 3 _ _ (Fin.ext k0_dev8_eq) (Fin.ext k0_dev9_eq) 0 src0 (by decide) rfl rfl rfl rfl rfl rfl rfl rfl _) $$ [K3 V3 P3 HO]
    · isplitr; · iexact Hr
      isplitl [K3]; · iexact K3
      isplitl [V3]; · iexact V3
      isplitl [P3] <;> iassumption
    iintro ⟨S3, HO⟩
    ihave Hg := (Entails.of_eq (kvGive_0 0)) $$ Hg
    icases Hg with ⟨O1, O2⟩
    iapply (copy_own 0 kM kbM 0 0 rfl rfl (f := kst m ρ 0) (KB m ρ 0) (gath_k (kst m ρ) _ 0) k0_pay1
      (fun v => (shapeCast_shapeCast _ _ _).trans (shapeCast_self _ _))) $$ [K0 O1]
    · isplitl [K0] <;> iassumption
    iintro ⟨K0, O1⟩
    iapply (copy_own 0 vM vbM 0 0 rfl rfl (f := vst m ρ 0) (VB m ρ 0) (gath_v (vst m ρ) _ 0) (fun v => k0_pay5 (k0_pay2 v))
      (fun v => (shapeCast_shapeCast _ _ _).trans (shapeCast_self _ _))) $$ [V0 O2]
    · isplitl [V0] <;> iassumption
    iintro ⟨V0, O2⟩
    iapply (q_loads m ρ 0) $$ Hq
    iintro Hq
    iapply wp_fin
    iapply HQ
    isplitl [HO]; · iexact HO
    isplitl [Hz]; · iexact Hz
    isplitl [g0]; · iexact g0
    isplitl [g1]; · iexact g1
    isplitl [g2]; · iexact g2
    isplitl [Hq]; · iexact Hq
    isplitr [O1 O2]
    · iapply (Entails.of_eq (kvKeep_0 m ρ).symm)
      isplitl [K0]; · iexact K0
      isplitl [V0]; · iexact V0
      isplitl [S1]; · iexact S1
      isplitl [S2] <;> iassumption
    · iapply (Entails.of_eq (kvOwn_0 m ρ).symm)
      isplitl [O1] <;> iassumption
  by_cases h2 : c = 2
  · subst h2
    rw [dif_neg (fun h => absurd ((cond1_iff 2).1 h) (by decide)), dif_pos ((cond2_iff 2).2 rfl)]
    simp only [k0_part4_eq_skeleton, k0_part5_eq_skeleton, k0_part6_eq_skeleton, k0_part4_skel, k0_part5_skel, k0_part6_skel,
      Prog.lift, Prog.bind_op, Prog.bind_ret, Prog.pure_eq_ret]
    simp only [payKV_2, List.cons_append, List.nil_append]
    ihave Hp := (pieces2 (F := F)) $$ [v0 v1 v2 Ht]
    · isplitl [v0]; · iexact v0
      isplitl [v1]; · iexact v1
      isplitl [v2] <;> iassumption
    icases Hp with ⟨P1, P2, P3⟩
    ihave Hk := (Entails.of_eq ((k_heads_all _ _).trans (bigSep_devs _))) $$ Hk
    ihave Hv := (Entails.of_eq ((v_heads_all _ _).trans (bigSep_devs _))) $$ Hv
    icases Hk with ⟨K0, K1, K2, K3⟩
    icases Hv with ⟨V0, V1, V2, V3⟩
    iapply (kv_pair m ρ K 2 0 _ _ (Fin.ext k0_dev10_eq) (Fin.ext k0_dev11_eq) 1 src2 (by decide) rfl rfl rfl rfl rfl rfl rfl rfl _) $$ [K0 V0 P1 HO]
    · isplitr; · iexact Hr
      isplitl [K0]; · iexact K0
      isplitl [V0]; · iexact V0
      isplitl [P1] <;> iassumption
    iintro ⟨S1, HO⟩
    iapply (kv_pair m ρ K 2 1 _ _ (Fin.ext k0_dev12_eq) (Fin.ext k0_dev13_eq) 1 src2 (by decide) rfl rfl rfl rfl rfl rfl rfl rfl _) $$ [K1 V1 P2 HO]
    · isplitr; · iexact Hr
      isplitl [K1]; · iexact K1
      isplitl [V1]; · iexact V1
      isplitl [P2] <;> iassumption
    iintro ⟨S2, HO⟩
    iapply (kv_pair m ρ K 2 3 _ _ (Fin.ext k0_dev14_eq) (Fin.ext k0_dev15_eq) 1 src2 (by decide) rfl rfl rfl rfl rfl rfl rfl rfl _) $$ [K3 V3 P3 HO]
    · isplitr; · iexact Hr
      isplitl [K3]; · iexact K3
      isplitl [V3]; · iexact V3
      isplitl [P3] <;> iassumption
    iintro ⟨S3, HO⟩
    ihave Hg := (Entails.of_eq (kvGive_2 2)) $$ Hg
    icases Hg with ⟨O1, O2⟩
    iapply (copy_own 2 kM kbM 2 1 rfl rfl (f := kst m ρ 2) (KB m ρ 2) (gath_k (kst m ρ) _ 1) k0_pay3
      (fun v => (shapeCast_shapeCast _ _ _).trans (shapeCast_self _ _))) $$ [K2 O1]
    · isplitl [K2] <;> iassumption
    iintro ⟨K2, O1⟩
    iapply (copy_own 2 vM vbM 2 1 rfl rfl (f := vst m ρ 2) (VB m ρ 2) (gath_v (vst m ρ) _ 1) (fun v => k0_pay6 (k0_pay4 v))
      (fun v => (shapeCast_shapeCast _ _ _).trans (shapeCast_self _ _))) $$ [V2 O2]
    · isplitl [V2] <;> iassumption
    iintro ⟨V2, O2⟩
    iapply (q_loads m ρ 2) $$ Hq
    iintro Hq
    iapply wp_fin
    iapply HQ
    isplitl [HO]; · iexact HO
    isplitl [Hz]; · iexact Hz
    isplitl [g0]; · iexact g0
    isplitl [g1]; · iexact g1
    isplitl [g2]; · iexact g2
    isplitl [Hq]; · iexact Hq
    isplitr [O1 O2]
    · iapply (Entails.of_eq (kvKeep_2 m ρ).symm)
      isplitl [K2]; · iexact K2
      isplitl [V2]; · iexact V2
      isplitl [S1]; · iexact S1
      isplitl [S2] <;> iassumption
    · iapply (Entails.of_eq (kvOwn_2 m ρ).symm)
      isplitl [O1] <;> iassumption
  rw [dif_neg (fun h => h0 ((cond1_iff c).1 h)), dif_neg (fun h => h2 ((cond2_iff c).1 h))]
  rw [kvKeep_ne m ρ c h0 h2, kvOwn_ne m ρ c h0 h2, show payKV c = [] from (if_neg h0).trans (if_neg h2), List.nil_append]
  iapply (q_loads m ρ c) $$ Hq
  iintro Hq
  iapply wp_fin
  iapply HQ
  isplitl [HO]; · iexact HO
  isplitl [Hz]; · iexact Hz
  isplitl [g0]; · iexact g0
  isplitl [g1]; · iexact g1
  isplitl [g2]; · iexact g2
  isplitl [Hq]; · iexact Hq
  isplitl [Hk Hv]; · isplitl [Hk] <;> iassumption
  iempintro

end Cert.KernelProof

end
-- ==== Proof.Waits.lean ====
/-
The kernel's waits for the keys and values, before the local attention and at the end.
-/
module

public import proofs.«01_k».proof.Proof.Body

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Cell → ℕ)

/-- A wait on a transfer, paid by one device. -/
theorem wt_dma (c p : Dev nD) (k : CK) (hd : dutyF (c, k) = {p}) {s s' : Shape} {e e' : EltTy} {sem : DmaSem sig}
    {src : Memref sig .tc .vmem s' e'} {dst : Memref sig .tc .vmem s e} {hsrc : src.view.WordExact} {hdst : dst.view.WordExact}
    (hs : SemLoc.dma sem = csem k) (hk : dst.view.dmaCredit = amtF k) (l : List Cell) (hl : ∀ x ∈ l, lvK k < lvK x.2)
    {α : Type} {Q : α → sProp 𝕄} {kk : PUnit → Prog (TpuEff nD τ sig (Elt F) Λ₀ .tc) α} :
    iprop(records m ρ K ∗ levAts L lv ∗ cr1 c k ∗ ow c l ∗ at0 c k)
      ⊢ iprop(((ow c l ∗ z0 c k ∗ payF m ρ (c, k) p) -∗ WP c (kk ⟨⟩) Q) -∗ WP c (.op (.waitDma2 sem src dst hsrc hdst) kk) Q) :=
  wt_one m ρ K c p k hd (fun _ => by rw [← hs]; rfl) hk l hl

theorem nk_slot (s : Fin 2) : (slotM kbM s).view.dmaCredit = NK := rfl
theorem nv_slot (s : Fin 2) : (slotM vbM s).view.dmaCredit = NK := rfl

/-- What device `c` waits with for the keys and values of slot `s`. -/
def kvCr (c : Dev nD) (s : Fin 2) : sProp 𝕄 := iprop(at0 c (.kR s) ∗ at0 c (.vR s) ∗ if c = srcD s then iprop(emp) else iprop(cr1 c (.kR s) ∗ cr1 c (.vR s)))
/-- Slot `s`, filled. -/
def filled (c : Dev nD) (s : Fin 2) : sProp 𝕄 := iprop(pt c (slotM kbM s) (KB m ρ c) ∗ pt c (slotM vbM s) (VB m ρ c))
def kvZ (c : Dev nD) (s : Fin 2) : sProp 𝕄 := iprop(z0 c (.kR s) ∗ z0 c (.vR s))

theorem kv_wait (c : Dev nD) (s : Fin 2) (hne : c ≠ srcD s) {sem sem' : DmaSem sig} (hs : SemLoc.dma sem = csem (.kR s)) (hs' : SemLoc.dma sem' = csem (.vR s))
    {src src' dst dst' : Memref sig .tc .vmem S2x128x4x64 .f32} {h1 : src.view.WordExact} {h2 : dst.view.WordExact}
    {h3 : src'.view.WordExact} {h4 : dst'.view.WordExact} (hk : dst = slotM kbM s) (hk' : dst' = slotM vbM s)
    (l : List Cell) (hl : ∀ x ∈ l, 2 < lvK x.2)
    {α : Type} {Q : α → sProp 𝕄} {kk : PUnit → Prog (TpuEff nD τ sig (Elt F) Λ₀ .tc) α} :
    iprop(records m ρ K ∗ levAts L lv ∗ ow c l ∗ kvCr c s)
      ⊢ iprop(((ow c l ∗ kvZ c s ∗ filled m ρ c s) -∗ WP c (kk ⟨⟩) Q)
        -∗ WP c (.op (.waitDma2 sem src dst h1 h2) fun _ => .op (.waitDma2 sem' src' dst' h3 h4) kk) Q) := by
  unfold kvCr kvZ filled
  rw [if_neg hne]
  iintro ⟨#Hr, #Hl, HO, A1, A2, C1, C2⟩ HQ
  iapply (wt_dma m ρ K c (srcD s) (.kR s) (duty_kR c s hne) hs (hk ▸ nk_slot s) l hl) $$ [HO A1 C1]
  · isplitr; · iexact Hr
    isplitr; · iexact Hl
    isplitl [C1]; · iexact C1
    isplitl [HO] <;> iassumption
  iintro ⟨HO, Z1, P1⟩
  iapply (wt_dma m ρ K c (srcD s) (.vR s) (duty_vR c s hne) hs' (hk' ▸ nv_slot s) l hl) $$ [HO A2 C2]
  · isplitr; · iexact Hr
    isplitr; · iexact Hl
    isplitl [C2]; · iexact C2
    isplitl [HO] <;> iassumption
  iintro ⟨HO, Z2, P2⟩
  iapply HQ
  isplitl [HO]; · iexact HO
  isplitl [Z1 Z2]; · isplitl [Z1] <;> iassumption
  dsimp only [payF]
  isplitl [P1] <;> iassumption

/-- A source has nothing to wait for. -/
theorem kv_skip (c : Dev nD) (s : Fin 2) (he : c = srcD s) : iprop(records m ρ K ∗ kvCr c s) ⊢ (|={Set.univ}=> kvZ c s : sProp 𝕄) := by
  unfold kvCr kvZ at0 z0
  iintro ⟨#Hr, A1, A2, _⟩
  imod (close_unpaid m ρ K (c, .kR s) (if_neg (fun h => h he))) $$ [A1] with Z1
  · isplitr; · iexact Hr
    iexact A1
  imod (close_unpaid m ρ K (c, .vR s) (if_neg (fun h => h he))) $$ [A2] with Z2
  · isplitr; · iexact Hr
    iexact A2
  imodintro
  isplitl [Z1] <;> iassumption

/-- The loads of one head's keys and values of both slots. -/
theorem h_loads (c : Dev nD) (f : Vec F S2x2x128x4x64 .f32) (g : Vec F S2x2x128x4x64 .f32) {o1 o2 o3 o4 : Fin 5 → ℕ} {i1 i2 i3 i4} (b r : Fin 2) (h : Fin 4)
    (e1 : o1 = ![(0 : Fin 2).val, b.val, r.val * 64, h.val, 0]) (e2 : o2 = ![(1 : Fin 2).val, b.val, r.val * 64, h.val, 0])
    (e3 : o3 = ![(0 : Fin 2).val, b.val, r.val * 64, h.val, 0]) (e4 : o4 = ![(1 : Fin 2).val, b.val, r.val * 64, h.val, 0])
    {h1 h2 h3 h4} {α : Type} {Q : α → sProp 𝕄}
    {k : Vec F S1x1x64x1x64 .f32 → Vec F S1x1x64x1x64 .f32 → Vec F S1x1x64x1x64 .f32 → Vec F S1x1x64x1x64 .f32 → Prog (TpuEff nD τ sig (Elt F) Λ₀ .tc) α} :
    iprop(pt c kbM f ∗ pt c vbM g)
      ⊢ iprop(((pt c kbM f ∗ pt c vbM g) -∗ WP c (k (hld f 0 b r h) (hld f 1 b r h) (hld g 0 b r h) (hld g 1 b r h)) Q)
        -∗ WP c (.op (.load kbM (Rect.unit (s := S2x2x128x4x64) o1 S1x1x64x1x64.size i1).toLoadRect h1) fun a =>
            .op (.load kbM (Rect.unit (s := S2x2x128x4x64) o2 S1x1x64x1x64.size i2).toLoadRect h2) fun b =>
            .op (.load vbM (Rect.unit (s := S2x2x128x4x64) o3 S1x1x64x1x64.size i3).toLoadRect h3) fun a' =>
            .op (.load vbM (Rect.unit (s := S2x2x128x4x64) o4 S1x1x64x1x64.size i4).toLoadRect h4) fun b' => k a b a' b') Q) := by
  subst e1 e2 e3 e4
  iintro ⟨Hk, Hv⟩ HQ
  iapply (ld_whole c (M := kbM) (View.set_whole _)) $$ Hk; iintro Hk
  iapply (ld_whole c (M := kbM) (View.set_whole _)) $$ Hk; iintro Hk
  iapply (ld_whole c (M := vbM) (View.set_whole _)) $$ Hv; iintro Hv
  iapply (ld_whole c (M := vbM) (View.set_whole _)) $$ Hv; iintro Hv
  iapply HQ
  isplitl [Hk] <;> iassumption

/-- The two slots, all filled. -/
def kvAll (c : Dev nD) : sProp 𝕄 := iprop(pt c kbM (KB m ρ c) ∗ pt c vbM (VB m ρ c))

theorem all_of (c : Dev nD) : iprop(filled m ρ c 0 ∗ filled m ρ c 1) ⊢ kvAll m ρ c := by
  unfold filled kvAll
  rw [kb_slots, vb_slots]
  iintro ⟨⟨A, B⟩, C, D⟩
  isplitl [A C]; · isplitl [A] <;> iassumption
  isplitl [B] <;> iassumption

theorem low_ra : ∀ c : Dev nD, ∀ x ∈ payR c ++ payA c, 2 < lvK x.2 := by decide
theorem ne0_iff : ∀ c : Dev nD, Scalar.cmpi .ne (Scalar.extui (Scalar.cmpi .ne (w2 c) 0#32) : BitVec 32) 0#32 = 1#1 ↔ c ≠ 0 := by decide +kernel
theorem ne2_iff : ∀ c : Dev nD, Scalar.cmpi .ne (Scalar.extui (Scalar.cmpi .ne (w2 c) 2#32) : BitVec 32) 0#32 = 1#1 ↔ c ≠ 2 := by decide +kernel

theorem part13 (c : Dev nD) (q : FVec F S128x256 .f32) {Q : _ → sProp 𝕄} :
    iprop(records m ρ K ∗ levAts L lv ∗ ow c (payR c ++ payA c) ∗ kvCr c 0 ∗ kvCr c 1 ∗ kvOwn m ρ c)
      ⊢ iprop(((ow c (payR c ++ payA c) ∗ kvZ c 0 ∗ kvZ c 1 ∗ kvAll m ρ c)
            -∗ Q ⟨k0_pay9 q (hld (KB m ρ c) 0 0 0 0) (hld (KB m ρ c) 1 0 0 0) (hld (VB m ρ c) 0 0 0 0) (hld (VB m ρ c) 1 0 0 0), k0_pay10 q⟩)
        -∗ WP c (ap (k0_part13 (F := F)) (w2 c) q (Scalar.extui (Scalar.cmpi .ne (w2 c) 0#32)) 0#32) Q) := by
  iintro ⟨#Hr, #Hl, HO, C0, C1, Hs⟩ HQ
  simp only [ap, k0_part13_eq_skeleton]; unfold k0_part13_skel
  simp only [Prog.lift, Prog.bind_op, Prog.bind_ret, Prog.pure_eq_ret]
  by_cases h0 : c = 0
  · subst h0
    rw [dif_neg (fun h => (ne0_iff 0).1 h rfl), dif_pos ((ne2_iff 0).2 (by decide))]
    ihave Hs := (Entails.of_eq (kvOwn_0 m ρ)) $$ Hs
    iapply fupd_wp
    imod (kv_skip m ρ K 0 0 src0) $$ [C0] with Z0
    · isplitr <;> iassumption
    imodintro
    iapply (kv_wait m ρ K 0 1 (by decide) rfl rfl rfl rfl _ (low_ra 0)) $$ [HO C1]
    · isplitr; · iexact Hr
      isplitr; · iexact Hl
      isplitl [HO] <;> iassumption
    iintro ⟨HO, Z1, F1⟩
    ihave Ha := (all_of m ρ 0) $$ [Hs F1]
    · isplitl [Hs]; · unfold filled; iexact Hs
      iexact F1
    unfold kvAll
    iapply (h_loads 0 _ _ 0 0 0 rfl rfl rfl rfl) $$ Ha
    iintro Ha
    iapply wp_fin
    iapply HQ
    isplitl [HO]; · iexact HO
    isplitl [Z0]; · iexact Z0
    isplitl [Z1] <;> iassumption
  by_cases h2 : c = 2
  · subst h2
    rw [dif_pos ((ne0_iff 2).2 (by decide)), dif_neg (fun h => (ne2_iff 2).1 h rfl)]
    ihave Hs := (Entails.of_eq (kvOwn_2 m ρ)) $$ Hs
    iapply (kv_wait m ρ K 2 0 (by decide) rfl rfl rfl rfl _ (low_ra 2)) $$ [HO C0]
    · isplitr; · iexact Hr
      isplitr; · iexact Hl
      isplitl [HO] <;> iassumption
    iintro ⟨HO, Z0, F0⟩
    iapply fupd_wp
    imod (kv_skip m ρ K 2 1 src2) $$ [C1] with Z1
    · isplitr <;> iassumption
    imodintro
    ihave Ha := (all_of m ρ 2) $$ [Hs F0]
    · isplitl [F0]; · iexact F0
      unfold filled; iexact Hs
    unfold kvAll
    iapply (h_loads 2 _ _ 0 0 0 rfl rfl rfl rfl) $$ Ha
    iintro Ha
    iapply wp_fin
    iapply HQ
    isplitl [HO]; · iexact HO
    isplitl [Z0]; · iexact Z0
    isplitl [Z1] <;> iassumption
  rw [dif_pos ((ne0_iff c).2 h0), dif_pos ((ne2_iff c).2 h2)]
  iapply (kv_wait m ρ K c 0 (src0 ▸ h0) rfl rfl rfl rfl _ (low_ra c)) $$ [HO C0]
  · isplitr; · iexact Hr
    isplitr; · iexact Hl
    isplitl [HO] <;> iassumption
  iintro ⟨HO, Z0, F0⟩
  iapply (kv_wait m ρ K c 1 (src2 ▸ h2) rfl rfl rfl rfl _ (low_ra c)) $$ [HO C1]
  · isplitr; · iexact Hr
    isplitr; · iexact Hl
    isplitl [HO] <;> iassumption
  iintro ⟨HO, Z1, F1⟩
  ihave Ha := (all_of m ρ c) $$ [F0 F1]
  · isplitl [F0] <;> iassumption
  unfold kvAll
  iapply (h_loads c _ _ 0 0 0 rfl rfl rfl rfl) $$ Ha
  iintro Ha
  iapply wp_fin
  iapply HQ
  isplitl [HO]; · iexact HO
  isplitl [Z0]; · iexact Z0
  isplitl [Z1] <;> iassumption

end Cert.KernelProof

end
-- ==== Proof.Exchange.lean ====
/-
The exchange of the partial products and their sum, on one device.
-/
module

public import proofs.«01_k».proof.Proof.Waits

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Cell → ℕ)

/-! ## Slices at the offsets the kernel computes -/

theorem pch_of {off : Fin 3 → ℕ} {h : ∀ a, off a + S1x64x512.size a ≤ S4x64x512.size a} (d : Dev nD) (ho : off = ![d.val, 0, 0]) :
    (pwM.slice (Rect.unit (s := S4x64x512) off S1x64x512.size h) (fun _ => rfl)).squeeze S64x512 squeezes_S1x64x512_S64x512 = pchM d := by
  subst ho; rfl
theorem och_of {off : Fin 3 → ℕ} {h : ∀ a, off a + S1x64x512.size a ≤ S2x128x512.size a} (d : Dev nD) (ho : off = ![d.val / 2, d.val % 2 * 64, 0]) :
    (oM.slice (Rect.unit (s := S2x128x512) off S1x64x512.size h) (fun _ => rfl)).squeeze S64x512 squeezes_S1x64x512_S64x512 = ochM d := by
  subst ho; rfl

theorem off1_0 : ∀ c : Dev nD, k0_off1 c 1#32 = ![(fw c 0).val, 0, 0] := by decide +kernel
theorem off1_1 : ∀ c : Dev nD, k0_off1 c 2#32 = ![(fw c 1).val, 0, 0] := by decide +kernel
theorem off1_2 : ∀ c : Dev nD, k0_off1 c 3#32 = ![(fw c 2).val, 0, 0] := by decide +kernel
theorem off2_c : ∀ c : Dev nD, k0_off2 c = ![c.val, 0, 0] := by decide +kernel
theorem off3_c : ∀ c : Dev nD, k0_off3 c = ![c.val / 2, c.val % 2 * 64, 0] := by decide +kernel
theorem off4_c : ∀ c : Dev nD, k0_off4 c = ![c.val / 2, c.val % 2 * 64, 0] := by decide +kernel
theorem dev16_eq : ∀ c : Dev nD, (⟨k0_dev16 c, k0_dev16_lt c⟩ : Dev nD) = fw c 0 := by decide +kernel
theorem dev17_eq : ∀ c : Dev nD, (⟨k0_dev17 c, k0_dev17_lt c⟩ : Dev nD) = fw c 1 := by decide +kernel
theorem dev18_eq : ∀ c : Dev nD, (⟨k0_dev18 c, k0_dev18_lt c⟩ : Dev nD) = fw c 2 := by decide +kernel
theorem dev19_eq : ∀ c : Dev nD, (⟨k0_dev19 c, k0_dev19_lt c⟩ : Dev nD) = fw c 0 := by decide +kernel
theorem dev20_eq : ∀ c : Dev nD, (⟨k0_dev20 c, k0_dev20_lt c⟩ : Dev nD) = fw c 1 := by decide +kernel
theorem dev21_eq : ∀ c : Dev nD, (⟨k0_dev21 c, k0_dev21_lt c⟩ : Dev nD) = fw c 2 := by decide +kernel

/-- The store of a finished chunk of the partial products. -/
theorem st_pch (c d : Dev nD) {off off' : Fin 3 → ℕ} {hoff hoff'} (ho : off = ![d.val, 0, 0]) (ho' : off' = ![d.val, 0, 0])
    {w : FVec F S1x64x512 .f32} (hw : w = pch m ρ c d) {h1 h2 h3} {α : Type} {Q : α → sProp 𝕄} {k : PUnit → Prog (TpuEff nD τ sig (Elt F) Λ₀ .tc) α} :
    ptE c (pchM d) ⊢ iprop((pt c (pchM d) (PW m ρ c) -∗ WP c (k ⟨⟩) Q)
        -∗ WP c (.op (.load pwM (Rect.unit (s := S4x64x512) off S1x64x512.size hoff).toLoadRect h1) fun _ =>
            .op (.store pwM (Rect.unit (s := S4x64x512) off' S1x64x512.size hoff') w Finset.univ h2 h3) k) Q) := by
  subst ho ho'
  unfold ptE
  iintro ⟨%f, H⟩ HQ
  iapply (ld_slice c (M := pwM) (fun _ => rfl) squeezes_S1x64x512_S64x512) $$ H; iintro H
  iapply (st_slice c (M := pwM) (fun _ => rfl) squeezes_S1x64x512_S64x512 (by decide : S1x64x512.ShapeCasts S64x512) (g := PW m ρ c) (by
    funext j
    refine Eq.trans ?_ (read_pch d (PW m ρ c) j).symm
    rw [hw]
    show pch m ρ c d (Shape.reshapeEquiv _ j) = pch m ρ c d (ix3 (0 : Fin 1) (j 0) (j 1))
    rw [Shape.reshapeEquiv_cons_one (n := 2) (d := ![64, 512])]
    refine congrArg _ (funext fun a => ?_)
    match a with
    | ⟨0, _⟩ => rfl
    | ⟨1, _⟩ => rfl
    | ⟨2, _⟩ => rfl)) $$ H; iintro H
  iapply HQ; iexact H

/-- The load of the device's own chunk. -/
theorem ld_pch (c : Dev nD) {off : Fin 3 → ℕ} {hoff} (ho : off = ![c.val, 0, 0]) {h1} {α : Type} {Q : α → sProp 𝕄}
    {k : Vec F S1x64x512 .f32 → Prog (TpuEff nD τ sig (Elt F) Λ₀ .tc) α} :
    pt c (pchM c) (PW m ρ c) ⊢ iprop((pt c (pchM c) (PW m ρ c) -∗ WP c (k (pld m ρ c)) Q)
        -∗ WP c (.op (.load pwM (Rect.unit (s := S4x64x512) off S1x64x512.size hoff).toLoadRect h1) k) Q) := by
  subst ho
  unfold pld
  exact ld_slice c (M := pwM) (r := Rect.unit (s := S4x64x512) ![c.val, 0, 0] S1x64x512.size hoff) (f := PW m ρ c) (fun _ => rfl) squeezes_S1x64x512_S64x512

/-- The load of what has arrived. -/
theorem ld_rsl (c : Dev nD) (o : Fin 3) {off : Fin 3 → ℕ} {hoff} (ho : off = ![o.val, 0, 0]) {h1} {α : Type} {Q : α → sProp 𝕄}
    {k : Vec F S1x64x512 .f32 → Prog (TpuEff nD τ sig (Elt F) Λ₀ .tc) α} :
    pt c (rslM o) (RB m ρ c) ⊢ iprop((pt c (rslM o) (RB m ρ c) -∗ WP c (k (rld m ρ c o)) Q)
        -∗ WP c (.op (.load rbM (Rect.unit (s := S3x64x512) off S1x64x512.size hoff).toLoadRect h1) k) Q) := by
  subst ho
  unfold rld
  exact ld_slice c (M := rbM) (r := Rect.unit (s := S3x64x512) ![o.val, 0, 0] S1x64x512.size hoff) (f := RB m ρ c) (fun _ => rfl) squeezes_S1x64x512_S64x512

/-- The store of the whole sum. -/
theorem st_ab (c : Dev nD) {w : FVec F S64x512 .f32} {h1 h2 h3} {α : Type} {Q : α → sProp 𝕄} {k : PUnit → Prog (TpuEff nD τ sig (Elt F) Λ₀ .tc) α} :
    ptE c abM ⊢ iprop((pt c abM w -∗ WP c (k ⟨⟩) Q)
        -∗ WP c (.op (.load abM (Rect.unit (s := S64x512) ![0, 0] S64x512.size inb_S64x512_S64x512_0_0).toLoadRect h1) fun _ =>
            .op (.store abM (Rect.unit (s := S64x512) ![0, 0] S64x512.size inb_S64x512_S64x512_0_0) w Finset.univ h2 h3) k) Q) := by
  unfold ptE
  iintro ⟨%f, H⟩ HQ
  iapply (ld_whole c (M := abM) (View.set_whole _)) $$ H; iintro H
  have e : (pt c abM w : sProp 𝕄)
      = pt c abM ((abM.access (Rect.unit (s := S64x512) ![0, 0] S64x512.size inb_S64x512_S64x512_0_0)).write (Elt F) f w Finset.univ) := by
    refine pt_congr c _ ?_
    funext j
    have h := congrFun (View.read_write_univ (v := abM.access (Rect.unit (s := S64x512) ![0, 0] S64x512.size inb_S64x512_S64x512_0_0)) f w) j
    refine h.symm.trans ?_
    refine congrArg ((abM.access (Rect.unit (s := S64x512) ![0, 0] S64x512.size inb_S64x512_S64x512_0_0)).write (Elt F) f w Finset.univ) (funext fun a => Fin.ext ?_)
    match a with
    | ⟨0, _⟩ => show 0 + 1 * (j 0).val = (j 0).val; omega
    | ⟨1, _⟩ => show 0 + 1 * (j 1).val = (j 1).val; omega
  rw [e]
  unfold pt
  iapply (wp_store 𝒱₀ (c : Thread nD τ) none Set.univ (m := abM) (r := Rect.unit (s := S64x512) ![0, 0] S64x512.size inb_S64x512_S64x512_0_0) (Mk := Finset.univ)
    (by rw [View.set_whole]; exact Finset.subset_univ _)) $$ H
  iintro H
  iapply HQ; iexact H

/-- The store of the sum into the result. -/
theorem st_och (c : Dev nD) {off off' : Fin 3 → ℕ} {hoff hoff'} (ho : off = ![c.val / 2, c.val % 2 * 64, 0]) (ho' : off' = ![c.val / 2, c.val % 2 * 64, 0])
    {h1 h2 h3} {α : Type} {Q : α → sProp 𝕄} {k : PUnit → Prog (TpuEff nD τ sig (Elt F) Λ₀ .tc) α} :
    ptE c (ochM c) ⊢ iprop((pt c (ochM c) (OUT m ρ) -∗ WP c (k ⟨⟩) Q)
        -∗ WP c (.op (.load oM (Rect.unit (s := S2x128x512) off S1x64x512.size hoff).toLoadRect h1) fun _ =>
            .op (.store oM (Rect.unit (s := S2x128x512) off' S1x64x512.size hoff') (k0_pay57 (SUM m ρ c)) Finset.univ h2 h3) k) Q) := by
  subst ho ho'
  unfold ptE
  iintro ⟨%f, H⟩ HQ
  iapply (ld_slice c (M := oM) (fun _ => rfl) squeezes_S1x64x512_S64x512) $$ H; iintro H
  iapply (st_slice c (M := oM) (fun _ => rfl) squeezes_S1x64x512_S64x512 (by decide : S1x64x512.ShapeCasts S64x512) (g := OUT m ρ) (by
    refine Eq.trans ?_ (out_r m ρ c)
    refine (shapeCast_shapeCast _ _ _).trans ?_
    exact (shapeCast_self (SUM m ρ c) shapeCasts_S64x512_S64x512).symm)) $$ H; iintro H
  iapply HQ; iexact H

/-! ## The pieces of the exchange -/

/-- What the transfer of a chunk needs, beside the chunk. -/
def rsIn (c : Dev nD) (o : Fin 3) : sProp 𝕄 := iprop(ptE (fw c o) (rslM o) ∗ tk (c, .rS o) c ∗ tk (fw c o, .rR o) c)
def asIn (c : Dev nD) (o : Fin 3) : sProp 𝕄 := iprop(ptE (fw c o) (ochM c) ∗ tk (c, .aS o) c ∗ tk (fw c o, .aR o) c)
/-- A wait not yet made. -/
def wt (c : Dev nD) (k : CK) : sProp 𝕄 := iprop(cr1 c k ∗ at0 c k)

theorem lowR : ∀ c : Dev nD, ∀ x ∈ payA c, lvK (.rR 0) < lvK x.2 := by decide

theorem r_send (c n : Dev nD) (o : Fin 3) (hn : n = fw c o) {κS κR : SemLoc sig} (hS : κS = csem (.rS o)) (hR : κR = csem (.rR o))
    {src dst : Memref sig .tc .vmem S64x512 .f32} (h1 : src = pchM (fw c o)) (h2 : dst = rslM o) (l : List Cell)
    {hsc : dst.view.ref.isScScratch = false} {hsrc : src.view.WordExact} {hdst : dst.view.WordExact}
    {hsem : DmaTarget.Typed .vmem κR (.remote (Dev.tc n : Thread nD τ) dst κS hsc)}
    {α : Type} {Q : α → sProp 𝕄} {k : PUnit → Prog (TpuEff nD τ sig (Elt F) Λ₀ .tc) α} :
    iprop(records m ρ K ∗ pt c (pchM (fw c o)) (PW m ρ c) ∗ rsIn c o ∗ ow c ((fw c o, .rR o) :: l))
      ⊢ iprop(((cr1 c (.rS o) ∗ ow c l) -∗ WP c (k ⟨⟩) Q)
          -∗ WP c (.op (.enqueueDma src (.remote (Dev.tc n : Thread nD τ) dst κS hsc) κR hsrc hdst hsem) k) Q) := by
  unfold rsIn
  iintro ⟨#Hr, H, ⟨Hd, T1, T2⟩, HO⟩ HQ
  iapply (r_snd m ρ K c n o hn hS hR h1 h2 l) $$ [H Hd T1 T2 HO] HQ
  isplitr; · iexact Hr
  isplitl [H]; · iexact H
  isplitl [Hd]; · iexact Hd
  isplitl [HO]; · iexact HO
  isplitl [T1] <;> iassumption

theorem a_send (c n : Dev nD) (o : Fin 3) (hn : n = fw c o) {κS κR : SemLoc sig} (hS : κS = csem (.aS o)) (hR : κR = csem (.aR o))
    {dst : Memref sig .tc .vmem S64x512 .f32} (h2 : dst = ochM c) (l : List Cell)
    {hsc : dst.view.ref.isScScratch = false} {hsrc : abM.view.WordExact} {hdst : dst.view.WordExact}
    {hsem : DmaTarget.Typed .vmem κR (.remote (Dev.tc n : Thread nD τ) dst κS hsc)}
    {α : Type} {Q : α → sProp 𝕄} {k : PUnit → Prog (TpuEff nD τ sig (Elt F) Λ₀ .tc) α} :
    iprop(records m ρ K ∗ (abM.view.loc (c : Thread nD τ) ↦[abM.view.set]{shr o} RED m ρ c) ∗ asIn c o ∗ ow c ((fw c o, .aR o) :: l))
      ⊢ iprop(((cr1 c (.aS o) ∗ ow c l) -∗ WP c (k ⟨⟩) Q)
          -∗ WP c (.op (.enqueueDma abM (.remote (Dev.tc n : Thread nD τ) dst κS hsc) κR hsrc hdst hsem) k) Q) := by
  unfold asIn
  iintro ⟨#Hr, H, ⟨Hd, T1, T2⟩, HO⟩ HQ
  iapply (a_snd m ρ K c n o hn hS hR h2 l) $$ [H Hd T1 T2 HO] HQ
  isplitr; · iexact Hr
  isplitl [H]; · iexact H
  isplitl [Hd]; · iexact Hd
  isplitl [HO]; · iexact HO
  isplitl [T1] <;> iassumption

theorem nr_rsl (o : Fin 3) : (rslM o).view.dmaCredit = NR := rfl
theorem nr_och (d : Dev nD) : (ochM d).view.dmaCredit = NR := rfl
theorem nr_pch (d : Dev nD) : (pchM d).view.dmaCredit = NR := rfl
theorem nr_ab : abM.view.dmaCredit = NR := rfl

/-- `wt_dma` from one piece. -/
theorem wt_to (c p : Dev nD) (k : CK) (hd : dutyF (c, k) = {p}) {s s' : Shape} {e e' : EltTy} {sem : DmaSem sig}
    {src : Memref sig .tc .vmem s' e'} {dst dst' : Memref sig .tc .vmem s e} {hsrc : src.view.WordExact} {hdst : dst.view.WordExact}
    (hs : SemLoc.dma sem = csem k) (hk : dst'.view.dmaCredit = amtF k) (he : dst = dst') (l : List Cell) (hl : ∀ x ∈ l, lvK k < lvK x.2)
    {α : Type} {Q : α → sProp 𝕄} {kk : PUnit → Prog (TpuEff nD τ sig (Elt F) Λ₀ .tc) α} :
    iprop(records m ρ K ∗ levAts L lv ∗ wt c k ∗ ow c l)
      ⊢ iprop(((ow c l ∗ z0 c k ∗ payF m ρ (c, k) p) -∗ WP c (kk ⟨⟩) Q) -∗ WP c (.op (.waitDma2 sem src dst hsrc hdst) kk) Q) := by
  unfold wt
  iintro ⟨#Hr, #Hl, ⟨C, A⟩, HO⟩ HQ
  iapply (wt_dma m ρ K c p k hd hs (he ▸ hk) l hl) $$ [C A HO] HQ
  isplitr; · iexact Hr
  isplitr; · iexact Hl
  isplitl [C]; · iexact C
  isplitl [HO] <;> iassumption

/-! ## The parts -/

theorem part27 (c : Dev nD) (v470 : FVec F S64x256 .f32) (v472 : FVec F S256x512 .f32) (cst : FVec F S64x512 .f32)
    (hw : k0_pay52 v470 v472 cst = pch m ρ c 3) {Q : _ → sProp 𝕄} :
    iprop(records m ρ K ∗ (pt c (pchM 0) (PW m ρ c) ∗ pt c (pchM 1) (PW m ρ c) ∗ pt c (pchM 2) (PW m ρ c) ∗ ptE c (pchM 3)) ∗ rsIn c 0
        ∗ ow c (payR c ++ payA c))
      ⊢ iprop((∀ v, (pt c (pchM c) (PW m ρ c) ∗ pt c (pchM (fw c 1)) (PW m ρ c) ∗ pt c (pchM (fw c 2)) (PW m ρ c) ∗ cr1 c (.rS 0)
              ∗ ow c ((fw c 1, .rR 1) :: (fw c 2, .rR 2) :: payA c)) -∗ Q v)
        -∗ WP c (ap (k0_part27 (F := F)) c (w2 c) v470 v472 cst) Q) := by
  rw [show payR c ++ payA c = (fw c 0, .rR 0) :: (fw c 1, .rR 1) :: (fw c 2, .rR 2) :: payA c from rfl]
  iintro ⟨#Hr, ⟨P0, P1, P2, P3⟩, R, HO⟩ HQ
  simp only [ap, k0_part27_eq_skeleton]; unfold k0_part27_skel
  simp only [Prog.lift, Prog.bind_op, Prog.bind_ret, Prog.pure_eq_ret]
  iapply (st_pch m ρ c 3 rfl rfl hw) $$ P3
  iintro P3
  ihave HP := (Entails.of_eq ((bigSep_devs (fun d => pt c (pchM d) (PW m ρ c))).symm.trans (bigSep_from c (fun d => pt c (pchM d) (PW m ρ c))))) $$ [P0 P1 P2 P3]
  · isplitl [P0]; · iexact P0
    isplitl [P1]; · iexact P1
    isplitl [P2] <;> iassumption
  icases HP with ⟨Pc, P0, P1, P2⟩
  iapply (r_send m ρ K c _ 0 (dev16_eq c) rfl rfl (pch_of (fw c 0) (off1_0 c)) rfl _) $$ [P0 R HO]
  · isplitr; · iexact Hr
    isplitl [P0]; · iexact P0
    isplitl [R]; · iexact R
    iexact HO
  iintro ⟨C, HO⟩
  iapply wp_fin
  iapply HQ
  isplitl [Pc]; · iexact Pc
  isplitl [P1]; · iexact P1
  isplitl [P2]; · iexact P2
  isplitl [C] <;> iassumption

theorem part28 (c : Dev nD) (l : List Cell) {v1 v2 v3 v4 v5 v6} {Q : _ → sProp 𝕄} :
    iprop(records m ρ K ∗ pt c (pchM (fw c 1)) (PW m ρ c) ∗ rsIn c 1 ∗ ow c ((fw c 1, .rR 1) :: l))
      ⊢ iprop(((cr1 c (.rS 1) ∗ ow c l) -∗ Q ⟨⟩) -∗ WP c (ap (k0_part28 (F := F)) c v1 v2 v3 v4 v5 v6) Q) := by
  iintro H HQ
  simp only [ap, k0_part28_eq_skeleton]; unfold k0_part28_skel
  simp only [Prog.lift, Prog.bind_op, Prog.bind_ret, Prog.pure_eq_ret]
  iapply (r_send m ρ K c _ 1 (dev17_eq c) rfl rfl (pch_of (fw c 1) (off1_1 c)) rfl _) $$ H
  iintro H
  iapply wp_fin
  iapply HQ; iexact H

theorem part29 (c : Dev nD) {v1} {Q : _ → sProp 𝕄} :
    iprop(records m ρ K ∗ levAts L lv ∗ pt c (pchM (fw c 2)) (PW m ρ c) ∗ rsIn c 2 ∗ wt c (.rR 0) ∗ ow c ((fw c 2, .rR 2) :: payA c))
      ⊢ iprop((∀ v, (cr1 c (.rS 2) ∗ ow c (payA c) ∗ z0 c (.rR 0) ∗ pt c (rslM 0) (RB m ρ c)) -∗ Q v) -∗ WP c (ap (k0_part29 (F := F)) c v1) Q) := by
  iintro ⟨#Hr, #Hl, P, R, W, HO⟩ HQ
  simp only [ap, k0_part29_eq_skeleton]; unfold k0_part29_skel
  simp only [Prog.lift, Prog.bind_op, Prog.bind_ret, Prog.pure_eq_ret]
  iapply (r_send m ρ K c _ 2 (dev18_eq c) rfl rfl (pch_of (fw c 2) (off1_2 c)) rfl _) $$ [P R HO]
  · isplitr; · iexact Hr
    isplitl [P]; · iexact P
    isplitl [R] <;> iassumption
  iintro ⟨C, HO⟩
  iapply (wt_to m ρ K c (bk c 0) (.rR 0) rfl rfl (nr_rsl 0) rfl _ (lowR c)) $$ [W HO]
  · isplitr; · iexact Hr
    isplitr; · iexact Hl
    isplitl [W] <;> iassumption
  dsimp only [payF]
  iintro ⟨HO, Z, P⟩
  iapply wp_fin
  iapply HQ
  isplitl [C]; · iexact C
  isplitl [HO]; · iexact HO
  isplitl [Z] <;> iassumption

theorem part30 (c : Dev nD) {v1 v2 v3} {Q : _ → sProp 𝕄} :
    iprop(records m ρ K ∗ levAts L lv ∗ pt c (pchM c) (PW m ρ c) ∗ pt c (rslM 0) (RB m ρ c) ∗ wt c (.rR 1) ∗ wt c (.rR 2) ∗ ow c (payA c))
      ⊢ iprop(((ow c (payA c) ∗ z0 c (.rR 1) ∗ z0 c (.rR 2) ∗ pt c (pchM c) (PW m ρ c) ∗ pt c (rslM 0) (RB m ρ c) ∗ pt c (rslM 1) (RB m ρ c)
              ∗ pt c (rslM 2) (RB m ρ c)) -∗ Q ⟨k0_pay53 (pld m ρ c), k0_pay54 (rld m ρ c 0)⟩)
        -∗ WP c (ap (k0_part30 (F := F)) c v1 v2 v3) Q) := by
  iintro ⟨#Hr, #Hl, Pc, R0, W1, W2, HO⟩ HQ
  simp only [ap, k0_part30_eq_skeleton]; unfold k0_part30_skel
  simp only [Prog.lift, Prog.bind_op, Prog.bind_ret, Prog.pure_eq_ret]
  iapply (wt_to m ρ K c (bk c 1) (.rR 1) rfl rfl (nr_rsl 1) rfl _ (lowR c)) $$ [W1 HO]
  · isplitr; · iexact Hr
    isplitr; · iexact Hl
    isplitl [W1] <;> iassumption
  dsimp only [payF]
  iintro ⟨HO, Z1, R1⟩
  iapply (wt_to m ρ K c (bk c 2) (.rR 2) rfl rfl (nr_rsl 2) rfl _ (lowR c)) $$ [W2 HO]
  · isplitr; · iexact Hr
    isplitr; · iexact Hl
    isplitl [W2] <;> iassumption
  dsimp only [payF]
  iintro ⟨HO, Z2, R2⟩
  iapply (ld_pch m ρ c (off2_c c)) $$ Pc
  iintro Pc
  iapply (ld_rsl m ρ c 0 rfl) $$ R0
  iintro R0
  iapply wp_fin
  iapply HQ
  isplitl [HO]; · iexact HO
  isplitl [Z1]; · iexact Z1
  isplitl [Z2]; · iexact Z2
  isplitl [Pc]; · iexact Pc
  isplitl [R0]; · iexact R0
  isplitl [R1] <;> iassumption

theorem part31 (c : Dev nD) {v1} {Q : _ → sProp 𝕄} :
    iprop(pt c (rslM 1) (RB m ρ c) ∗ pt c (rslM 2) (RB m ρ c) ∗ ptE c abM)
      ⊢ iprop((∀ u v w, (pt c (rslM 1) (RB m ρ c) ∗ pt c (rslM 2) (RB m ρ c) ∗ pt c abM (RED m ρ c)) -∗ Q ⟨SUM m ρ c, u, v, w⟩)
        -∗ WP c (ap (k0_part31 (F := F)) v1 (k0_pay53 (pld m ρ c)) (k0_pay54 (rld m ρ c 0))) Q) := by
  iintro ⟨R1, R2, A⟩ HQ
  simp only [ap, k0_part31_eq_skeleton]; unfold k0_part31_skel
  simp only [Prog.lift, Prog.bind_op, Prog.bind_ret, Prog.pure_eq_ret]
  iapply (ld_rsl m ρ c 1 rfl) $$ R1
  iintro R1
  iapply (ld_rsl m ρ c 2 rfl) $$ R2
  iintro R2
  iapply (st_ab c) $$ A
  iintro A
  iapply wp_fin
  rw [show k0_pay55 (k0_pay53 (pld m ρ c)) (k0_pay54 (rld m ρ c 0)) (rld m ρ c 1) (rld m ρ c 2) = SUM m ρ c from rfl]
  iapply HQ
  isplitl [R1]; · iexact R1
  isplitl [R2]; · iexact R2
  unfold RED; iexact A

theorem part32 (c : Dev nD) {v1 v2 v3 v4} {Q : _ → sProp 𝕄} :
    ptE c (ochM c) ⊢ iprop((∀ v, pt c (ochM c) (OUT m ρ) -∗ Q v) -∗ WP c (ap (k0_part32 (F := F)) c v1 (SUM m ρ c) v2 v3 v4) Q) := by
  iintro H HQ
  simp only [ap, k0_part32_eq_skeleton]; unfold k0_part32_skel
  simp only [Prog.lift, Prog.bind_op, Prog.bind_ret, Prog.pure_eq_ret]
  iapply (st_och m ρ c (off3_c c) (off3_c c)) $$ H
  iintro H
  iapply wp_fin
  iapply HQ; iexact H

end Cert.KernelProof

end
-- ==== Proof.Compute.lean ====
/-
The parts of the kernel that compute the attention and its projection, on one device.
-/
module

public import proofs.«01_k».proof.Proof.Exchange

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Cell → ℕ)

/-! ## The loads of the attention -/

/-- A load of one head's keys, values, or of the output weights. -/
theorem ldk (c : Dev nD) (s b r : Fin 2) (h : Fin 4) {off : Fin 5 → ℕ} {i} (e : off = ![s.val, b.val, r.val * 64, h.val, 0]) {hl} {α : Type} {Q : α → sProp 𝕄}
    {k : Vec F S1x1x64x1x64 .f32 → Prog (TpuEff nD τ sig (Elt F) Λ₀ .tc) α} :
    kvAll m ρ c ⊢ iprop((kvAll m ρ c -∗ WP c (k (hld (KB m ρ c) s b r h)) Q)
        -∗ WP c (.op (.load kbM (Rect.unit (s := S2x2x128x4x64) off S1x1x64x1x64.size i).toLoadRect hl) k) Q) := by
  subst e
  unfold kvAll
  iintro ⟨Hk, Hv⟩ HQ
  iapply (ld_whole c (M := kbM) (View.set_whole _)) $$ Hk; iintro Hk
  iapply HQ
  isplitl [Hk] <;> iassumption
theorem ldv (c : Dev nD) (s b r : Fin 2) (h : Fin 4) {off : Fin 5 → ℕ} {i} (e : off = ![s.val, b.val, r.val * 64, h.val, 0]) {hl} {α : Type} {Q : α → sProp 𝕄}
    {k : Vec F S1x1x64x1x64 .f32 → Prog (TpuEff nD τ sig (Elt F) Λ₀ .tc) α} :
    kvAll m ρ c ⊢ iprop((kvAll m ρ c -∗ WP c (k (hld (VB m ρ c) s b r h)) Q)
        -∗ WP c (.op (.load vbM (Rect.unit (s := S2x2x128x4x64) off S1x1x64x1x64.size i).toLoadRect hl) k) Q) := by
  subst e
  unfold kvAll
  iintro ⟨Hk, Hv⟩ HQ
  iapply (ld_whole c (M := vbM) (View.set_whole _)) $$ Hv; iintro Hv
  iapply HQ
  isplitl [Hk] <;> iassumption
theorem ldwo (c : Dev nD) {i} {hl} {α : Type} {Q : α → sProp 𝕄} {k : Vec F S256x512 .f32 → Prog (TpuEff nD τ sig (Elt F) Λ₀ .tc) α} :
    pt c woM (wost m ρ c) ⊢ iprop((pt c woM (wost m ρ c) -∗ WP c (k (wold (wost m ρ c))) Q)
        -∗ WP c (.op (.load woM (Rect.unit (s := S256x512) ![0, 0] S256x512.size i).toLoadRect hl) k) Q) :=
  ld_whole c (M := woM) (View.set_whole _)

/-! ## The parts of the attention -/

/-- One head's keys and values. -/
abbrev hk (c : Dev nD) (s b r : Fin 2) (h : Fin 4) := hld (KB m ρ c) s b r h
abbrev hv (c : Dev nD) (s b r : Fin 2) (h : Fin 4) := hld (VB m ρ c) s b r h

theorem part14 (c : Dev nD) (v53 : FVec F S128x256 .f32) (v89 : FVec F S64x64 .f32) {Q : _ → sProp 𝕄} :
    kvAll m ρ c
      ⊢ iprop((kvAll m ρ c -∗ Q ⟨k0_pay11 v89 (hk m ρ c 0 0 0 1) (hk m ρ c 1 0 0 1) (hv m ρ c 0 0 0 1) (hv m ρ c 1 0 0 1), k0_pay12 v53, k0_pay13 (hk m ρ c 0 0 0 2), (hk m ρ c 1 0 0 2)⟩)
        -∗ WP c (ap (k0_part14 (F := F)) v53 v89) Q) := by
  iintro H HQ
  simp only [ap, k0_part14_eq_skeleton]; unfold k0_part14_skel
  simp only [Prog.lift, Prog.bind_op, Prog.bind_ret, Prog.pure_eq_ret]
  iapply (ldk m ρ c 0 0 0 1 rfl) $$ H; iintro H
  iapply (ldk m ρ c 1 0 0 1 rfl) $$ H; iintro H
  iapply (ldv m ρ c 0 0 0 1 rfl) $$ H; iintro H
  iapply (ldv m ρ c 1 0 0 1 rfl) $$ H; iintro H
  iapply (ldk m ρ c 0 0 0 2 rfl) $$ H; iintro H
  iapply (ldk m ρ c 1 0 0 2 rfl) $$ H; iintro H
  iapply wp_fin
  iapply HQ
  iexact H

theorem part15 (c : Dev nD) (v53 : FVec F S128x256 .f32) (v113 : FVec F S64x64 .f32) (v115 : FVec F S64x64 .f32) (v116 : Vec F S1x1x64x1x64 .f32) {Q : _ → sProp 𝕄} :
    kvAll m ρ c
      ⊢ iprop((kvAll m ρ c -∗ Q ⟨k0_pay14 v113 v115 v116 (hv m ρ c 0 0 0 2) (hv m ρ c 1 0 0 2), k0_pay15 v53, k0_pay16 (hk m ρ c 0 0 0 3) (hk m ρ c 1 0 0 3), k0_pay17 (hv m ρ c 0 0 0 3)⟩)
        -∗ WP c (ap (k0_part15 (F := F)) v53 v113 v115 v116) Q) := by
  iintro H HQ
  simp only [ap, k0_part15_eq_skeleton]; unfold k0_part15_skel
  simp only [Prog.lift, Prog.bind_op, Prog.bind_ret, Prog.pure_eq_ret]
  iapply (ldv m ρ c 0 0 0 2 rfl) $$ H; iintro H
  iapply (ldv m ρ c 1 0 0 2 rfl) $$ H; iintro H
  iapply (ldk m ρ c 0 0 0 3 rfl) $$ H; iintro H
  iapply (ldk m ρ c 1 0 0 3 rfl) $$ H; iintro H
  iapply (ldv m ρ c 0 0 0 3 rfl) $$ H; iintro H
  iapply wp_fin
  iapply HQ
  iexact H

theorem part16 (c : Dev nD) (v53 : FVec F S128x256 .f32) (v88 : FVec F S64x64 .f32) (v112 : FVec F S64x64 .f32) (v136 : FVec F S64x64 .f32) (v137 : FVec F S64x64 .f32) (v142 : FVec F S128x64 .f32) (v144 : FVec F S64x64 .f32)
    (hw : k0_pay18 v88 v112 v136 v137 v142 v144 (hv m ρ c 1 0 0 3) (wold (wost m ρ c)) = pch m ρ c 0) {Q : _ → sProp 𝕄} :
    iprop(kvAll m ρ c ∗ pt c woM (wost m ρ c) ∗ ptE c (pchM 0))
      ⊢ iprop(((kvAll m ρ c ∗ pt c woM (wost m ρ c) ∗ pt c (pchM 0) (PW m ρ c)) -∗ Q ⟨k0_pay19 v53, k0_pay20 (hk m ρ c 0 0 1 0) (hk m ρ c 1 0 1 0), (hv m ρ c 0 0 1 0)⟩)
        -∗ WP c (ap (k0_part16 (F := F)) v53 v88 v112 v136 v137 v142 v144) Q) := by
  iintro ⟨H, W, P⟩ HQ
  simp only [ap, k0_part16_eq_skeleton]; unfold k0_part16_skel
  simp only [Prog.lift, Prog.bind_op, Prog.bind_ret, Prog.pure_eq_ret]
  iapply (ldv m ρ c 1 0 0 3 rfl) $$ H; iintro H
  iapply (ldwo m ρ c) $$ W; iintro W
  iapply (st_pch m ρ c 0 rfl rfl hw) $$ P; iintro P
  iapply (ldk m ρ c 0 0 1 0 rfl) $$ H; iintro H
  iapply (ldk m ρ c 1 0 1 0 rfl) $$ H; iintro H
  iapply (ldv m ρ c 0 0 1 0 rfl) $$ H; iintro H
  iapply wp_fin
  iapply HQ
  isplitl [H]; · iexact H
  isplitl [W] <;> iassumption

theorem part17 (c : Dev nD) (v53 : FVec F S128x256 .f32) (v168 : FVec F S64x64 .f32) (v173 : FVec F S128x64 .f32) (v174 : Vec F S1x1x64x1x64 .f32) {Q : _ → sProp 𝕄} :
    kvAll m ρ c
      ⊢ iprop((kvAll m ρ c -∗ Q ⟨k0_pay21 v168 v173 v174 (hv m ρ c 1 0 1 0), k0_pay22 (hv m ρ c 0 0 1 1) (hv m ρ c 1 0 1 1), k0_pay23 v53 (hk m ρ c 0 0 1 1) (hk m ρ c 1 0 1 1)⟩)
        -∗ WP c (ap (k0_part17 (F := F)) v53 v168 v173 v174) Q) := by
  iintro H HQ
  simp only [ap, k0_part17_eq_skeleton]; unfold k0_part17_skel
  simp only [Prog.lift, Prog.bind_op, Prog.bind_ret, Prog.pure_eq_ret]
  iapply (ldv m ρ c 1 0 1 0 rfl) $$ H; iintro H
  iapply (ldk m ρ c 0 0 1 1 rfl) $$ H; iintro H
  iapply (ldk m ρ c 1 0 1 1 rfl) $$ H; iintro H
  iapply (ldv m ρ c 0 0 1 1 rfl) $$ H; iintro H
  iapply (ldv m ρ c 1 0 1 1 rfl) $$ H; iintro H
  iapply wp_fin
  iapply HQ
  iexact H

theorem part18 (c : Dev nD) (v53 : FVec F S128x256 .f32) (v202 : FVec F S128x64 .f32) (v203 : FVec F S64x128 .f32) {Q : _ → sProp 𝕄} :
    kvAll m ρ c
      ⊢ iprop((kvAll m ρ c -∗ Q ⟨k0_pay24 v202 v203, k0_pay25 (hv m ρ c 0 0 1 2) (hv m ρ c 1 0 1 2), k0_pay26 v53 (hk m ρ c 0 0 1 2) (hk m ρ c 1 0 1 2), k0_pay27 v53 (hk m ρ c 0 0 1 2) (hk m ρ c 1 0 1 2)⟩)
        -∗ WP c (ap (k0_part18 (F := F)) v53 v202 v203) Q) := by
  iintro H HQ
  simp only [ap, k0_part18_eq_skeleton]; unfold k0_part18_skel
  simp only [Prog.lift, Prog.bind_op, Prog.bind_ret, Prog.pure_eq_ret]
  iapply (ldk m ρ c 0 0 1 2 rfl) $$ H; iintro H
  iapply (ldk m ρ c 1 0 1 2 rfl) $$ H; iintro H
  iapply (ldv m ρ c 0 0 1 2 rfl) $$ H; iintro H
  iapply (ldv m ρ c 1 0 1 2 rfl) $$ H; iintro H
  iapply wp_fin
  iapply HQ
  iexact H

theorem part19 (c : Dev nD) (v53 : FVec F S128x256 .f32) (v191 : FVec F S64x64 .f32) (v215 : FVec F S64x64 .f32) (v226 : FVec F S128x64 .f32) (v234 : FVec F S64x128 .f32) (v235 : FVec F S64 .f32) {Q : _ → sProp 𝕄} :
    iprop(kvAll m ρ c ∗ pt c woM (wost m ρ c))
      ⊢ iprop(((kvAll m ρ c ∗ pt c woM (wost m ρ c)) -∗ Q ⟨k0_pay28 v53 v191 v215 v226 v234 v235 (hk m ρ c 0 0 1 3) (hk m ρ c 1 0 1 3) (hv m ρ c 0 0 1 3) (hv m ρ c 1 0 1 3), k0_pay29 (wold (wost m ρ c)), constant S64x512 .f32 0x00000000#32⟩)
        -∗ WP c (ap (k0_part19 (F := F)) v53 v191 v215 v226 v234 v235) Q) := by
  iintro ⟨H, W⟩ HQ
  simp only [ap, k0_part19_eq_skeleton]; unfold k0_part19_skel
  simp only [Prog.lift, Prog.bind_op, Prog.bind_ret, Prog.pure_eq_ret]
  iapply (ldk m ρ c 0 0 1 3 rfl) $$ H; iintro H
  iapply (ldk m ρ c 1 0 1 3 rfl) $$ H; iintro H
  iapply (ldv m ρ c 0 0 1 3 rfl) $$ H; iintro H
  iapply (ldv m ρ c 1 0 1 3 rfl) $$ H; iintro H
  iapply (ldwo m ρ c) $$ W; iintro W
  iapply wp_fin
  iapply HQ
  isplitl [H] <;> iassumption

theorem part20 (c : Dev nD) (v58 : FVec F S128x256 .f32) (v264 : FVec F S64x256 .f32) (v266 : FVec F S256x512 .f32) (cst_250 : FVec F S64x512 .f32)
    (hw : k0_pay30 v264 v266 cst_250 = pch m ρ c 1) {Q : _ → sProp 𝕄} :
    iprop(kvAll m ρ c ∗ ptE c (pchM 1))
      ⊢ iprop(((kvAll m ρ c ∗ pt c (pchM 1) (PW m ρ c)) -∗ Q ⟨k0_pay31 v58 (hk m ρ c 0 1 0 0) (hk m ρ c 1 1 0 0) (hv m ρ c 0 1 0 0) (hv m ρ c 1 1 0 0), k0_pay32 v58⟩)
        -∗ WP c (ap (k0_part20 (F := F)) v58 v264 v266 cst_250) Q) := by
  iintro ⟨H, P⟩ HQ
  simp only [ap, k0_part20_eq_skeleton]; unfold k0_part20_skel
  simp only [Prog.lift, Prog.bind_op, Prog.bind_ret, Prog.pure_eq_ret]
  iapply (st_pch m ρ c 1 rfl rfl hw) $$ P; iintro P
  iapply (ldk m ρ c 0 1 0 0 rfl) $$ H; iintro H
  iapply (ldk m ρ c 1 1 0 0 rfl) $$ H; iintro H
  iapply (ldv m ρ c 0 1 0 0 rfl) $$ H; iintro H
  iapply (ldv m ρ c 1 1 0 0 rfl) $$ H; iintro H
  iapply wp_fin
  iapply HQ
  isplitl [H] <;> iassumption

theorem part21 (c : Dev nD) (v58 : FVec F S128x256 .f32) (v295 : FVec F S64x64 .f32) {Q : _ → sProp 𝕄} :
    kvAll m ρ c
      ⊢ iprop((kvAll m ρ c -∗ Q ⟨k0_pay33 v295 (hk m ρ c 0 1 0 1) (hk m ρ c 1 1 0 1) (hv m ρ c 0 1 0 1) (hv m ρ c 1 1 0 1), k0_pay34 v58, k0_pay35 (hk m ρ c 0 1 0 2), (hk m ρ c 1 1 0 2)⟩)
        -∗ WP c (ap (k0_part21 (F := F)) v58 v295) Q) := by
  iintro H HQ
  simp only [ap, k0_part21_eq_skeleton]; unfold k0_part21_skel
  simp only [Prog.lift, Prog.bind_op, Prog.bind_ret, Prog.pure_eq_ret]
  iapply (ldk m ρ c 0 1 0 1 rfl) $$ H; iintro H
  iapply (ldk m ρ c 1 1 0 1 rfl) $$ H; iintro H
  iapply (ldv m ρ c 0 1 0 1 rfl) $$ H; iintro H
  iapply (ldv m ρ c 1 1 0 1 rfl) $$ H; iintro H
  iapply (ldk m ρ c 0 1 0 2 rfl) $$ H; iintro H
  iapply (ldk m ρ c 1 1 0 2 rfl) $$ H; iintro H
  iapply wp_fin
  iapply HQ
  iexact H

theorem part22 (c : Dev nD) (v58 : FVec F S128x256 .f32) (v319 : FVec F S64x64 .f32) (v321 : FVec F S64x64 .f32) (v322 : Vec F S1x1x64x1x64 .f32) {Q : _ → sProp 𝕄} :
    kvAll m ρ c
      ⊢ iprop((kvAll m ρ c -∗ Q ⟨k0_pay36 v319 v321 v322 (hv m ρ c 0 1 0 2) (hv m ρ c 1 1 0 2), k0_pay37 v58, k0_pay38 (hk m ρ c 0 1 0 3) (hk m ρ c 1 1 0 3), k0_pay39 (hv m ρ c 0 1 0 3)⟩)
        -∗ WP c (ap (k0_part22 (F := F)) v58 v319 v321 v322) Q) := by
  iintro H HQ
  simp only [ap, k0_part22_eq_skeleton]; unfold k0_part22_skel
  simp only [Prog.lift, Prog.bind_op, Prog.bind_ret, Prog.pure_eq_ret]
  iapply (ldv m ρ c 0 1 0 2 rfl) $$ H; iintro H
  iapply (ldv m ρ c 1 1 0 2 rfl) $$ H; iintro H
  iapply (ldk m ρ c 0 1 0 3 rfl) $$ H; iintro H
  iapply (ldk m ρ c 1 1 0 3 rfl) $$ H; iintro H
  iapply (ldv m ρ c 0 1 0 3 rfl) $$ H; iintro H
  iapply wp_fin
  iapply HQ
  iexact H

theorem part23 (c : Dev nD) (v58 : FVec F S128x256 .f32) (v294 : FVec F S64x64 .f32) (v318 : FVec F S64x64 .f32) (v342 : FVec F S64x64 .f32) (v343 : FVec F S64x64 .f32) (v348 : FVec F S128x64 .f32) (v350 : FVec F S64x64 .f32)
    (hw : k0_pay40 v294 v318 v342 v343 v348 v350 (hv m ρ c 1 1 0 3) (wold (wost m ρ c)) = pch m ρ c 2) {Q : _ → sProp 𝕄} :
    iprop(kvAll m ρ c ∗ pt c woM (wost m ρ c) ∗ ptE c (pchM 2))
      ⊢ iprop(((kvAll m ρ c ∗ pt c woM (wost m ρ c) ∗ pt c (pchM 2) (PW m ρ c)) -∗ Q ⟨k0_pay41 v58, k0_pay42 (hk m ρ c 0 1 1 0) (hk m ρ c 1 1 1 0), (hv m ρ c 0 1 1 0)⟩)
        -∗ WP c (ap (k0_part23 (F := F)) v58 v294 v318 v342 v343 v348 v350) Q) := by
  iintro ⟨H, W, P⟩ HQ
  simp only [ap, k0_part23_eq_skeleton]; unfold k0_part23_skel
  simp only [Prog.lift, Prog.bind_op, Prog.bind_ret, Prog.pure_eq_ret]
  iapply (ldv m ρ c 1 1 0 3 rfl) $$ H; iintro H
  iapply (ldwo m ρ c) $$ W; iintro W
  iapply (st_pch m ρ c 2 rfl rfl hw) $$ P; iintro P
  iapply (ldk m ρ c 0 1 1 0 rfl) $$ H; iintro H
  iapply (ldk m ρ c 1 1 1 0 rfl) $$ H; iintro H
  iapply (ldv m ρ c 0 1 1 0 rfl) $$ H; iintro H
  iapply wp_fin
  iapply HQ
  isplitl [H]; · iexact H
  isplitl [W] <;> iassumption

theorem part24 (c : Dev nD) (v58 : FVec F S128x256 .f32) (v374 : FVec F S64x64 .f32) (v379 : FVec F S128x64 .f32) (v380 : Vec F S1x1x64x1x64 .f32) {Q : _ → sProp 𝕄} :
    kvAll m ρ c
      ⊢ iprop((kvAll m ρ c -∗ Q ⟨k0_pay43 v374 v379 v380 (hv m ρ c 1 1 1 0), k0_pay44 (hv m ρ c 0 1 1 1) (hv m ρ c 1 1 1 1), k0_pay45 v58 (hk m ρ c 0 1 1 1) (hk m ρ c 1 1 1 1)⟩)
        -∗ WP c (ap (k0_part24 (F := F)) v58 v374 v379 v380) Q) := by
  iintro H HQ
  simp only [ap, k0_part24_eq_skeleton]; unfold k0_part24_skel
  simp only [Prog.lift, Prog.bind_op, Prog.bind_ret, Prog.pure_eq_ret]
  iapply (ldv m ρ c 1 1 1 0 rfl) $$ H; iintro H
  iapply (ldk m ρ c 0 1 1 1 rfl) $$ H; iintro H
  iapply (ldk m ρ c 1 1 1 1 rfl) $$ H; iintro H
  iapply (ldv m ρ c 0 1 1 1 rfl) $$ H; iintro H
  iapply (ldv m ρ c 1 1 1 1 rfl) $$ H; iintro H
  iapply wp_fin
  iapply HQ
  iexact H

theorem part25 (c : Dev nD) (v58 : FVec F S128x256 .f32) (v408 : FVec F S128x64 .f32) (v409 : FVec F S64x128 .f32) {Q : _ → sProp 𝕄} :
    kvAll m ρ c
      ⊢ iprop((kvAll m ρ c -∗ Q ⟨k0_pay46 v408 v409, k0_pay47 (hv m ρ c 0 1 1 2) (hv m ρ c 1 1 1 2), k0_pay48 v58 (hk m ρ c 0 1 1 2) (hk m ρ c 1 1 1 2), k0_pay49 v58 (hk m ρ c 0 1 1 2) (hk m ρ c 1 1 1 2)⟩)
        -∗ WP c (ap (k0_part25 (F := F)) v58 v408 v409) Q) := by
  iintro H HQ
  simp only [ap, k0_part25_eq_skeleton]; unfold k0_part25_skel
  simp only [Prog.lift, Prog.bind_op, Prog.bind_ret, Prog.pure_eq_ret]
  iapply (ldk m ρ c 0 1 1 2 rfl) $$ H; iintro H
  iapply (ldk m ρ c 1 1 1 2 rfl) $$ H; iintro H
  iapply (ldv m ρ c 0 1 1 2 rfl) $$ H; iintro H
  iapply (ldv m ρ c 1 1 1 2 rfl) $$ H; iintro H
  iapply wp_fin
  iapply HQ
  iexact H

theorem part26 (c : Dev nD) (v58 : FVec F S128x256 .f32) (v397 : FVec F S64x64 .f32) (v421 : FVec F S64x64 .f32) (v432 : FVec F S128x64 .f32) (v440 : FVec F S64x128 .f32) (v441 : FVec F S64 .f32) {Q : _ → sProp 𝕄} :
    iprop(kvAll m ρ c ∗ pt c woM (wost m ρ c))
      ⊢ iprop(((kvAll m ρ c ∗ pt c woM (wost m ρ c)) -∗ Q ⟨k0_pay50 v58 v397 v421 v432 v440 v441 (hk m ρ c 0 1 1 3) (hk m ρ c 1 1 1 3) (hv m ρ c 0 1 1 3) (hv m ρ c 1 1 1 3), k0_pay51 (wold (wost m ρ c)), constant S64x512 .f32 0x00000000#32⟩)
        -∗ WP c (ap (k0_part26 (F := F)) v58 v397 v421 v432 v440 v441) Q) := by
  iintro ⟨H, W⟩ HQ
  simp only [ap, k0_part26_eq_skeleton]; unfold k0_part26_skel
  simp only [Prog.lift, Prog.bind_op, Prog.bind_ret, Prog.pure_eq_ret]
  iapply (ldk m ρ c 0 1 1 3 rfl) $$ H; iintro H
  iapply (ldk m ρ c 1 1 1 3 rfl) $$ H; iintro H
  iapply (ldv m ρ c 0 1 1 3 rfl) $$ H; iintro H
  iapply (ldv m ρ c 1 1 1 3 rfl) $$ H; iintro H
  iapply (ldwo m ρ c) $$ W; iintro W
  iapply wp_fin
  iapply HQ
  isplitl [H] <;> iassumption

/-! ## What the chunks hold -/

theorem chunk0 (c : Dev nD) : k0_pay18 (k0_pay9 (qF m ρ c 0) (hk m ρ c 0 0 0 0) (hk m ρ c 1 0 0 0) (hv m ρ c 0 0 0 0) (hv m ρ c 1 0 0 0)) (k0_pay11 (k0_pay10 (qF m ρ c 0)) (hk m ρ c 0 0 0 1) (hk m ρ c 1 0 0 1) (hv m ρ c 0 0 0 1) (hv m ρ c 1 0 0 1)) (k0_pay14 (k0_pay12 (qF m ρ c 0)) (k0_pay13 (hk m ρ c 0 0 0 2)) (hk m ρ c 1 0 0 2) (hv m ρ c 0 0 0 2) (hv m ρ c 1 0 0 2)) (k0_pay15 (qF m ρ c 0)) (k0_pay16 (hk m ρ c 0 0 0 3) (hk m ρ c 1 0 0 3)) (k0_pay17 (hv m ρ c 0 0 0 3)) (hv m ρ c 1 0 0 3) (wold (wost m ρ c)) = pch m ρ c 0 := rfl

theorem chunk1 (c : Dev nD) : k0_pay30 (k0_pay28 (qF m ρ c 0) (k0_pay21 (k0_pay19 (qF m ρ c 0)) (k0_pay20 (hk m ρ c 0 0 1 0) (hk m ρ c 1 0 1 0)) (hv m ρ c 0 0 1 0) (hv m ρ c 1 0 1 0)) (k0_pay24 (k0_pay22 (hv m ρ c 0 0 1 1) (hv m ρ c 1 0 1 1)) (k0_pay23 (qF m ρ c 0) (hk m ρ c 0 0 1 1) (hk m ρ c 1 0 1 1))) (k0_pay25 (hv m ρ c 0 0 1 2) (hv m ρ c 1 0 1 2)) (k0_pay26 (qF m ρ c 0) (hk m ρ c 0 0 1 2) (hk m ρ c 1 0 1 2)) (k0_pay27 (qF m ρ c 0) (hk m ρ c 0 0 1 2) (hk m ρ c 1 0 1 2)) (hk m ρ c 0 0 1 3) (hk m ρ c 1 0 1 3) (hv m ρ c 0 0 1 3) (hv m ρ c 1 0 1 3)) (k0_pay29 (wold (wost m ρ c))) (constant S64x512 .f32 0x00000000#32) = pch m ρ c 1 := rfl

theorem chunk2 (c : Dev nD) : k0_pay40 (k0_pay31 (qF m ρ c 1) (hk m ρ c 0 1 0 0) (hk m ρ c 1 1 0 0) (hv m ρ c 0 1 0 0) (hv m ρ c 1 1 0 0)) (k0_pay33 (k0_pay32 (qF m ρ c 1)) (hk m ρ c 0 1 0 1) (hk m ρ c 1 1 0 1) (hv m ρ c 0 1 0 1) (hv m ρ c 1 1 0 1)) (k0_pay36 (k0_pay34 (qF m ρ c 1)) (k0_pay35 (hk m ρ c 0 1 0 2)) (hk m ρ c 1 1 0 2) (hv m ρ c 0 1 0 2) (hv m ρ c 1 1 0 2)) (k0_pay37 (qF m ρ c 1)) (k0_pay38 (hk m ρ c 0 1 0 3) (hk m ρ c 1 1 0 3)) (k0_pay39 (hv m ρ c 0 1 0 3)) (hv m ρ c 1 1 0 3) (wold (wost m ρ c)) = pch m ρ c 2 := rfl

theorem chunk3 (c : Dev nD) : k0_pay52 (k0_pay50 (qF m ρ c 1) (k0_pay43 (k0_pay41 (qF m ρ c 1)) (k0_pay42 (hk m ρ c 0 1 1 0) (hk m ρ c 1 1 1 0)) (hv m ρ c 0 1 1 0) (hv m ρ c 1 1 1 0)) (k0_pay46 (k0_pay44 (hv m ρ c 0 1 1 1) (hv m ρ c 1 1 1 1)) (k0_pay45 (qF m ρ c 1) (hk m ρ c 0 1 1 1) (hk m ρ c 1 1 1 1))) (k0_pay47 (hv m ρ c 0 1 1 2) (hv m ρ c 1 1 1 2)) (k0_pay48 (qF m ρ c 1) (hk m ρ c 0 1 1 2) (hk m ρ c 1 1 1 2)) (k0_pay49 (qF m ρ c 1) (hk m ρ c 0 1 1 2) (hk m ρ c 1 1 1 2)) (hk m ρ c 0 1 1 3) (hk m ρ c 1 1 1 3) (hv m ρ c 0 1 1 3) (hv m ρ c 1 1 1 3)) (k0_pay51 (wold (wost m ρ c))) (constant S64x512 .f32 0x00000000#32) = pch m ρ c 3 := rfl

end Cert.KernelProof

end
-- ==== Proof.Finish.lean ====
/-
The end of the kernel's run on one device: the reduced rows go round, and every transfer is waited for.
-/
module

public import proofs.«01_k».proof.Proof.Exchange

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Cell → ℕ)

/-! ## The waits on a source's transfers of keys and values -/

theorem nk_heads (d : Dev nD) : (headsM kM d).view.dmaCredit = NK := rfl
theorem nv_heads (d : Dev nD) : (headsM vM d).view.dmaCredit = NK := rfl

/-- The semaphores of the transfers to device `d`, before and after. -/
def sAt (c d : Dev nD) : sProp 𝕄 := iprop(at0 c (.kS d) ∗ at0 c (.vS d))
def sZ (c d : Dev nD) : sProp 𝕄 := iprop(z0 c (.kS d) ∗ z0 c (.vS d))
/-- The heads of device `d` in the staged keys and values. -/
def hds (c d : Dev nD) : sProp 𝕄 := iprop(pt c (headsM kM d) (kst m ρ c) ∗ pt c (headsM vM d) (vst m ρ c))

theorem s_close (c d : Dev nD) (h : ¬(isSrc c ∧ d ≠ c)) : iprop(records m ρ K ∗ sAt c d) ⊢ (|={Set.univ}=> sZ c d : sProp 𝕄) := by
  unfold sAt sZ at0 z0
  iintro ⟨#Hr, A1, A2⟩
  imod (close_unpaid m ρ K (c, .kS d) (if_neg h)) $$ [A1] with Z1
  · isplitr; · iexact Hr
    iexact A1
  imod (close_unpaid m ρ K (c, .vS d) (if_neg h)) $$ [A2] with Z2
  · isplitr; · iexact Hr
    iexact A2
  imodintro
  isplitl [Z1] <;> iassumption

theorem s_wait (c d : Dev nD) (h : isSrc c) (hne : d ≠ c) {sem sem' : DmaSem sig} (hs : SemLoc.dma sem = csem (.kS d)) (hs' : SemLoc.dma sem' = csem (.vS d))
    {src src' dst dst' : Memref sig .tc .vmem S2x128x4x64 .f32} {h1 : src.view.WordExact} {h2 : dst.view.WordExact}
    {h3 : src'.view.WordExact} {h4 : dst'.view.WordExact} (hk : dst = headsM kM d) (hk' : dst' = headsM vM d)
    {α : Type} {Q : α → sProp 𝕄} {kk : PUnit → Prog (TpuEff nD τ sig (Elt F) Λ₀ .tc) α} :
    iprop(records m ρ K ∗ levAts L lv ∗ ow c [] ∗ sAt c d ∗ kvSent c d)
      ⊢ iprop(((ow c [] ∗ sZ c d ∗ hds m ρ c d) -∗ WP c (kk ⟨⟩) Q)
        -∗ WP c (.op (.waitDma2 sem src dst h1 h2) fun _ => .op (.waitDma2 sem' src' dst' h3 h4) kk) Q) := by
  unfold sAt sZ hds kvSent
  iintro ⟨#Hr, #Hl, HO, ⟨A1, A2⟩, C1, C2⟩ HQ
  iapply (wt_dma m ρ K c c (.kS d) (duty_kS c d h hne) hs (hk ▸ nk_heads d) [] (List.forall_mem_nil _)) $$ [HO A1 C1]
  · isplitr; · iexact Hr
    isplitr; · iexact Hl
    isplitl [C1]; · iexact C1
    isplitl [HO] <;> iassumption
  iintro ⟨HO, Z1, P1⟩
  iapply (wt_dma m ρ K c c (.vS d) (duty_vS c d h hne) hs' (hk' ▸ nv_heads d) [] (List.forall_mem_nil _)) $$ [HO A2 C2]
  · isplitr; · iexact Hr
    isplitr; · iexact Hl
    isplitl [C2]; · iexact C2
    isplitl [HO] <;> iassumption
  iintro ⟨HO, Z2, P2⟩
  iapply HQ
  isplitl [HO]; · iexact HO
  isplitl [Z1 Z2]; · isplitl [Z1] <;> iassumption
  dsimp only [payF]
  isplitl [P1] <;> iassumption

/-- The staged keys and values, rejoined. -/
theorem hds_all (c : Dev nD) : iprop(hds m ρ c 0 ∗ hds m ρ c 1 ∗ hds m ρ c 2 ∗ hds m ρ c 3) ⊢ iprop(pt c kM (kst m ρ c) ∗ pt c vM (vst m ρ c)) := by
  unfold hds
  rw [k_heads_all, v_heads_all, bigSep_devs, bigSep_devs]
  iintro ⟨⟨A0, B0⟩, ⟨A1, B1⟩, ⟨A2, B2⟩, A3, B3⟩
  isplitl [A0 A1 A2 A3]
  · isplitl [A0]; · iexact A0
    isplitl [A1]; · iexact A1
    isplitl [A2] <;> iassumption
  · isplitl [B0]; · iexact B0
    isplitl [B1]; · iexact B1
    isplitl [B2] <;> iassumption

def sAts (c : Dev nD) : sProp 𝕄 := iprop(sAt c 0 ∗ sAt c 1 ∗ sAt c 2 ∗ sAt c 3)
def sZs (c : Dev nD) : sProp 𝕄 := iprop(sZ c 0 ∗ sZ c 1 ∗ sZ c 2 ∗ sZ c 3)

theorem eq0_iff : ∀ c : Dev nD, Scalar.cmpi .ne (Scalar.extui (Scalar.cmpi .eq (w2 c) 0#32) : BitVec 32) 0#32 = 1#1 ↔ c = 0 := by decide +kernel
theorem eq2_iff : ∀ c : Dev nD, Scalar.cmpi .ne (Scalar.extui (Scalar.cmpi .eq (w2 c) 2#32) : BitVec 32) 0#32 = 1#1 ↔ c = 2 := by decide +kernel

/-- The reduced rows, in the three shares lent to the transfers. -/
theorem ab_shares (c : Dev nD) (f : Vec F S64x512 .f32) : (pt c abM f : sProp 𝕄)
    ⊣⊢ iprop((abM.view.loc (c : Thread nD τ) ↦[abM.view.set]{shr 0} f) ∗ (abM.view.loc (c : Thread nD τ) ↦[abM.view.set]{shr 1} f)
      ∗ (abM.view.loc (c : Thread nD τ) ↦[abM.view.set]{shr 2} f)) := by
  unfold pt shr
  constructor
  · iintro H
    ihave H := (pointsTo_share (PosShare.mem_left_op_right fullShare)).1 $$ H
    icases H with ⟨H, H0⟩
    ihave H := (pointsTo_share (PosShare.mem_left_op_right _)).1 $$ H
    icases H with ⟨H2, H1⟩
    isplitl [H0]; · iexact H0
    isplitl [H1] <;> iassumption
  · iintro ⟨H0, H1, H2⟩
    iapply (pointsTo_share (PosShare.mem_left_op_right fullShare)).2
    isplitr [H0]
    · iapply (pointsTo_share (PosShare.mem_left_op_right _)).2
      isplitl [H2] <;> iassumption
    · iexact H0

/-! ## The transfers of the reduced rows -/

/-- A share of the reduced rows. -/
def abS (c : Dev nD) (o : Fin 3) : sProp 𝕄 := iprop(abM.view.loc (c : Thread nD τ) ↦[abM.view.set]{shr o} RED m ρ c)

theorem part33 (c : Dev nD) (l : List Cell) {v1 v2 v3 v4} {Q : _ → sProp 𝕄} :
    iprop(records m ρ K ∗ abS m ρ c 0 ∗ asIn c 0 ∗ ow c ((fw c 0, .aR 0) :: l))
      ⊢ iprop((∀ v, (cr1 c (.aS 0) ∗ ow c l) -∗ Q v) -∗ WP c (ap (k0_part33 (F := F)) c v1 v2 v3 v4) Q) := by
  iintro H HQ
  simp only [ap, k0_part33_eq_skeleton]; unfold k0_part33_skel abS
  simp only [Prog.lift, Prog.bind_op, Prog.bind_ret, Prog.pure_eq_ret]
  iapply (a_send m ρ K c _ 0 (dev19_eq c) rfl rfl (och_of c (off4_c c)) _) $$ H
  iintro H
  iapply wp_fin
  iapply HQ; iexact H

theorem part34 (c : Dev nD) (l : List Cell) {v1 v2 v3 v4} {Q : _ → sProp 𝕄} :
    iprop(records m ρ K ∗ abS m ρ c 1 ∗ asIn c 1 ∗ ow c ((fw c 1, .aR 1) :: l))
      ⊢ iprop(((cr1 c (.aS 1) ∗ ow c l) -∗ Q ⟨⟩) -∗ WP c (ap (k0_part34 (F := F)) c v1 v2 v3 v4) Q) := by
  iintro H HQ
  simp only [ap, k0_part34_eq_skeleton]; unfold k0_part34_skel abS
  simp only [Prog.lift, Prog.bind_op, Prog.bind_ret, Prog.pure_eq_ret]
  iapply (a_send m ρ K c _ 1 (dev20_eq c) rfl rfl (och_of c (off4_c c)) _) $$ H
  iintro H
  iapply wp_fin
  iapply HQ; iexact H

theorem part35 (c : Dev nD) (l : List Cell) {v1} {Q : _ → sProp 𝕄} :
    iprop(records m ρ K ∗ abS m ρ c 2 ∗ asIn c 2 ∗ ow c ((fw c 2, .aR 2) :: l))
      ⊢ iprop((∀ v, (cr1 c (.aS 2) ∗ ow c l) -∗ Q v) -∗ WP c (ap (k0_part35 (F := F)) c v1) Q) := by
  iintro H HQ
  simp only [ap, k0_part35_eq_skeleton]; unfold k0_part35_skel abS
  simp only [Prog.lift, Prog.bind_op, Prog.bind_ret, Prog.pure_eq_ret]
  iapply (a_send m ρ K c _ 2 (dev21_eq c) rfl rfl (och_of c (off4_c c)) _) $$ H
  iintro H
  iapply wp_fin
  iapply HQ; iexact H

theorem part37 (c : Dev nD) {v1} {Q : _ → sProp 𝕄} :
    iprop(records m ρ K ∗ levAts L lv ∗ wt c (.aR 0) ∗ ow c [])
      ⊢ iprop((∀ v, (ow c [] ∗ z0 c (.aR 0) ∗ pt c (ochM (bk c 0)) (OUT m ρ)) -∗ Q v) -∗ WP c (ap (k0_part37 (F := F)) c v1) Q) := by
  iintro H HQ
  simp only [ap, k0_part37_eq_skeleton]; unfold k0_part37_skel
  simp only [Prog.lift, Prog.bind_op, Prog.bind_ret, Prog.pure_eq_ret]
  iapply (wt_to m ρ K c (bk c 0) (.aR 0) rfl rfl (nr_och c) (och_of c (off4_c c)) [] (List.forall_mem_nil _)) $$ H
  dsimp only [payF]
  iintro H
  iapply wp_fin
  iapply HQ; iexact H

theorem part38 (c : Dev nD) {v1 v2 v3 v4} {Q : _ → sProp 𝕄} :
    iprop(records m ρ K ∗ levAts L lv ∗ wt c (.aR 1) ∗ ow c [])
      ⊢ iprop((∀ v, (ow c [] ∗ z0 c (.aR 1) ∗ pt c (ochM (bk c 1)) (OUT m ρ)) -∗ Q v) -∗ WP c (ap (k0_part38 (F := F)) c v1 v2 v3 v4) Q) := by
  iintro H HQ
  simp only [ap, k0_part38_eq_skeleton]; unfold k0_part38_skel
  simp only [Prog.lift, Prog.bind_op, Prog.bind_ret, Prog.pure_eq_ret]
  iapply (wt_to m ρ K c (bk c 1) (.aR 1) rfl rfl (nr_och c) (och_of c (off4_c c)) [] (List.forall_mem_nil _)) $$ H
  dsimp only [payF]
  iintro H
  iapply wp_fin
  iapply HQ; iexact H

theorem part39 (c : Dev nD) {v1 v2 v3} {Q : _ → sProp 𝕄} :
    iprop(records m ρ K ∗ levAts L lv ∗ wt c (.aR 2) ∗ ow c [] ∗ kvKeep m ρ c ∗ sAts c)
      ⊢ iprop(((ow c [] ∗ z0 c (.aR 2) ∗ pt c (ochM (bk c 2)) (OUT m ρ) ∗ (pt c kM (kst m ρ c) ∗ pt c vM (vst m ρ c)) ∗ sZs c) -∗ Q ⟨⟩)
        -∗ WP c (ap (k0_part39 (F := F)) c (w2 c) v1 v2 v3) Q) := by
  unfold sAts sZs
  iintro ⟨#Hr, #Hl, W, HO, Hk, Hs⟩ HQ
  simp only [ap, k0_part39_eq_skeleton]; unfold k0_part39_skel
  simp only [Prog.lift, Prog.bind_op, Prog.bind_ret, Prog.pure_eq_ret]
  iapply (wt_to m ρ K c (bk c 2) (.aR 2) rfl rfl (nr_och c) (och_of c (off4_c c)) [] (List.forall_mem_nil _)) $$ [W HO]
  · isplitr; · iexact Hr
    isplitr; · iexact Hl
    isplitl [W] <;> iassumption
  dsimp only [payF]
  iintro ⟨HO, HZ, HP⟩
  by_cases h0 : c = 0
  · subst h0
    rw [dif_pos ((eq0_iff 0).2 rfl), dif_neg (fun h => absurd ((eq2_iff 0).1 h) (by decide))]
    simp only [k0_part7_eq_skeleton, k0_part8_eq_skeleton, k0_part7_skel, k0_part8_skel, Prog.lift, Prog.bind_op, Prog.bind_ret, Prog.pure_eq_ret]
    ihave Hk := (Entails.of_eq (kvKeep_0 m ρ)) $$ Hk
    icases Hk with ⟨Dk, Dv, S1, S2, S3⟩
    icases Hs with ⟨A0, A1, A2, A3⟩
    iapply (s_wait m ρ K 0 1 (by decide) (by decide) rfl rfl rfl rfl) $$ [HO A1 S1]
    · isplitr; · iexact Hr
      isplitr; · iexact Hl
      isplitl [HO]; · iexact HO
      isplitl [A1] <;> iassumption
    iintro ⟨HO, Z1, D1⟩
    iapply (s_wait m ρ K 0 2 (by decide) (by decide) rfl rfl rfl rfl) $$ [HO A2 S2]
    · isplitr; · iexact Hr
      isplitr; · iexact Hl
      isplitl [HO]; · iexact HO
      isplitl [A2] <;> iassumption
    iintro ⟨HO, Z2, D2⟩
    iapply (s_wait m ρ K 0 3 (by decide) (by decide) rfl rfl rfl rfl) $$ [HO A3 S3]
    · isplitr; · iexact Hr
      isplitr; · iexact Hl
      isplitl [HO]; · iexact HO
      isplitl [A3] <;> iassumption
    iintro ⟨HO, Z3, D3⟩
    iapply fupd_wp
    imod (s_close m ρ K 0 0 (fun h => h.2 rfl)) $$ [A0] with Z0
    · isplitr <;> iassumption
    imodintro
    ihave HD := (hds_all m ρ 0) $$ [Dk Dv D1 D2 D3]
    · isplitl [Dk Dv]; · unfold hds; isplitl [Dk] <;> iassumption
      isplitl [D1]; · iexact D1
      isplitl [D2]; · iexact D2
      iexact D3
    iapply wp_fin
    iapply HQ
    isplitl [HO]; · iexact HO
    isplitl [HZ]; · iexact HZ
    isplitl [HP]; · iexact HP
    isplitl [HD]; · iexact HD
    isplitl [Z0]; · iexact Z0
    isplitl [Z1]; · iexact Z1
    isplitl [Z2] <;> iassumption
  by_cases h2 : c = 2
  · subst h2
    rw [dif_neg (fun h => absurd ((eq0_iff 2).1 h) (by decide)), dif_pos ((eq2_iff 2).2 rfl)]
    simp only [k0_part9_eq_skeleton, k0_part10_eq_skeleton, k0_part9_skel, k0_part10_skel, Prog.lift, Prog.bind_op, Prog.bind_ret, Prog.pure_eq_ret]
    ihave Hk := (Entails.of_eq (kvKeep_2 m ρ)) $$ Hk
    icases Hk with ⟨Dk, Dv, S0, S1, S3⟩
    icases Hs with ⟨A0, A1, A2, A3⟩
    iapply (s_wait m ρ K 2 0 (by decide) (by decide) rfl rfl rfl rfl) $$ [HO A0 S0]
    · isplitr; · iexact Hr
      isplitr; · iexact Hl
      isplitl [HO]; · iexact HO
      isplitl [A0] <;> iassumption
    iintro ⟨HO, Z0, D0⟩
    iapply (s_wait m ρ K 2 1 (by decide) (by decide) rfl rfl rfl rfl) $$ [HO A1 S1]
    · isplitr; · iexact Hr
      isplitr; · iexact Hl
      isplitl [HO]; · iexact HO
      isplitl [A1] <;> iassumption
    iintro ⟨HO, Z1, D1⟩
    iapply (s_wait m ρ K 2 3 (by decide) (by decide) rfl rfl rfl rfl) $$ [HO A3 S3]
    · isplitr; · iexact Hr
      isplitr; · iexact Hl
      isplitl [HO]; · iexact HO
      isplitl [A3] <;> iassumption
    iintro ⟨HO, Z3, D3⟩
    iapply fupd_wp
    imod (s_close m ρ K 2 2 (fun h => h.2 rfl)) $$ [A2] with Z2
    · isplitr <;> iassumption
    imodintro
    ihave HD := (hds_all m ρ 2) $$ [Dk Dv D0 D1 D3]
    · isplitl [D0]; · iexact D0
      isplitl [D1]; · iexact D1
      isplitl [Dk Dv]; · unfold hds; isplitl [Dk] <;> iassumption
      iexact D3
    iapply wp_fin
    iapply HQ
    isplitl [HO]; · iexact HO
    isplitl [HZ]; · iexact HZ
    isplitl [HP]; · iexact HP
    isplitl [HD]; · iexact HD
    isplitl [Z0]; · iexact Z0
    isplitl [Z1]; · iexact Z1
    isplitl [Z2] <;> iassumption
  rw [dif_neg (fun h => h0 ((eq0_iff c).1 h)), dif_neg (fun h => h2 ((eq2_iff c).1 h))]
  ihave Hk := (Entails.of_eq (kvKeep_ne m ρ c h0 h2)) $$ Hk
  icases Hs with ⟨A0, A1, A2, A3⟩
  iapply fupd_wp
  imod (s_close m ρ K c 0 (fun h => h.1.elim h0 h2)) $$ [A0] with Z0
  · isplitr <;> iassumption
  imod (s_close m ρ K c 1 (fun h => h.1.elim h0 h2)) $$ [A1] with Z1
  · isplitr <;> iassumption
  imod (s_close m ρ K c 2 (fun h => h.1.elim h0 h2)) $$ [A2] with Z2
  · isplitr <;> iassumption
  imod (s_close m ρ K c 3 (fun h => h.1.elim h0 h2)) $$ [A3] with Z3
  · isplitr <;> iassumption
  imodintro
  iapply wp_fin
  iapply HQ
  isplitl [HO]; · iexact HO
  isplitl [HZ]; · iexact HZ
  isplitl [HP]; · iexact HP
  isplitl [Hk]; · iexact Hk
  isplitl [Z0]; · iexact Z0
  isplitl [Z1]; · iexact Z1
  isplitl [Z2] <;> iassumption

/-! ## The waits on the device's own transfers -/

theorem part40 (c : Dev nD) {v1} {Q : _ → sProp 𝕄} :
    iprop(records m ρ K ∗ levAts L lv ∗ wt c (.rS 0) ∗ ow c [])
      ⊢ iprop((∀ v, (ow c [] ∗ z0 c (.rS 0) ∗ pt c (pchM (fw c 0)) (PW m ρ c)) -∗ Q v) -∗ WP c (ap (k0_part40 (F := F)) c v1) Q) := by
  iintro H HQ
  simp only [ap, k0_part40_eq_skeleton]; unfold k0_part40_skel
  simp only [Prog.lift, Prog.bind_op, Prog.bind_ret, Prog.pure_eq_ret]
  iapply (wt_to m ρ K c c (.rS 0) rfl rfl (nr_pch (fw c 0)) (pch_of (fw c 0) (off1_0 c)) [] (List.forall_mem_nil _)) $$ H
  dsimp only [payF]
  iintro H
  iapply wp_fin
  iapply HQ; iexact H

theorem part41 (c : Dev nD) {v1 v2 v3} {Q : _ → sProp 𝕄} :
    iprop(records m ρ K ∗ levAts L lv ∗ wt c (.aS 0) ∗ wt c (.rS 1) ∗ ow c [])
      ⊢ iprop((∀ v, (ow c [] ∗ z0 c (.aS 0) ∗ abS m ρ c 0 ∗ z0 c (.rS 1) ∗ pt c (pchM (fw c 1)) (PW m ρ c)) -∗ Q v)
        -∗ WP c (ap (k0_part41 (F := F)) c v1 v2 v3) Q) := by
  iintro ⟨#Hr, #Hl, W1, W2, HO⟩ HQ
  simp only [ap, k0_part41_eq_skeleton]; unfold k0_part41_skel abS
  simp only [Prog.lift, Prog.bind_op, Prog.bind_ret, Prog.pure_eq_ret]
  iapply (wt_to m ρ K c c (.aS 0) rfl rfl nr_ab rfl [] (List.forall_mem_nil _)) $$ [W1 HO]
  · isplitr; · iexact Hr
    isplitr; · iexact Hl
    isplitl [W1] <;> iassumption
  dsimp only [payF]
  iintro ⟨HO, Z1, P1⟩
  iapply (wt_to m ρ K c c (.rS 1) rfl rfl (nr_pch (fw c 1)) (pch_of (fw c 1) (off1_1 c)) [] (List.forall_mem_nil _)) $$ [W2 HO]
  · isplitr; · iexact Hr
    isplitr; · iexact Hl
    isplitl [W2] <;> iassumption
  dsimp only [payF]
  iintro ⟨HO, Z2, P2⟩
  iapply wp_fin
  iapply HQ
  isplitl [HO]; · iexact HO
  isplitl [Z1]; · iexact Z1
  isplitl [P1]; · iexact P1
  isplitl [Z2] <;> iassumption

theorem part43 (c : Dev nD) {v1} {Q : _ → sProp 𝕄} :
    iprop(records m ρ K ∗ levAts L lv ∗ wt c (.aS 1) ∗ wt c (.rS 2) ∗ ow c [])
      ⊢ iprop((∀ v, (ow c [] ∗ z0 c (.aS 1) ∗ abS m ρ c 1 ∗ z0 c (.rS 2) ∗ pt c (pchM (fw c 2)) (PW m ρ c)) -∗ Q v)
        -∗ WP c (ap (k0_part43 (F := F)) c v1) Q) := by
  iintro ⟨#Hr, #Hl, W1, W2, HO⟩ HQ
  simp only [ap, k0_part43_eq_skeleton]; unfold k0_part43_skel abS
  simp only [Prog.lift, Prog.bind_op, Prog.bind_ret, Prog.pure_eq_ret]
  iapply (wt_to m ρ K c c (.aS 1) rfl rfl nr_ab rfl [] (List.forall_mem_nil _)) $$ [W1 HO]
  · isplitr; · iexact Hr
    isplitr; · iexact Hl
    isplitl [W1] <;> iassumption
  dsimp only [payF]
  iintro ⟨HO, Z1, P1⟩
  iapply (wt_to m ρ K c c (.rS 2) rfl rfl (nr_pch (fw c 2)) (pch_of (fw c 2) (off1_2 c)) [] (List.forall_mem_nil _)) $$ [W2 HO]
  · isplitr; · iexact Hr
    isplitr; · iexact Hl
    isplitl [W2] <;> iassumption
  dsimp only [payF]
  iintro ⟨HO, Z2, P2⟩
  iapply wp_fin
  iapply HQ
  isplitl [HO]; · iexact HO
  isplitl [Z1]; · iexact Z1
  isplitl [P1]; · iexact P1
  isplitl [Z2] <;> iassumption

end Cert.KernelProof

end
-- ==== Proof.RunBody.lean ====
/-
The whole of the kernel's body, on one device.
-/
module

public import proofs.«01_k».proof.Proof.Compute
public import proofs.«01_k».proof.Proof.Finish

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Cell → ℕ)

theorem wp_seq {α β : Type} (c : Dev nD) (p : Prog (TpuEff nD τ sig (Elt F) Λ₀ .tc) β) (k : β → Prog (TpuEff nD τ sig (Elt F) Λ₀ .tc) α) (Q : α → sProp 𝕄) :
    WP c p (fun a => WP c (k a) Q) ⊢ WP c (p >>= k) Q := by
  unfold WP; rw [wp_bind]

/-- What device `c` starts the kernel's body with. -/
def begins (c : Dev nD) : sProp 𝕄 :=
  iprop(ow c (pay c) ∗ (gv c 0 ∗ gv c 1 ∗ gv c 2) ∗ barIn c
    ∗ (pt c xM (xst m ρ c) ∗ pt c wqM (wqst m ρ c)) ∗ (pt c kM (kst m ρ c) ∗ pt c vM (vst m ρ c) ∗ kvGive c c ∗ kvT c) ∗ pt c woM (wost m ρ c)
    ∗ (kvCr c 0 ∗ kvCr c 1) ∗ (ptE c (pchM 0) ∗ ptE c (pchM 1) ∗ ptE c (pchM 2) ∗ ptE c (pchM 3)) ∗ ptE c abM ∗ ptE c (ochM c)
    ∗ ((tk (c, .rS 0) c ∗ tk (fw c 0, .rR 0) c) ∗ (tk (c, .rS 1) c ∗ tk (fw c 1, .rR 1) c) ∗ (tk (c, .rS 2) c ∗ tk (fw c 2, .rR 2) c))
    ∗ ((tk (c, .aS 0) c ∗ tk (fw c 0, .aR 0) c) ∗ (tk (c, .aS 1) c ∗ tk (fw c 1, .aR 1) c) ∗ (tk (c, .aS 2) c ∗ tk (fw c 2, .aR 2) c))
    ∗ (wt c (.rR 0) ∗ wt c (.rR 1) ∗ wt c (.rR 2)) ∗ (wt c (.aR 0) ∗ wt c (.aR 1) ∗ wt c (.aR 2))
    ∗ (at0 c (.rS 0) ∗ at0 c (.rS 1) ∗ at0 c (.rS 2)) ∗ (at0 c (.aS 0) ∗ at0 c (.aS 1) ∗ at0 c (.aS 2)) ∗ sAts c)

/-- Every semaphore of device `c`, spent. -/
def spent (c : Dev nD) : sProp 𝕄 :=
  iprop(z0 c .bar ∗ (kvZ c 0 ∗ kvZ c 1) ∗ (z0 c (.rR 0) ∗ z0 c (.rR 1) ∗ z0 c (.rR 2)) ∗ (z0 c (.aR 0) ∗ z0 c (.aR 1) ∗ z0 c (.aR 2))
    ∗ (z0 c (.rS 0) ∗ z0 c (.rS 1) ∗ z0 c (.rS 2)) ∗ (z0 c (.aS 0) ∗ z0 c (.aS 1) ∗ z0 c (.aS 2)) ∗ sZs c)

/-- What device `c` ends the kernel's body with. -/
def ends (c : Dev nD) : sProp 𝕄 :=
  iprop(ow c [] ∗ spent c
    ∗ ((pt c xM (xst m ρ c) ∗ pt c wqM (wqst m ρ c)) ∗ (pt c kM (kst m ρ c) ∗ pt c vM (vst m ρ c)) ∗ pt c woM (wost m ρ c) ∗ pt c oM (OUT m ρ))
    ∗ kvAll m ρ c ∗ pt c pwM (PW m ρ c) ∗ pt c rbM (RB m ρ c) ∗ pt c abM (RED m ρ c))

theorem rsIn_of (c : Dev nD) (o : Fin 3) : iprop(got c o ∗ (tk (c, .rS o) c ∗ tk (fw c o, .rR o) c) ∗ tk (c, .aS o) c ∗ tk (fw c o, .aR o) c)
    ⊢ (iprop(rsIn c o ∗ asIn c o) : sProp 𝕄) := by
  unfold got rsIn asIn
  iintro ⟨⟨A, B⟩, ⟨C, D⟩, E, G⟩
  isplitl [A C D]
  · isplitl [A]; · iexact A
    isplitl [C] <;> iassumption
  · isplitl [B]; · iexact B
    isplitl [E] <;> iassumption

theorem out_all (c : Dev nD) : iprop(pt c (ochM c) (OUT m ρ) ∗ pt c (ochM (bk c 0)) (OUT m ρ) ∗ pt c (ochM (bk c 1)) (OUT m ρ) ∗ pt c (ochM (bk c 2)) (OUT m ρ))
    ⊢ (pt c oM (OUT m ρ) : sProp 𝕄) := by
  rw [show bk c 0 = fw c 2 by revert c; decide, show bk c 1 = fw c 1 by revert c; decide, show bk c 2 = fw c 0 by revert c; decide,
    o_chunks_all, bigSep_from c]
  iintro ⟨A, B, C, D⟩
  isplitl [A]; · iexact A
  isplitl [D]; · iexact D
  isplitl [C] <;> iassumption

theorem part_all (c : Dev nD) : iprop(pt c (pchM c) (PW m ρ c) ∗ pt c (pchM (fw c 0)) (PW m ρ c) ∗ pt c (pchM (fw c 1)) (PW m ρ c) ∗ pt c (pchM (fw c 2)) (PW m ρ c))
    ⊢ (pt c pwM (PW m ρ c) : sProp 𝕄) := by
  rw [pw_chunks_all, bigSep_from c]

theorem wt_of (c : Dev nD) (k : CK) : iprop(cr1 c k ∗ at0 c k) ⊢ (wt c k : sProp 𝕄) := by unfold wt; exact .rfl

set_option maxHeartbeats 1000000 in
/-- The whole body, on one device. -/
theorem run_body (c : Dev nD) {Q : PUnit → sProp 𝕄} :
    iprop(records m ρ K ∗ levAts L lv ∗ begins m ρ c) ⊢ iprop((ends m ρ c -∗ Q ⟨⟩) -∗ WP c (ap (cc0_body (F := F))) Q) := by
  unfold begins
  rw [show pay c = (fw c 0, .bar) :: (fw c 1, .bar) :: (fw c 2, .bar) :: (payKV c ++ (payR c ++ payA c)) from rfl]
  iintro ⟨#Hr, #Hl, HO, ⟨G0, G1, G2⟩, HB, Hq, Hkv, W, ⟨C0, C1⟩, ⟨P0, P1, P2, P3⟩, AB, OC, ⟨RT0, RT1, RT2⟩, ⟨AT0, AT1, AT2⟩,
    ⟨WR0, WR1, WR2⟩, ⟨WA0, WA1, WA2⟩, ⟨RS0, RS1, RS2⟩, ⟨AS0, AS1, AS2⟩, HS⟩ HQ
  rw [show ap (cc0_body (F := F)) = ap (cc0_body_skel (F := F)) from congrArg (fun f => ap f) cc0_body_eq_skeleton]
  unfold ap cc0_body_skel
  iapply wp_seq
  rw [k0_part44_eq_skeleton]
  unfold k0_part44_skel
  iapply wp_seq
  iapply (part11 m ρ K c _) $$ [HO G0 G1]
  · isplitr; · iexact Hr
    isplitl [HO]; · iexact HO
    isplitl [G0]; · iexact G0
    iexact G1
  iintro HO
  try dsimp only
  iapply wp_seq
  iapply (part12 m ρ K c _ _ _) $$ [HO G2 HB Hq Hkv]
  · isplitr; · iexact Hr
    isplitr; · iexact Hl
    isplitl [HO]; · iexact HO
    isplitl [G2]; · iexact G2
    isplitl [HB]; · iexact HB
    isplitl [Hq]; · iexact Hq
    unfold kvIn; iexact Hkv
  iintro ⟨HO, ZB, g0, g1, g2, Hq, Hkeep, Hown⟩
  try dsimp only
  iapply wp_seq
  iapply (part13 m ρ K c _) $$ [HO C0 C1 Hown]
  · isplitr; · iexact Hr
    isplitr; · iexact Hl
    isplitl [HO]; · iexact HO
    isplitl [C0]; · iexact C0
    isplitl [C1]; · iexact C1
    iexact Hown
  iintro ⟨HO, ZK0, ZK1, H⟩
  try dsimp only
  iapply wp_seq
  iapply (part14 m ρ c _ _) $$ [H]
  · iexact H
  iintro H
  try dsimp only
  iapply wp_seq
  iapply (part15 m ρ c _ _ _ _) $$ [H]
  · iexact H
  iintro H
  try dsimp only
  iapply wp_seq
  iapply (part16 m ρ c _ _ _ _ _ _ _ (chunk0 m ρ c)) $$ [H W P0]
  · isplitl [H]; · iexact H
    isplitl [W]; · iexact W
    iexact P0
  iintro ⟨H, W, P0⟩
  try dsimp only
  iapply wp_seq
  iapply (part17 m ρ c _ _ _ _) $$ [H]
  · iexact H
  iintro H
  try dsimp only
  iapply wp_seq
  iapply (part18 m ρ c _ _ _) $$ [H]
  · iexact H
  iintro H
  try dsimp only
  iapply wp_seq
  iapply (part19 m ρ c _ _ _ _ _ _) $$ [H W]
  · isplitl [H]; · iexact H
    iexact W
  iintro ⟨H, W⟩
  try dsimp only
  iapply wp_seq
  iapply (part20 m ρ c _ _ _ _ (chunk1 m ρ c)) $$ [H P1]
  · isplitl [H]; · iexact H
    iexact P1
  iintro ⟨H, P1⟩
  try dsimp only
  iapply wp_seq
  iapply (part21 m ρ c _ _) $$ [H]
  · iexact H
  iintro H
  try dsimp only
  iapply wp_seq
  iapply (part22 m ρ c _ _ _ _) $$ [H]
  · iexact H
  iintro H
  try dsimp only
  iapply wp_seq
  iapply (part23 m ρ c _ _ _ _ _ _ _ (chunk2 m ρ c)) $$ [H W P2]
  · isplitl [H]; · iexact H
    isplitl [W]; · iexact W
    iexact P2
  iintro ⟨H, W, P2⟩
  try dsimp only
  iapply wp_seq
  iapply (part24 m ρ c _ _ _ _) $$ [H]
  · iexact H
  iintro H
  try dsimp only
  iapply wp_seq
  iapply (part25 m ρ c _ _ _) $$ [H]
  · iexact H
  iintro H
  try dsimp only
  iapply wp_seq
  iapply (part26 m ρ c _ _ _ _ _ _) $$ [H W]
  · isplitl [H]; · iexact H
    iexact W
  iintro ⟨H, W⟩
  try dsimp only
  ihave R := (rsIn_of c 0) $$ [g0 RT0 AT0]
  · isplitl [g0]; · iexact g0
    isplitl [RT0]; · iexact RT0
    iexact AT0
  icases R with ⟨R0, A0⟩
  ihave R := (rsIn_of c 1) $$ [g1 RT1 AT1]
  · isplitl [g1]; · iexact g1
    isplitl [RT1]; · iexact RT1
    iexact AT1
  icases R with ⟨R1, A1⟩
  ihave R := (rsIn_of c 2) $$ [g2 RT2 AT2]
  · isplitl [g2]; · iexact g2
    isplitl [RT2]; · iexact RT2
    iexact AT2
  icases R with ⟨R2, A2⟩
  iapply wp_seq
  iapply (part27 m ρ K c _ _ _ (chunk3 m ρ c)) $$ [P0 P1 P2 P3 R0 HO]
  · isplitr; · iexact Hr
    isplitl [P0 P1 P2 P3]
    · isplitl [P0]; · iexact P0
      isplitl [P1]; · iexact P1
      isplitl [P2] <;> iassumption
    isplitl [R0]; · iexact R0
    iexact HO
  iintro %v
  obtain ⟨w0, w1, w2, w3, w4⟩ := v
  iintro ⟨Pc, P1, P2, CR0, HO⟩
  try dsimp only
  iapply wp_seq
  iapply (part28 m ρ K c _) $$ [P1 R1 HO]
  · isplitr; · iexact Hr
    isplitl [P1]; · iexact P1
    isplitl [R1]; · iexact R1
    iexact HO
  iintro ⟨CR1, HO⟩
  try dsimp only
  iapply wp_seq
  iapply (part29 m ρ K c ) $$ [P2 R2 WR0 HO]
  · isplitr; · iexact Hr
    isplitr; · iexact Hl
    isplitl [P2]; · iexact P2
    isplitl [R2]; · iexact R2
    isplitl [WR0]; · iexact WR0
    iexact HO
  iintro %v
  obtain ⟨w0, w1⟩ := v
  iintro ⟨CR2, HO, ZR0, B0⟩
  try dsimp only
  iapply wp_seq
  iapply (part30 m ρ K c ) $$ [Pc B0 WR1 WR2 HO]
  · isplitr; · iexact Hr
    isplitr; · iexact Hl
    isplitl [Pc]; · iexact Pc
    isplitl [B0]; · iexact B0
    isplitl [WR1]; · iexact WR1
    isplitl [WR2]; · iexact WR2
    iexact HO
  iintro ⟨HO, ZR1, ZR2, Pc, B0, B1, B2⟩
  try dsimp only
  iapply wp_seq
  iapply (part31 m ρ c) $$ [B1 B2 AB]
  · isplitl [B1]; · iexact B1
    isplitl [B2]; · iexact B2
    iexact AB
  iintro %u %v %w ⟨B1, B2, AB⟩
  dsimp only
  iapply wp_seq
  iapply (part32 m ρ c ) $$ [OC]
  · iexact OC
  iintro %v
  obtain ⟨w0, w1, w2⟩ := v
  iintro OC
  try dsimp only
  ihave AB := (ab_shares c (RED m ρ c)).1 $$ AB
  icases AB with ⟨S0, S1, S2⟩
  rw [show payA c = [(fw c 0, .aR 0), (fw c 1, .aR 1), (fw c 2, .aR 2)] from rfl]
  iapply wp_seq
  iapply (part33 m ρ K c _) $$ [S0 A0 HO]
  · isplitr; · iexact Hr
    isplitl [S0]; · unfold abS; iexact S0
    isplitl [A0]; · iexact A0
    iexact HO
  iintro %v
  obtain ⟨w0, w1, w2⟩ := v
  iintro ⟨CA0, HO⟩
  try dsimp only
  iapply wp_seq
  iapply (part34 m ρ K c _) $$ [S1 A1 HO]
  · isplitr; · iexact Hr
    isplitl [S1]; · unfold abS; iexact S1
    isplitl [A1]; · iexact A1
    iexact HO
  iintro ⟨CA1, HO⟩
  try dsimp only
  iapply wp_seq
  iapply (part35 m ρ K c _) $$ [S2 A2 HO]
  · isplitr; · iexact Hr
    isplitl [S2]; · unfold abS; iexact S2
    isplitl [A2]; · iexact A2
    iexact HO
  iintro %v
  obtain ⟨w0, w1, w2, w3⟩ := v
  iintro ⟨CA2, HO⟩
  try dsimp only
  iapply wp_seq
  rw [k0_part36_eq_skeleton]
  unfold k0_part36_skel
  simp only [Prog.pure_eq_ret]
  iapply wp_fin
  iapply wp_seq
  iapply (part37 m ρ K c ) $$ [WA0 HO]
  · isplitr; · iexact Hr
    isplitr; · iexact Hl
    isplitl [WA0]; · iexact WA0
    iexact HO
  iintro %v
  obtain ⟨w0, w1, w2⟩ := v
  iintro ⟨HO, ZA0, O0⟩
  try dsimp only
  iapply wp_seq
  iapply (part38 m ρ K c ) $$ [WA1 HO]
  · isplitr; · iexact Hr
    isplitr; · iexact Hl
    isplitl [WA1]; · iexact WA1
    iexact HO
  iintro %v
  obtain ⟨w0, w1, w2⟩ := v
  iintro ⟨HO, ZA1, O1⟩
  try dsimp only
  iapply wp_seq
  iapply (part39 m ρ K c ) $$ [WA2 HO Hkeep HS]
  · isplitr; · iexact Hr
    isplitr; · iexact Hl
    isplitl [WA2]; · iexact WA2
    isplitl [HO]; · iexact HO
    isplitl [Hkeep]; · iexact Hkeep
    iexact HS
  iintro ⟨HO, ZA2, O2, Hkv, ZS⟩
  try dsimp only
  ihave RS0 := (wt_of c (.rS 0)) $$ [CR0 RS0]
  · isplitl [CR0] <;> iassumption
  ihave AS0 := (wt_of c (.aS 0)) $$ [CA0 AS0]
  · isplitl [CA0] <;> iassumption
  ihave RS1 := (wt_of c (.rS 1)) $$ [CR1 RS1]
  · isplitl [CR1] <;> iassumption
  ihave AS1 := (wt_of c (.aS 1)) $$ [CA1 AS1]
  · isplitl [CA1] <;> iassumption
  ihave RS2 := (wt_of c (.rS 2)) $$ [CR2 RS2]
  · isplitl [CR2] <;> iassumption
  ihave AS2 := (wt_of c (.aS 2)) $$ [CA2 AS2]
  · isplitl [CA2] <;> iassumption
  iapply wp_seq
  iapply (part40 m ρ K c ) $$ [RS0 HO]
  · isplitr; · iexact Hr
    isplitr; · iexact Hl
    isplitl [RS0]; · iexact RS0
    iexact HO
  iintro %v
  obtain ⟨w0, w1⟩ := v
  iintro ⟨HO, ZRS0, P0⟩
  try dsimp only
  iapply wp_seq
  iapply (part41 m ρ K c ) $$ [AS0 RS1 HO]
  · isplitr; · iexact Hr
    isplitr; · iexact Hl
    isplitl [AS0]; · iexact AS0
    isplitl [RS1]; · iexact RS1
    iexact HO
  iintro %v
  obtain ⟨w0, w1, w2, w3⟩ := v
  iintro ⟨HO, ZAS0, S0, ZRS1, P1⟩
  try dsimp only
  iapply wp_seq
  rw [k0_part42_eq_skeleton]
  unfold k0_part42_skel
  simp only [Prog.pure_eq_ret]
  iapply wp_fin
  iapply wp_seq
  iapply (part43 m ρ K c ) $$ [AS1 RS2 HO]
  · isplitr; · iexact Hr
    isplitr; · iexact Hl
    isplitl [AS1]; · iexact AS1
    isplitl [RS2]; · iexact RS2
    iexact HO
  iintro %v
  iintro ⟨HO, ZAS1, S1, ZRS2, P2⟩
  try dsimp only
  iapply wp_fin
  dsimp only
  simp only [Prog.lift, Prog.bind_op, Prog.bind_ret, Prog.pure_eq_ret]
  iapply (wt_to m ρ K c c (.aS 2) rfl rfl nr_ab rfl [] (List.forall_mem_nil _)) $$ [AS2 HO]
  · isplitr; · iexact Hr
    isplitr; · iexact Hl
    isplitl [AS2]; · iexact AS2
    iexact HO
  dsimp only [payF]
  iintro ⟨HO, ZAS2, S2⟩
  iapply wp_fin
  iapply HQ
  unfold ends spent abS
  isplitl [HO]; · iexact HO
  isplitl [ZB ZK0 ZK1 ZR0 ZR1 ZR2 ZA0 ZA1 ZA2 ZRS0 ZRS1 ZRS2 ZAS0 ZAS1 ZAS2 ZS]
  · isplitl [ZB]; · iexact ZB
    isplitl [ZK0 ZK1]; · isplitl [ZK0] <;> iassumption
    isplitl [ZR0 ZR1 ZR2]
    · isplitl [ZR0]; · iexact ZR0
      isplitl [ZR1] <;> iassumption
    isplitl [ZA0 ZA1 ZA2]
    · isplitl [ZA0]; · iexact ZA0
      isplitl [ZA1] <;> iassumption
    isplitl [ZRS0 ZRS1 ZRS2]
    · isplitl [ZRS0]; · iexact ZRS0
      isplitl [ZRS1] <;> iassumption
    isplitl [ZAS0 ZAS1 ZAS2]
    · isplitl [ZAS0]; · iexact ZAS0
      isplitl [ZAS1] <;> iassumption
    iexact ZS
  isplitl [Hq Hkv W OC O0 O1 O2]
  · isplitl [Hq]; · iexact Hq
    isplitl [Hkv]; · iexact Hkv
    isplitl [W]; · iexact W
    iapply (out_all m ρ c)
    isplitl [OC]; · iexact OC
    isplitl [O0]; · iexact O0
    isplitl [O1] <;> iassumption
  isplitl [H]; · iexact H
  isplitl [Pc P0 P1 P2]
  · iapply (part_all m ρ c)
    isplitl [Pc]; · iexact Pc
    isplitl [P0]; · iexact P0
    isplitl [P1] <;> iassumption
  isplitl [B0 B1 B2]
  · iapply (Entails.of_eq (rb_slots c _).symm)
    isplitl [B0]; · iexact B0
    isplitl [B1] <;> iassumption
  · iapply (ab_shares c (RED m ρ c)).2
    isplitl [S0]; · iexact S0
    isplitl [S1] <;> iassumption

end Cert.KernelProof

end
-- ==== Proof.Deal.lean ====
/-
What the launch deals the devices: the cells at their first round, to every device the tokens of the duties it pays, its
places and its credits.
-/
module

public import proofs.«01_k».proof.Proof.RunBody
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Cell → ℕ)

/-! ## The kinds of cell, in one order -/

theorem sepA (P Q R : sProp 𝕄) : iprop((P ∗ Q) ∗ R) = iprop(P ∗ Q ∗ R) := Entails.antisymm BI.sep_assoc BI.sep_assoc'

def kinds : List CK :=
  [.kR 0, .vR 0, .kR 1, .vR 1, .rR 0, .rR 1, .rR 2, .aR 0, .aR 1, .aR 2, .rS 0, .rS 1, .rS 2, .aS 0, .aS 1, .aS 2,
    .kS 0, .vS 0, .kS 1, .vS 1, .kS 2, .vS 2, .kS 3, .vS 3]

theorem kinds_univ : (Finset.univ : Finset CK) = (CK.bar :: kinds).toFinset := by decide
theorem kinds_nodup : (CK.bar :: kinds).Nodup := by decide

theorem bigSep_list (Φ : CK → sProp 𝕄) : bigSep Finset.univ Φ = BI.bigSepL (CK.bar :: kinds) Φ := bigSep_univ_eq_bigSepL _ kinds_univ kinds_nodup Φ
theorem bigSep_kinds (Φ : CK → sProp 𝕄) : bigSep Finset.univ Φ
    = iprop(Φ .bar ∗ ((Φ (.kR 0) ∗ Φ (.vR 0)) ∗ (Φ (.kR 1) ∗ Φ (.vR 1))) ∗ (Φ (.rR 0) ∗ Φ (.rR 1) ∗ Φ (.rR 2)) ∗ (Φ (.aR 0) ∗ Φ (.aR 1) ∗ Φ (.aR 2))
      ∗ (Φ (.rS 0) ∗ Φ (.rS 1) ∗ Φ (.rS 2)) ∗ (Φ (.aS 0) ∗ Φ (.aS 1) ∗ Φ (.aS 2))
      ∗ (Φ (.kS 0) ∗ Φ (.vS 0)) ∗ (Φ (.kS 1) ∗ Φ (.vS 1)) ∗ (Φ (.kS 2) ∗ Φ (.vS 2)) ∗ (Φ (.kS 3) ∗ Φ (.vS 3))) := by
  rw [bigSep_list]; simp only [sepA]; rfl

/-- The kernel's own semaphores. -/
def osem (i : Fin 24) : SemLoc sig := .dma ⟨6 + i.val, by have := i.isLt; show 6 + i.val < 30; omega⟩

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = BI.bigSepL kinds fun k => semVal (kcell (c, k)) 0 := by
  rw [Pipeline.ownSems0_eq_of_list c osem [8, 9, 10, 11, 15, 16, 17, 21, 22, 23, 12, 13, 14, 18, 19, 20, 0, 1, 2, 3, 4, 5, 6, 7] (by decide) (by decide)]; rfl
theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl
/-- All a device's cells, at zero. -/
theorem sems0_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_list]; rfl
theorem spent_eq (c : Dev nD) : (spent c : sProp 𝕄)
    = iprop(unscopedSems0 c ∗ Pipeline.ownSems0 (Ix := Unit) (Name := ℕ) (U := UU) (Lvl := ℕ) (Val := Elt F) (τ := τ) osem c) := by
  rw [← sems0_eq, bigSep_kinds]; rfl

/-! ## The tokens -/

set_option backward.proofsInPublic true in
/-- The slot a device's block of keys and values goes to, if it is sent. -/
def sl (c : Dev nD) : Fin 2 := if c.val < 2 then 0 else 1

/-- Every cell device `p` pays, its own send cells among them. -/
def tokL (p : Dev nD) : List Cell :=
  [(fw p 0, .bar), (fw p 1, .bar), (fw p 2, .bar),
    (p, .rS 0), (fw p 0, .rR 0), (p, .rS 1), (fw p 1, .rR 1), (p, .rS 2), (fw p 2, .rR 2),
    (p, .aS 0), (fw p 0, .aR 0), (p, .aS 1), (fw p 1, .aR 1), (p, .aS 2), (fw p 2, .aR 2),
    (p, .kS (fw p 0)), (fw p 0, .kR (sl p)), (p, .vS (fw p 0)), (fw p 0, .vR (sl p)),
    (p, .kS (fw p 1)), (fw p 1, .kR (sl p)), (p, .vS (fw p 1)), (fw p 1, .vR (sl p)),
    (p, .kS (fw p 2)), (fw p 2, .kR (sl p)), (p, .vS (fw p 2)), (fw p 2, .vR (sl p))]
def tokCell (p : Dev nD) (j : Fin 27) : Cell := (tokL p).get j

theorem tokL_nodup : ∀ p : Dev nD, (tokL p).Nodup := by decide +kernel

def tokOf (pj : Dev nD × Fin 27) : GSem nD τ sig × ℕ × Dev nD := (kcell (tokCell pj.1 pj.2), 0, pj.1)
theorem tokOf_injective : Function.Injective tokOf := by
  rintro ⟨p, j⟩ ⟨p', j'⟩ h
  have h1 : p = p' := congrArg (fun x : GSem nD τ sig × ℕ × Dev nD => x.2.2) h
  subst h1
  have h2 : tokCell p j = tokCell p j' := kcell_injective (congrArg Prod.fst h)
  have h3 : j = j' := List.nodup_iff_injective_get.mp (tokL_nodup p) h2
  subst h3; rfl

def cellSet : Finset (GSem nD τ sig) := Finset.univ.map ⟨kcell, kcell_injective⟩
def tokSet : Finset (GSem nD τ sig × ℕ × Dev nD) := Finset.univ.map ⟨tokOf, tokOf_injective⟩

def u₀ : UU := (initOf (Pipeline.cells cfgs cellOf_inj) (Pipeline.launchToks cfgs cellOf_inj), initOf cellSet tokSet)

def kvTk (p : Dev nD) : sProp 𝕄 := iprop(kvTok p (sl p) (fw p 0) ∗ kvTok p (sl p) (fw p 1) ∗ kvTok p (sl p) (fw p 2))
def toks (p : Dev nD) : sProp 𝕄 :=
  iprop((tk (fw p 0, .bar) p ∗ tk (fw p 1, .bar) p ∗ tk (fw p 2, .bar) p)
    ∗ ((tk (p, .rS 0) p ∗ tk (fw p 0, .rR 0) p) ∗ (tk (p, .rS 1) p ∗ tk (fw p 1, .rR 1) p) ∗ (tk (p, .rS 2) p ∗ tk (fw p 2, .rR 2) p))
    ∗ ((tk (p, .aS 0) p ∗ tk (fw p 0, .aR 0) p) ∗ (tk (p, .aS 1) p ∗ tk (fw p 1, .aR 1) p) ∗ (tk (p, .aS 2) p ∗ tk (fw p 2, .aR 2) p))
    ∗ kvTk p)

theorem toks_eq (p : Dev nD) : (bigSep Finset.univ fun j : Fin 27 => tk (tokCell p j) p : sProp 𝕄) = toks p := by
  rw [bigSep_univ_eq_bigSepL [0, 1, 2, 3, 4, 5, 6, 7, 8, 9, 10, 11, 12, 13, 14, 15, 16, 17, 18, 19, 20, 21, 22, 23, 24, 25, 26] (by decide) (by decide)]
  unfold toks kvTk kvTok; simp only [sepA]; rfl

theorem kvT_of (c : Dev nD) : (kvTk c : sProp 𝕄) ⊢ kvT c := by
  unfold kvTk
  by_cases h0 : c = 0
  · subst h0; rw [kvT_0]; exact Entails.of_eq rfl
  by_cases h2 : c = 2
  · subst h2; rw [kvT_2, show fw 2 0 = 3 from by decide, show fw 2 1 = 0 from by decide, show fw 2 2 = 1 from by decide, show sl 2 = 1 from by decide]
    iintro ⟨A, B, C⟩
    isplitl [B]; · iexact B
    isplitl [C] <;> iassumption
  · rw [show (kvT c : sProp 𝕄) = iprop(emp) from (if_neg h0).trans (if_neg h2)]
    iintro -; iempintro

/-! ## What each device is dealt -/

def G (c : Dev nD) : sProp 𝕄 :=
  iprop((bigSep Finset.univ fun k : CK => roundState ER (Rd m ρ) (kcell (c, k)) 0)
    ∗ (bigSep Finset.univ fun k : CK => iprop(at0 c k ∗ reached ER (kcell (c, k)) 0)) ∗ toks c)

/-- A device's places and tokens. -/
def mine (c : Dev nD) : sProp 𝕄 := iprop((bigSep Finset.univ fun k : CK => at0 c k) ∗ toks c)
def G' (c : Dev nD) : sProp 𝕄 := iprop(∃ K, records m ρ K ∗ mine c)

theorem fund : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : CK => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => (show _ = (bigSep Finset.univ fun j : Fin 27 => tk (tokCell c j) c : sProp 𝕄) from rfl).trans (toks_eq c)
  iintro HX
  imod (Rounds.fund ER (Rd m ρ) cellSet tokSet) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G at0; simp only [bigSep_sep']
  isplitl [Hst']; · iexact Hst'
  isplitl [Hat' Hr']
  · isplitl [Hat'] <;> iassumption
  iexact Htok'

/-- Each device sets up the invariants of its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(at0 c k ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  have ha : iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  imod ha $$ [Hv Hst] with Hinv
  · isplitl [Hv] <;> iassumption
  imodintro
  isplitl [Hinv]; · iexact Hinv
  isplitl [Hat]; · iexact Hat
  iexact Htok

theorem give_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  refine (sep_mono_left (BI.bigSep_of_persistent (Finset.univ : Finset (Dev nD)) R)).trans ?_
  rw [← bigSep_sep']; exact bigSep_mono fun c _ => h c

/-- The records are everybody's. -/
theorem regroup :
    (bigSep Finset.univ fun c : Dev nD => iprop((bigSep Finset.univ fun k : CK => iprop(∃ κ : ℕ, cellInv ER (Rd m ρ) κ (kcell (c, k))))
          ∗ (bigSep Finset.univ fun k : CK => iprop(at0 c k ∗ reached ER (kcell (c, k)) 0)) ∗ toks c) : sProp 𝕄)
      ⊢ bigSep Finset.univ (G' m ρ) := by
  rw [bigSep_sep', bigSep_sep', ← bigSep_univ_prod (fun x : Cell => iprop(∃ κ : ℕ, cellInv ER (Rd m ρ) κ (kcell x))),
    bigSep_congr (s := Finset.univ) (fun (c : Dev nD) _ => bigSep_sep' Finset.univ (fun k : CK => (at0 c k : sProp 𝕄)) (fun k => reached ER (kcell (c, k)) 0)),
    bigSep_sep', ← bigSep_univ_prod (fun x : Cell => (reached ER (kcell x) 0 : sProp 𝕄))]
  iintro ⟨HI, ⟨Hat, #HR⟩, Htok⟩
  ihave HK := (BI.bigSep_exists_pi Finset.univ (fun (x : Cell) (κ : ℕ) => (cellInv ER (Rd m ρ) κ (kcell x) : sProp 𝕄))) $$ HI
  icases HK with ⟨%K, #HI⟩
  have hg (c : Dev nD) : iprop(records m ρ K ∗ mine c) ⊢ G' m ρ c := by
    unfold G'; iintro H; iexists K; iexact H
  iapply (give_all (R := records m ρ K) hg)
  isplitr
  · unfold records; isplitl; · iexact HI
    iexact HR
  · iapply (Entails.of_eq (bigSep_sep' Finset.univ (fun c : Dev nD => bigSep Finset.univ fun k : CK => (at0 c k : sProp 𝕄)) toks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- How often a device's cell is paid by other devices. -/
def paid (c : Dev nD) (k : CK) : ℕ := ∑ d : Dev nD, (pay d).count (c, k)

theorem credit_eq (c : Dev nD) (k : CK) :
    tallyOn (kcell (c, k)) (launchCredit (Pipeline.owing O₀) 0 (kcell (c, k))) = (tallyAt (kcell (c, k)) () (paid c k * amtF k) : CellTallies nD τ sig Unit) := by
  unfold tallyAt; refine congrArg _ (Finsupp.ext fun u => ?_); cases u
  rw [Pipeline.launchCredit_owing, Finsupp.single_eq_same]; unfold paid O₀
  rw [Finset.sum_mul]
  exact Finset.sum_congr rfl fun d _ => tl_at (pay d) (c, k)

def paidCr (c : Dev nD) (k : CK) : sProp 𝕄 := cred (tallyAt (kcell (c, k)) () (paid c k * amtF k))

theorem creds_all (c : Dev nD) : (Pipeline.launchCred O₀ c : sProp 𝕄) ⊢ bigSep Finset.univ (paidCr c) := by
  unfold Pipeline.launchCred
  refine (bigSep_subset (Finset.subset_univ (Finset.univ.map ⟨csem, csem_injective⟩))).trans ?_
  rw [bigSep_map]
  exact bigSep_mono fun k _ => Entails.of_eq (congrArg cred (credit_eq c k))

theorem paid_bar : ∀ c : Dev nD, paid c .bar = 3 := by decide
theorem paid_r : ∀ (c : Dev nD) (o : Fin 3), paid c (.rR o) = 1 := by decide
theorem paid_a : ∀ (c : Dev nD) (o : Fin 3), paid c (.aR o) = 1 := by decide
theorem paid_k : ∀ (c : Dev nD) (s : Fin 2), c ≠ srcD s → paid c (.kR s) = 1 := by decide
theorem paid_v : ∀ (c : Dev nD) (s : Fin 2), c ≠ srcD s → paid c (.vR s) = 1 := by decide

theorem cr_bar (c : Dev nD) : (paidCr c .bar : sProp 𝕄) = cred (tallyAt (kcell (c, .bar)) () 3) := by unfold paidCr; rw [paid_bar]; rfl
theorem cr_one (c : Dev nD) (k : CK) (h : paid c k = 1) : (paidCr c k : sProp 𝕄) = cr1 c k := by unfold paidCr cr1; rw [h, Nat.one_mul]
theorem cr_kv (c : Dev nD) (s : Fin 2) : iprop(paidCr c (.kR s) ∗ paidCr c (.vR s)) ⊢ (if c = srcD s then iprop(emp) else iprop(cr1 c (.kR s) ∗ cr1 c (.vR s)) : sProp 𝕄) := by
  by_cases h : c = srcD s
  · rw [if_pos h]; iintro -; iempintro
  · rw [if_neg h, cr_one c _ (paid_k c s h), cr_one c _ (paid_v c s h)]

/-- What a device has before its body, of tokens, places and credits, in the shape the body takes it. -/
def dealt (c : Dev nD) : sProp 𝕄 :=
  iprop((tk (fw c 0, .bar) c ∗ tk (fw c 1, .bar) c ∗ tk (fw c 2, .bar) c) ∗ barIn c ∗ kvT c ∗ (kvCr c 0 ∗ kvCr c 1)
    ∗ ((tk (c, .rS 0) c ∗ tk (fw c 0, .rR 0) c) ∗ (tk (c, .rS 1) c ∗ tk (fw c 1, .rR 1) c) ∗ (tk (c, .rS 2) c ∗ tk (fw c 2, .rR 2) c))
    ∗ ((tk (c, .aS 0) c ∗ tk (fw c 0, .aR 0) c) ∗ (tk (c, .aS 1) c ∗ tk (fw c 1, .aR 1) c) ∗ (tk (c, .aS 2) c ∗ tk (fw c 2, .aR 2) c))
    ∗ (wt c (.rR 0) ∗ wt c (.rR 1) ∗ wt c (.rR 2)) ∗ (wt c (.aR 0) ∗ wt c (.aR 1) ∗ wt c (.aR 2))
    ∗ (at0 c (.rS 0) ∗ at0 c (.rS 1) ∗ at0 c (.rS 2)) ∗ (at0 c (.aS 0) ∗ at0 c (.aS 1) ∗ at0 c (.aS 2)) ∗ sAts c)

theorem dealt_of (c : Dev nD) : iprop(mine c ∗ Pipeline.launchCred O₀ c) ⊢ (dealt c : sProp 𝕄) := by
  refine (sep_mono_right (creds_all c)).trans ?_
  unfold mine toks dealt barIn kvCr wt sAts sAt
  rw [bigSep_kinds, bigSep_kinds, cr_bar, cr_one c _ (paid_r c 0), cr_one c _ (paid_r c 1), cr_one c _ (paid_r c 2), cr_one c _ (paid_a c 0), cr_one c _ (paid_a c 1), cr_one c _ (paid_a c 2)]
  iintro ⟨⟨⟨Ab, ⟨⟨K0, V0⟩, ⟨K1, V1⟩⟩, ⟨R0, R1, R2⟩, ⟨A0, A1, A2⟩, S, T, U⟩, Tb, Tr, Ta, Tk⟩, Cb, ⟨Ck0, Ck1⟩, ⟨CR0, CR1, CR2⟩, ⟨CA0, CA1, CA2⟩, -⟩
  isplitl [Tb]; · iexact Tb
  isplitl [Cb Ab]; · isplitl [Cb] <;> iassumption
  isplitl [Tk]; · iapply (kvT_of (F := F) c); iexact Tk
  isplitl [K0 V0 Ck0 K1 V1 Ck1]
  · isplitl [K0 V0 Ck0]
    · isplitl [K0]; · iexact K0
      isplitl [V0]; · iexact V0
      iapply (cr_kv (F := F) c 0); iexact Ck0
    · isplitl [K1]; · iexact K1
      isplitl [V1]; · iexact V1
      iapply (cr_kv (F := F) c 1); iexact Ck1
  isplitl [Tr]; · iexact Tr
  isplitl [Ta]; · iexact Ta
  isplitl [CR0 R0 CR1 R1 CR2 R2]
  · isplitl [CR0 R0]; · isplitl [CR0] <;> iassumption
    isplitl [CR1 R1]; · isplitl [CR1] <;> iassumption
    isplitl [CR2] <;> iassumption
  isplitl [CA0 A0 CA1 A1 CA2 A2]
  · isplitl [CA0 A0]; · isplitl [CA0] <;> iassumption
    isplitl [CA1 A1]; · isplitl [CA1] <;> iassumption
    isplitl [CA2] <;> iassumption
  isplitl [S]; · iexact S
  isplitl [T]; · iexact T
  iexact U

end Cert.KernelProof

end
-- ==== Proof.Launch.lean ====
/-
The run of the kernel on its mesh of four devices: every fair execution terminates, with the result at the computed contents
on every device, the arguments unchanged, and every semaphore at zero.
-/
module

public import proofs.«01_k».proof.Proof.Deal
public import proofs.«01_k».proof.Proof.Gen.KernelIdeal.Points
public import Idealize.ShloMosaic.Lib.Pipeline.CollectiveSegs

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Cell → ℕ)

/-! ## The state around the one grid point -/

def start (c : Dev nD) : sProp 𝕄 := iprop((∃ K, records m ρ K ∗ mine c) ∗ Pipeline.launchCred O₀ c ∗ levAts L lv)
def Φ₀ (c : Dev nD) : sProp 𝕄 := iprop(start m ρ c ∗ (ptE c kbM ∗ ptE c vbM ∗ ptE c pwM ∗ ptE c rbM ∗ ptE c abM))
def Φ₁ (c : Dev nD) : sProp 𝕄 := iprop((kvAll m ρ c ∗ pt c pwM (PW m ρ c) ∗ pt c rbM (RB m ρ c) ∗ pt c abM (RED m ρ c)) ∗ spent c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => wqst m ρ c
    | ⟨2, _⟩ => kst m ρ c
    | ⟨3, _⟩ => vst m ρ c
    | ⟨4, _⟩ => wost m ρ c
    | ⟨5, _⟩ => OUT m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The pieces the signals hand out -/

theorem ptE_whole (c : Dev nD) {s : Shape} {e : EltTy} (M : Memref sig .tc .vmem s e) (h : M.view.set = Finset.univ) :
    (ptE c M : sProp 𝕄) = iprop(∃ f : Buf (Elt F) (M.view.loc (c : Thread nD τ)), M.view.loc (c : Thread nD τ) ↦{fullShare} f) := by
  unfold ptE; simp only [pt_whole c M h]

theorem give_split (c : Dev nD) : iprop(ptE c kbM ∗ ptE c vbM) ⊢ (iprop(kvGive c c ∗ kvGive c (fw c 0) ∗ kvGive c (fw c 1) ∗ kvGive c (fw c 2)) : sProp 𝕄) := by
  rw [← bigSep_from c (fun p => (kvGive c p : sProp 𝕄)), bigSep_devs, kvGive_0, kvGive_2, kvGive_ne c 1 (by decide) (by decide), kvGive_ne c 3 (by decide) (by decide)]
  unfold ptE
  iintro ⟨⟨%f, A⟩, ⟨%g, B⟩⟩
  ihave A := (Entails.of_eq (kb_slots c f)) $$ A
  ihave B := (Entails.of_eq (vb_slots c g)) $$ B
  icases A with ⟨A0, A1⟩
  icases B with ⟨B0, B1⟩
  isplitl [A0 B0]
  · isplitl [A0]; · iexists f; iexact A0
    iexists g; iexact B0
  isplitr; · iempintro
  isplitl;
  · isplitl [A1]; · iexists f; iexact A1
    iexists g; iexact B1
  iempintro

theorem slots_split (c : Dev nD) : (ptE c rbM : sProp 𝕄) ⊢ iprop(ptE c (rslM (dif (fw c 0) c)) ∗ ptE c (rslM (dif (fw c 1) c)) ∗ ptE c (rslM (dif (fw c 2) c))) := by
  rw [show dif (fw c 0) c = 2 from by revert c; decide, show dif (fw c 1) c = 1 from by revert c; decide, show dif (fw c 2) c = 0 from by revert c; decide]
  unfold ptE
  iintro ⟨%f, A⟩
  ihave A := (Entails.of_eq (rb_slots c f)) $$ A
  icases A with ⟨A0, A1, A2⟩
  isplitl [A2]; · iexists f; iexact A2
  isplitl [A1]; · iexists f; iexact A1
  iexists f; iexact A0

theorem out_split (c : Dev nD) : (ptE c oM : sProp 𝕄) ⊢ iprop(ptE c (ochM c) ∗ ptE c (ochM (fw c 0)) ∗ ptE c (ochM (fw c 1)) ∗ ptE c (ochM (fw c 2))) := by
  unfold ptE
  iintro ⟨%f, A⟩
  ihave A := (Entails.of_eq ((o_chunks_all c f).trans (bigSep_from c _))) $$ A
  icases A with ⟨A0, A1, A2, A3⟩
  isplitl [A0]; · iexists f; iexact A0
  isplitl [A1]; · iexists f; iexact A1
  isplitl [A2]; · iexists f; iexact A2
  iexists f; iexact A3

theorem chunks_split (c : Dev nD) : (ptE c pwM : sProp 𝕄) ⊢ iprop(ptE c (pchM 0) ∗ ptE c (pchM 1) ∗ ptE c (pchM 2) ∗ ptE c (pchM 3)) := by
  unfold ptE
  iintro ⟨%f, A⟩
  ihave A := (Entails.of_eq ((pw_chunks_all c f).trans (bigSep_devs _))) $$ A
  icases A with ⟨A0, A1, A2, A3⟩
  isplitl [A0]; · iexists f; iexact A0
  isplitl [A1]; · iexists f; iexact A1
  isplitl [A2]; · iexists f; iexact A2
  iexists f; iexact A3

/-- All a device holds at launch, in the shape its body takes it. -/
theorem begins_of (c : Dev nD) :
    iprop(ow c (pay c) ∗ dealt c ∗ (ptE c kbM ∗ ptE c vbM ∗ ptE c pwM ∗ ptE c rbM ∗ ptE c abM)
      ∗ pt c xM (xst m ρ c) ∗ pt c wqM (wqst m ρ c) ∗ pt c kM (kst m ρ c) ∗ pt c vM (vst m ρ c) ∗ pt c woM (wost m ρ c) ∗ ptE c oM) ⊢ begins m ρ c := by
  unfold dealt begins gv barPay
  iintro ⟨HO, ⟨⟨B0, B1, B2⟩, HB, HT, HC, R, A, WR, WA, SR, SA, SK⟩, ⟨Kb, Vb, Pw, Rb, Ab⟩, X, Wq, Kk, Vv, Wo, Oo⟩
  ihave KV := (give_split (F := F) c) $$ [Kb Vb]
  · isplitl [Kb] <;> iassumption
  icases KV with ⟨Gc, G0, G1, G2⟩
  ihave RS := (slots_split (F := F) c) $$ Rb
  icases RS with ⟨R0, R1, R2⟩
  ihave OS := (out_split (F := F) c) $$ Oo
  icases OS with ⟨Oc, O0, O1, O2⟩
  ihave PS := (chunks_split (F := F) c) $$ Pw
  isplitl [HO]; · iexact HO
  isplitl [B0 B1 B2 G0 G1 G2 R0 R1 R2 O0 O1 O2]
  · isplitl [B0 G0 R0 O0]
    · isplitl [B0]; · iexact B0
      isplitl [R0]; · iexact R0
      isplitl [O0] <;> iassumption
    isplitl [B1 G1 R1 O1]
    · isplitl [B1]; · iexact B1
      isplitl [R1]; · iexact R1
      isplitl [O1] <;> iassumption
    isplitl [B2]; · iexact B2
    isplitl [R2]; · iexact R2
    isplitl [O2] <;> iassumption
  isplitl [HB]; · iexact HB
  isplitl [X Wq]; · isplitl [X] <;> iassumption
  isplitl [Kk Vv Gc HT]
  · isplitl [Kk]; · iexact Kk
    isplitl [Vv]; · iexact Vv
    isplitl [Gc] <;> iassumption
  isplitl [Wo]; · iexact Wo
  isplitl [HC]; · iexact HC
  isplitl [PS]; · iexact PS
  isplitl [Ab]; · iexact Ab
  isplitl [Oc]; · iexact Oc
  isplitl [R]; · iexact R
  isplitl [A]; · iexact A
  isplitl [WR]; · iexact WR
  isplitl [WA]; · iexact WA
  isplitl [SR]; · iexact SR
  isplitl [SA]; · iexact SA
  iexact SK

/-! ## The body at the one point -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem in_x (c : Dev nD) : (iprop(∃ d, stg c cc0_stg0_0 ((dats m ρ 0 c).before (0 : Fin 6) t0_0 d)) : sProp 𝕄) ⊢ pt c xM (xst m ρ c) := by
  iintro ⟨%d, %f, %h, H⟩
  have h' : f = xst m ρ c := by rw [h]; unfold Dat.before; rw [if_pos (fetch0_0 t0_0)]; rfl
  subst h'
  rw [pt_whole c xM (View.set_whole cc0_stg0_0)]; iexact H
theorem in_wq (c : Dev nD) : (iprop(∃ d, stg c cc0_stg1_0 ((dats m ρ 0 c).before (1 : Fin 6) t0_0 d)) : sProp 𝕄) ⊢ pt c wqM (wqst m ρ c) := by
  iintro ⟨%d, %f, %h, H⟩
  have h' : f = wqst m ρ c := by rw [h]; unfold Dat.before; rw [if_pos (fetch0_1 t0_0)]; rfl
  subst h'
  rw [pt_whole c wqM (View.set_whole cc0_stg1_0)]; iexact H
theorem in_k (c : Dev nD) : (iprop(∃ d, stg c cc0_stg2_0 ((dats m ρ 0 c).before (2 : Fin 6) t0_0 d)) : sProp 𝕄) ⊢ pt c kM (kst m ρ c) := by
  iintro ⟨%d, %f, %h, H⟩
  have h' : f = kst m ρ c := by rw [h]; unfold Dat.before; rw [if_pos (fetch0_2 t0_0)]; rfl
  subst h'
  rw [pt_whole c kM (View.set_whole cc0_stg2_0)]; iexact H
theorem in_v (c : Dev nD) : (iprop(∃ d, stg c cc0_stg3_0 ((dats m ρ 0 c).before (3 : Fin 6) t0_0 d)) : sProp 𝕄) ⊢ pt c vM (vst m ρ c) := by
  iintro ⟨%d, %f, %h, H⟩
  have h' : f = vst m ρ c := by rw [h]; unfold Dat.before; rw [if_pos (fetch0_3 t0_0)]; rfl
  subst h'
  rw [pt_whole c vM (View.set_whole cc0_stg3_0)]; iexact H
theorem in_wo (c : Dev nD) : (iprop(∃ d, stg c cc0_stg4_0 ((dats m ρ 0 c).before (4 : Fin 6) t0_0 d)) : sProp 𝕄) ⊢ pt c woM (wost m ρ c) := by
  iintro ⟨%d, %f, %h, H⟩
  have h' : f = wost m ρ c := by rw [h]; unfold Dat.before; rw [if_pos (fetch0_4 t0_0)]; rfl
  subst h'
  rw [pt_whole c woM (View.set_whole cc0_stg4_0)]; iexact H
theorem in_o (c : Dev nD) : (iprop(∃ d, stg c cc0_stg5_0 ((dats m ρ 0 c).before (5 : Fin 6) t0_0 d)) : sProp 𝕄) ⊢ ptE c oM := by
  iintro ⟨%d, %f, -, H⟩
  rw [ptE_whole c oM (View.set_whole cc0_stg5_0)]; iexists f; iexact H

theorem to_stg (c : Dev nD) (b : Ref sig .tc) (X : b.ty.Contents (Elt F)) :
    (((c : Thread nD τ).loc b) ↦{fullShare} X : sProp 𝕄) ⊢ stg c b X := by
  iintro H; iexists X; isplitr; · (ipureintro; rfl)
  iexact H

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def bodyPost (c : Dev nD) : sProp 𝕄 :=
  iprop(Φ₁ m ρ c ∗ (dats m ρ 0 c).owesAt () t0_0.succ
    ∗ stg c cc0_stg0_0 (xst m ρ c) ∗ stg c cc0_stg1_0 (wqst m ρ c) ∗ stg c cc0_stg2_0 (kst m ρ c) ∗ stg c cc0_stg3_0 (vst m ρ c)
    ∗ stg c cc0_stg4_0 (wost m ρ c) ∗ stg c cc0_stg5_0 (OUT m ρ))

theorem owes_in (c : Dev nD) : (dats (F := F) m ρ 0 c).owesAt () t0_0.castSucc ⊢ ow c (pay c) := by
  unfold Dat.owesAt Pipeline.owesWithin ow
  iintro ⟨%W, -, H⟩
  iexists W; iexact H
theorem owes_out (c : Dev nD) : (ow c [] : sProp 𝕄) ⊢ (dats (F := F) m ρ 0 c).owesAt () t0_0.succ := by
  unfold Dat.owesAt Pipeline.owesWithin ow
  iintro ⟨%W, H⟩
  iexists W
  isplitr; · ipureintro; exact fun _ _ => Or.inl trivial
  iexact H

theorem ends_to (c : Dev nD) : ends m ρ c ⊢ bodyPost m ρ c := by
  unfold ends bodyPost Φ₁
  rw [pt_whole c xM (View.set_whole cc0_stg0_0), pt_whole c wqM (View.set_whole cc0_stg1_0), pt_whole c kM (View.set_whole cc0_stg2_0),
    pt_whole c vM (View.set_whole cc0_stg3_0), pt_whole c woM (View.set_whole cc0_stg4_0), pt_whole c oM (View.set_whole cc0_stg5_0)]
  iintro ⟨HO, Hs, ⟨⟨X, Wq⟩, ⟨Kk, Vv⟩, Wo, Oo⟩, KV, Pw, Rb, Ab⟩
  isplitl [Hs KV Pw Rb Ab]
  · isplitr [Hs]
    · isplitl [KV]; · iexact KV
      isplitl [Pw]; · iexact Pw
      isplitl [Rb] <;> iassumption
    iexact Hs
  isplitl [HO]; · iapply (owes_out m ρ c); iexact HO
  isplitl [X]; · iapply (to_stg c cc0_stg0_0); iexact X
  isplitl [Wq]; · iapply (to_stg c cc0_stg1_0); iexact Wq
  isplitl [Kk]; · iapply (to_stg c cc0_stg2_0); iexact Kk
  isplitl [Vv]; · iapply (to_stg c cc0_stg3_0); iexact Vv
  isplitl [Wo]; · iapply (to_stg c cc0_stg4_0); iexact Wo
  iapply (to_stg c cc0_stg5_0); iexact Oo

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ WP c (ap (cc0_body (F := F))) (fun _ => bodyPost m ρ c)
  unfold bodyPre Φ₀ start
  iintro ⟨⟨⟨⟨%K, #Hr, Hm⟩, Hc, #Hl⟩, Hs⟩, Ho, I0, I1, I2, I3, I4, I5⟩
  ihave Hd := (dealt_of (F := F) c) $$ [Hm Hc]
  · isplitl [Hm] <;> iassumption
  ihave HO := (owes_in m ρ c) $$ Ho
  ihave X0 := (in_x m ρ c) $$ I0
  ihave X1 := (in_wq m ρ c) $$ I1
  ihave X2 := (in_k m ρ c) $$ I2
  ihave X3 := (in_v m ρ c) $$ I3
  ihave X4 := (in_wo m ρ c) $$ I4
  ihave X5 := (in_o m ρ c) $$ I5
  iapply (run_body m ρ K c) $$ [HO Hd Hs X0 X1 X2 X3 X4 X5]
  · isplitr; · iexact Hr
    isplitr; · iexact Hl
    iapply (begins_of m ρ c)
    isplitl [HO]; · iexact HO
    isplitl [Hd]; · iexact Hd
    isplitl [Hs]; · iexact Hs
    isplitl [X0]; · iexact X0
    isplitl [X1]; · iexact X1
    isplitl [X2]; · iexact X2
    isplitl [X3]; · iexact X3
    isplitl [X4]; · iexact X4
    iexact X5
  iintro H; iapply (ends_to m ρ c); iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  imodintro
  unfold start G'
  isplitl
  · isplitl [HG]; · iexact HG
    isplitl [Hcr] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [ptE_whole c kbM (View.set_whole cc0_scratch0), ptE_whole c vbM (View.set_whole cc0_scratch1), ptE_whole c pwM (View.set_whole cc0_scratch2),
    ptE_whole c rbM (View.set_whole cc0_scratch3), ptE_whole c abM (View.set_whole cc0_scratch4)]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁ kvAll
  rw [spent_eq, pt_whole c kbM (View.set_whole cc0_scratch0), pt_whole c vbM (View.set_whole cc0_scratch1), pt_whole c pwM (View.set_whole cc0_scratch2),
    pt_whole c rbM (View.set_whole cc0_scratch3), pt_whole c abM (View.set_whole cc0_scratch4)]
  iintro ⟨⟨⟨Kb, Vb⟩, Pw, Rb, Ab⟩, Hu, Ho⟩
  isplitl [Hu]; · iexact Hu
  isplitl [Ho]; · iexact Ho
  isplitl [Kb]; · iexists (KB m ρ c); iexact Kb
  isplitl [Vb]; · iexists (VB m ρ c); iexact Vb
  isplitl [Pw]; · iexists (PW m ρ c); iexact Pw
  isplitl [Rb]; · iexists (RB m ρ c); iexact Rb
  iexists (RED m ρ c); iexact Ab

theorem pay_pos : ∀ c : Dev nD, ∀ x ∈ pay c, 0 < lvK x.2 := by decide

theorem stage_ne : ∀ (w : Fin cfg0.W) (s : Fin (cfg0.win w).nbuf) (k : CK), csem k ≠ .dma ((cfg0.win w).sem s) := by decide

/-- The waits on the staging copies are below everything owed. -/
theorem waits (c : Dev nD) : (levAts L lv : sProp 𝕄) ⊢ Pipeline.cellsWaits cfgs (dats m ρ) () 0 c :=
  Pipeline.cellsWaits_intro cfgs (dats m ρ) () 0 c fun w s t => by
    have hz : lv ((c : Thread nD τ), SemLoc.dma ((cfg0.win w).sem s)) () = 0 := by
      unfold lv
      rw [kinv_eq_none]
      exact fun x h => stage_ne w s x.2 (congrArg Prod.snd h)
    have hl : ∃ l : List Cell, (dats (F := F) m ρ 0 c).owed t = tl l ∧ ∀ x ∈ l, 0 < lvK x.2 := by
      rcases t with ⟨_ | _, ht⟩
      · exact ⟨pay c, rfl, pay_pos c⟩
      · exact ⟨[], rfl, fun x hx => absurd hx (by simp)⟩
    obtain ⟨l, h1, h2⟩ := hl
    show _ ⊢ MayWait (c : Thread nD τ) (SemLoc.dma ((cfg0.win w).sem s)) () ((dats (F := F) m ρ 0 c).owed t)
    rw [h1]
    exact mayWait_tl c _ l fun x hx => by rw [hz]; exact h2 x hx

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelProof

end
-- ==== Proof.Spec.lean ====
/-
The mathematics both programs compute, over the extended reals and plain coordinates: a softmax-weighted sum of rows.
A score masked to minus infinity carries weight zero once every other score is a real number, so the weighted sum over
all keys is the weighted sum over the keys that the mask keeps.
-/
module

public import Idealize.ShloMosaic.PureOps.Ideal.Laws

@[expose] public section

noncomputable section

namespace Cert.KernelProof.Spec

open Idealize.ShloMosaic

/-- A real number, as opposed to an infinity. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem bits_zero : Ideal.ofBits .f32 0x00000000#32 = 0 := by simp [Ideal.ofBits, Ideal.ieee]

theorem bits_negInf : Ideal.ofBits .f32 0xFF800000#32 = ⊥ := by simp [Ideal.ofBits, Ideal.ieee]

theorem bits_posInf : Ideal.ofBits .f32 0x7F800000#32 = ⊤ := by simp [Ideal.ofBits, Ideal.ieee]

/-- The scale of the scores, one over the square root of the head's width. -/
def scale : EReal := Ideal.ofBits .f32 0x3E000000#32

theorem scale_real : IsReal scale := by
  refine ⟨1 / 8, ?_⟩
  simp [scale, Ideal.ofBits, Ideal.ieee, -EReal.coe_mul]
  norm_num

/-- The largest of a family of scores. -/
def top {n : ℕ} (σ : Fin n → EReal) : EReal := (Finset.univ : Finset (Fin n)).fold max ⊥ σ

theorem top_eq_sup {n : ℕ} (σ : Fin n → EReal) : top σ = (Finset.univ : Finset (Fin n)).sup σ := rfl

/-- The softmax weight of one score among a family. -/
def wgt {n : ℕ} (σ : Fin n → EReal) (j : Fin n) : EReal :=
  Ideal.div (Ideal.exp (σ j - top σ)) (∑ u : Fin n, Ideal.exp (σ u - top σ))

theorem exp_nonneg (x : EReal) : 0 ≤ Ideal.exp x := by
  induction x using EReal.rec with
  | bot => exact le_rfl
  | top => exact le_top
  | coe r => exact EReal.coe_nonneg.mpr (Real.exp_pos r).le

theorem div_zero_left {y : EReal} (h : y ≠ 0) : Ideal.div 0 y = 0 := by
  unfold Ideal.div
  rw [if_neg h, zero_mul]

variable {n k : ℕ} (σ : Fin n → EReal) (M : Fin n → Prop) [DecidablePred M] (e : Fin k → Fin n)

/-- The scores with the dropped ones at minus infinity. -/
def masked (j : Fin n) : EReal := if M j then σ j else ⊥

theorem top_masked (hr : ∀ j, M j ↔ ∃ t, e t = j) : top (masked σ M) = top (fun t => σ (e t)) := by
  rw [top_eq_sup, top_eq_sup]
  apply le_antisymm
  · refine Finset.sup_le fun j _ => ?_
    unfold masked
    split_ifs with h
    · obtain ⟨t, rfl⟩ := (hr j).1 h
      exact Finset.le_sup (f := fun t => σ (e t)) (Finset.mem_univ t)
    · exact bot_le
  · refine Finset.sup_le fun t _ => ?_
    have h : masked σ M (e t) = σ (e t) := if_pos ((hr _).2 ⟨t, rfl⟩)
    rw [← h]
    exact Finset.le_sup (f := masked σ M) (Finset.mem_univ (e t))

/-- The weighted sum over every key, the dropped ones masked, is the weighted sum over the kept keys. -/
theorem attend_masked (hk : 0 < k) (hσ : ∀ j, IsReal (σ j)) (he : Function.Injective e) (hr : ∀ j, M j ↔ ∃ t, e t = j)
    (v : Fin n → EReal) :
    ∑ j, v j * wgt (masked σ M) j = ∑ t, wgt (fun t => σ (e t)) t * v (e t) := by
  have htop := top_masked σ M e hr
  have hreal : IsReal (top (fun t => σ (e t))) := by
    haveI : Nonempty (Fin k) := ⟨⟨0, hk⟩⟩
    obtain ⟨t, _, ht⟩ := Finset.exists_mem_eq_sup (Finset.univ : Finset (Fin k)) Finset.univ_nonempty (fun t => σ (e t))
    rw [top_eq_sup, ht]
    exact hσ (e t)
  have hin : ∀ t, masked σ M (e t) = σ (e t) := fun t => if_pos ((hr _).2 ⟨t, rfl⟩)
  have hout : ∀ j, j ∉ Set.range e → Ideal.exp (masked σ M j - top (masked σ M)) = 0 := by
    intro j hj
    have h : masked σ M j = ⊥ := if_neg fun h => hj ((hr j).1 h)
    rw [h, htop]
    obtain ⟨r, hr'⟩ := hreal
    rw [hr', EReal.bot_sub]
    rfl
  have hsum : ∑ j, Ideal.exp (masked σ M j - top (masked σ M)) = ∑ t, Ideal.exp (σ (e t) - top (fun t => σ (e t))) := by
    refine (Fintype.sum_of_injective e he _ _ hout fun t => ?_).symm
    rw [hin, htop]
  have hpos : ∑ t, Ideal.exp (σ (e t) - top (fun t => σ (e t))) ≠ 0 := by
    have t₀ : Fin k := ⟨0, hk⟩
    refine ne_of_gt (lt_of_lt_of_le ?_ (Finset.single_le_sum (fun t _ => exp_nonneg _) (Finset.mem_univ t₀)))
    obtain ⟨a, ha⟩ := hσ (e t₀)
    obtain ⟨b, hb⟩ := hreal
    rw [ha, hb, ← EReal.coe_sub]
    exact EReal.coe_pos.mpr (Real.exp_pos _)
  refine (Fintype.sum_of_injective e he _ _ (fun j hj => ?_) fun t => ?_).symm
  · unfold wgt
    rw [hout j hj, hsum, div_zero_left hpos, mul_zero]
  · unfold wgt
    rw [hsum, hin, htop, mul_comm]

end Cert.KernelProof.Spec
-- ==== Proof.Payload.lean ====
/-
What the kernel computes between its memory operations, read at an index over the extended reals: the projection of the
queries, one head's attention over the kept rows, the output projection of four heads, and the sum of four partial
products.
-/
module

public import proofs.«01_k».proof.Proof.Gen.KernelIdeal
public import proofs.«01_k».proof.Proof.Gen.KernelIdeal.Skeleton
public import proofs.«01_k».proof.Proof.Spec
public import Idealize.ShloMosaic.Lib.Pointwise

@[expose] public section

set_option maxRecDepth 16384

noncomputable section

namespace Cert.KernelProof.Payload

open Cert.KernelIdeal Cert.KernelIdeal.Gen
open Cert.KernelProof.Spec
open Idealize.ShloMosaic

/-- Two loads of 64 rows, one after the other. -/
def cat (a b : Vec Ideal S1x1x64x1x64 .f32) : FVec Ideal S128x64 .f32 :=
  concatenate S128x64 0 [⟨S64x64, shapeCast S64x64 a shapeCasts_S1x1x64x1x64_S64x64⟩,
    ⟨S64x64, shapeCast S64x64 b shapeCasts_S1x1x64x1x64_S64x64⟩] concatenates_S64x64_S64x64_S128x64_d0

theorem cat_apply (a b : Vec Ideal S1x1x64x1x64 .f32) (t : Fin 128) (d : Fin 64) :
    cat a b (ix2 t d) = if h : t.val < 64 then a (ix5 0 0 ⟨t.val, h⟩ 0 d) else b (ix5 0 0 ⟨t.val - 64, by omega⟩ 0 d) := by
  pointwise [cat]

/-- The scaled scores. -/
def scores (q : FVec Ideal S64x64 .f32) (K : FVec Ideal S128x64 .f32) : FVec Ideal S64x128 .f32 :=
  mulf (matmul dot_S64x64_S128x64_S64x128_1_1_0_0_n_n none q K (constant S64x128 .f32 0x00000000#32))
    (broadcast S64x128 (Scalar.ofBits .f32 0x3E000000#32))

theorem scores_apply (q : FVec Ideal S64x64 .f32) (K : FVec Ideal S128x64 .f32) (i : Fin 64) (t : Fin 128) :
    scores q K (ix2 i t) = (∑ d : Fin 64, q (ix2 i d) * K (ix2 t d)) * scale := by
  pointwise [scores]
  rfl

/-- The softmax of each row. -/
def weights (z : FVec Ideal S64x128 .f32) : FVec Ideal S64x128 .f32 :=
  have mx : FVec Ideal S64 .f32 := multiReduction .maximumf [1] S64 z 0xFF800000#32 reduces_S64x128_S64 (.inl rfl) rfl
  have ex : FVec Ideal S64x128 .f32 :=
    exp (subf z (broadcastTo S64x128 (shapeCast S64x1 mx shapeCasts_S64_S64x1) broadcasts_S64x1_S64x128))
  have sm : FVec Ideal S64 .f32 := multiReduction .add [1] S64 ex 0x00000000#32 reduces_S64x128_S64 (.inl rfl) rfl
  divf ex (broadcastTo S64x128 (shapeCast S64x1 sm shapeCasts_S64_S64x1) broadcasts_S64x1_S64x128)

theorem weights_apply (z : FVec Ideal S64x128 .f32) (i : Fin 64) (t : Fin 128) :
    weights z (ix2 i t) = wgt (fun u => z (ix2 i u)) t := by
  have hb : (FloatOps.ofBits .f32 0xFF800000#32 : Ideal .f32) = ⊥ := bits_negInf
  pointwise [weights]
  unfold wgt top
  simp only [bits_negInf]

/-- One head's attention is the weighted sum of the value rows. -/
theorem attn_eq (q : FVec Ideal S64x64 .f32) (ka kb va vb : Vec Ideal S1x1x64x1x64 .f32) :
    k0_pay11 q ka kb va vb
      = matmul dot_S64x128_S128x64_S64x64_1_0_0_1_n_n none (weights (scores q (cat ka kb))) (cat va vb) (constant S64x64 .f32 0x00000000#32) := rfl

theorem attn_apply (q : FVec Ideal S64x64 .f32) (ka kb va vb : Vec Ideal S1x1x64x1x64 .f32) (i d : Fin 64) :
    k0_pay11 q ka kb va vb (ix2 i d)
      = ∑ t : Fin 128, wgt (fun u => (∑ x : Fin 64, q (ix2 i x) * cat ka kb (ix2 u x)) * scale) t * cat va vb (ix2 t d) := by
  rw [attn_eq]
  pointwise
  refine Finset.sum_congr rfl fun t _ => ?_
  rw [weights_apply]
  simp only [scores_apply]

/-- The query projection of one batch. -/
theorem proj7_apply (x : Vec Ideal S1x128x512 .f32) (w : Vec Ideal S512x256 .f32) (s : Fin 128) (p : Fin 256) :
    k0_pay7 x w (ix2 s p) = ∑ k : Fin 512, x (ix3 0 s k) * w (ix2 k p) := by
  pointwise [k0_pay7]

theorem proj8_apply (x : Vec Ideal S1x128x512 .f32) (w : Vec Ideal S512x256 .f32) (s : Fin 128) (p : Fin 256) :
    k0_pay8 x w (ix2 s p) = ∑ k : Fin 512, x (ix3 0 s k) * w (ix2 k p) := by
  pointwise [k0_pay8]

/-- Four heads side by side. -/
def heads (g : Fin 4 → FVec Ideal S64x64 .f32) : FVec Ideal S64x256 .f32 :=
  concatenate S64x256 1 [⟨S64x64, g 0⟩, ⟨S64x64, g 1⟩, ⟨S64x64, g 2⟩, ⟨S64x64, g 3⟩]
    concatenates_S64x64_S64x64_S64x64_S64x64_S64x256_d1

theorem heads_apply (g : Fin 4 → FVec Ideal S64x64 .f32) (i : Fin 64) (p : Fin 256) :
    heads g (ix2 i p) = g ⟨p.val / 64, by omega⟩ (ix2 i ⟨p.val % 64, by omega⟩) := by
  obtain ⟨h, d, rfl⟩ : ∃ (h : Fin 4) (d : Fin 64), p = ⟨64 * h.val + d.val, by omega⟩ :=
    ⟨⟨p.val / 64, by omega⟩, ⟨p.val % 64, by omega⟩, Fin.ext (by show p.val = 64 * (p.val / 64) + p.val % 64; omega)⟩
  have e1 : (⟨(64 * h.val + d.val) / 64, by omega⟩ : Fin 4) = h := Fin.ext (by show (64 * h.val + d.val) / 64 = h.val; omega)
  have e2 : (⟨(64 * h.val + d.val) % 64, by omega⟩ : Fin 64) = d := Fin.ext (by show (64 * h.val + d.val) % 64 = d.val; omega)
  rw [e1, e2]
  pointwise [heads]
  have hc : h = 0 ∨ h = 1 ∨ h = 2 ∨ h = 3 := by clear e1 e2; revert h; decide
  rcases hc with rfl | rfl | rfl | rfl
  · rw [dif_pos (show 64 * (0 : Fin 4).val + d.val < 64 by show 64 * 0 + d.val < 64; omega)]
    exact congrArg (fun y : Fin 64 => g 0 (ix2 i y)) (Fin.ext (show 64 * 0 + d.val = d.val by omega))
  · rw [dif_neg (show ¬ 64 * (1 : Fin 4).val + d.val < 64 by show ¬ 64 * 1 + d.val < 64; omega),
      dif_pos (show 64 * (1 : Fin 4).val + d.val - 64 < 64 by show 64 * 1 + d.val - 64 < 64; omega)]
    exact congrArg (fun y : Fin 64 => g 1 (ix2 i y)) (Fin.ext (show 64 * 1 + d.val - 64 = d.val by omega))
  · rw [dif_neg (show ¬ 64 * (2 : Fin 4).val + d.val < 64 by show ¬ 64 * 2 + d.val < 64; omega),
      dif_neg (show ¬ 64 * (2 : Fin 4).val + d.val - 64 < 64 by show ¬ 64 * 2 + d.val - 64 < 64; omega),
      dif_pos (show 64 * (2 : Fin 4).val + d.val - 64 - 64 < 64 by show 64 * 2 + d.val - 64 - 64 < 64; omega)]
    exact congrArg (fun y : Fin 64 => g 2 (ix2 i y)) (Fin.ext (show 64 * 2 + d.val - 64 - 64 = d.val by omega))
  · rw [dif_neg (show ¬ 64 * (3 : Fin 4).val + d.val < 64 by show ¬ 64 * 3 + d.val < 64; omega),
      dif_neg (show ¬ 64 * (3 : Fin 4).val + d.val - 64 < 64 by show ¬ 64 * 3 + d.val - 64 < 64; omega),
      dif_neg (show ¬ 64 * (3 : Fin 4).val + d.val - 64 - 64 < 64 by show ¬ 64 * 3 + d.val - 64 - 64 < 64; omega)]
    exact congrArg (fun y : Fin 64 => g 3 (ix2 i y)) (Fin.ext (show 64 * 3 + d.val - 64 - 64 - 64 = d.val by omega))

/-- The output projection of four heads. -/
theorem out_apply (g : FVec Ideal S64x256 .f32) (w : Vec Ideal S256x512 .f32) (i : Fin 64) (n : Fin 512) :
    shapeCast S1x64x512 (matmul (φ₂ := .f32) dot_S64x256_S256x512_S64x512_1_0_0_1_n_n none g
      (shapeCast S256x512 w shapeCasts_S256x512_S256x512) (constant S64x512 .f32 0x00000000#32)) shapeCasts_S64x512_S1x64x512 (ix3 0 i n)
      = ∑ p : Fin 256, g (ix2 i p) * w (ix2 p n) := by
  pointwise

/-- The sum of the four partial products. -/
theorem sum_apply (a b c d : Vec Ideal S1x64x512 .f32) (i : Fin 64) (n : Fin 512) :
    k0_pay56 (k0_pay53 a) (k0_pay54 b) c d (ix2 i n) = a (ix3 0 i n) + b (ix3 0 i n) + c (ix3 0 i n) + d (ix3 0 i n) := by
  pointwise [k0_pay56, k0_pay55, k0_pay54, k0_pay53]

end Cert.KernelProof.Payload
-- ==== Proof.Mask.lean ====
/-
The reference's block mask as arithmetic on coordinates: the query row `s` keeps the key row `j` exactly when their
blocks of 64 rows agree modulo 4, and every query row keeps some key row.
-/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.Routing.OpsOrder

@[expose] public section

set_option maxRecDepth 16384

noncomputable section

namespace Cert.KernelProof.Mask

open Cert.ReferenceIdeal Cert.ReferenceIdeal.Gen Cert.ReferenceIdeal.Read
open Idealize.ShloMosaic Idealize.ShloMosaic.ValueIdx Idealize.ShloMosaic.StableHlo

/-- The block of a query row. -/
theorem rowBlock : ∀ n : Fin 128, val_main_v3 (F := Ideal) (ix1 n) = BitVec.ofNat 32 (n.val / 64) := by
  decide +kernel

/-- The block of a key row. -/
theorem keyBlock : ∀ n : Fin 512, val_main_v6 (F := Ideal) (ix1 n) = BitVec.ofNat 32 (n.val / 64) := by
  decide +kernel

/-- The block of a query row, modulo 4. -/
theorem rowClass : ∀ n : Fin 128, val_main_v12 (F := Ideal) (ix2 n 0) = BitVec.ofNat 32 (n.val / 64 % 4) := by
  decide +kernel

/-- The block of a key row, modulo 4. -/
theorem keyClass : ∀ n : Fin 512, val_main_v11 (F := Ideal) (ix2 0 n) = BitVec.ofNat 32 (n.val / 64 % 4) := by
  decide +kernel

/-- The query row `s` keeps the key row `j`. -/
def Kept (s : Fin 128) (j : Fin 512) : Prop := j.val / 64 % 4 = s.val / 64

instance (s : Fin 128) : DecidablePred (Kept s) := fun j => inferInstanceAs (Decidable (j.val / 64 % 4 = s.val / 64))

private theorem words : ∀ (a : Fin 2) (b : Fin 8),
    IntOp.ori (IntOp.cmpi .eq (BitVec.ofNat 32 a.val) (BitVec.ofNat 32 b.val))
      (IntOp.cmpi .eq (BitVec.ofNat 32 (b.val % 4)) (BitVec.ofNat 32 (a.val % 4))) = if b.val % 4 = a.val then 1#1 else 0#1 := by
  decide

theorem mask_apply (s : Fin 128) (j : Fin 512) :
    val_main_v16 (F := Ideal) (ix2 s j) = if Kept s j then 1#1 else 0#1 := by
  have e8 : val_main_v8 (F := Ideal) (ix2 s j) = BitVec.ofNat 32 (s.val / 64) := by
    rw [val_main_v8_apply, val_main_v4_apply, ← rowBlock]
    congr 1
    funext a
    fin_cases a
    rfl
  have e9 : val_main_v9 (F := Ideal) (ix2 s j) = BitVec.ofNat 32 (j.val / 64) := by
    rw [val_main_v9_apply, val_main_v7_apply, ← keyBlock]
    congr 1
    funext a
    fin_cases a
    rfl
  have e13 : val_main_v13 (F := Ideal) (ix2 s j) = BitVec.ofNat 32 (j.val / 64 % 4) := by
    rw [val_main_v13_apply, ← keyClass]
    congr 1
    funext a
    fin_cases a <;> rfl
  have e14 : val_main_v14 (F := Ideal) (ix2 s j) = BitVec.ofNat 32 (s.val / 64 % 4) := by
    rw [val_main_v14_apply, ← rowClass]
    congr 1
    funext a
    fin_cases a <;> rfl
  rw [val_main_v16_apply, val_main_v10_apply, val_main_v15_apply, e8, e9, e13, e14]
  exact words ⟨s.val / 64, by omega⟩ ⟨j.val / 64, by omega⟩

/-- Every query row keeps some key row: the one with its own number. -/
theorem any_apply (s : Fin 128) : val_main_v27 (F := Ideal) (ix1 s) = 1#1 := by
  unfold val_main_v27
  rw [Host.reduce_eq_fold_single IntOp.ori _ _ _ (by decide : Shape.Reduces S128x512 [1] S128) _ (ix1 s)]
  refine (Idealize.ShloMosaic.Routing.fold_ori _ _).2 ⟨(⟨s.val, by have := s.isLt; show s.val < 512; omega⟩ : Fin 512), Finset.mem_univ _, ?_⟩
  have e : (by decide : Shape.Reduces S128x512 [1] S128).lift (ix1 s) (⟨s.val, by have := s.isLt; show s.val < 512; omega⟩ : Fin 512)
      = ix2 s ⟨s.val, by have := s.isLt; omega⟩ := by
    funext a
    fin_cases a <;> rfl
  show val_main_v16 (F := Ideal) _ = 1#1
  rw [e, mask_apply, if_pos]
  show s.val / 64 % 4 = s.val / 64
  omega

end Cert.KernelProof.Mask
-- ==== Proof.ValueRef.lean ====
/-
The reference's result at an index, as sums and softmax weights over plain coordinates.
-/
module

public import proofs.«01_k».proof.Proof.Spec
public import proofs.«01_k».proof.Proof.Mask

@[expose] public section

set_option maxRecDepth 16384

noncomputable section

namespace Cert.KernelProof.ValueRef

open Cert.ReferenceIdeal Cert.ReferenceIdeal.Gen Cert.ReferenceIdeal.Read
open Cert.KernelProof.Spec Cert.KernelProof.Mask
open Idealize.ShloMosaic Idealize.ShloMosaic.ValueIdx Idealize.ShloMosaic.StableHlo

variable (x0 : (⟨S2x128x512, .f32⟩ : BufTy).Contents (Elt Ideal)) (x1 : (⟨S512x1024, .f32⟩ : BufTy).Contents (Elt Ideal))
  (x2 x3 : (⟨S2x512x16x64, .f32⟩ : BufTy).Contents (Elt Ideal)) (x4 : (⟨S1024x512, .f32⟩ : BufTy).Contents (Elt Ideal))

/-- Column `d` of head `H` among the 1024 columns of all heads. -/
def col (H : Fin 16) (d : Fin 64) : Fin 1024 := ⟨64 * H.val + d.val, by omega⟩

/-- The query of row `s` of batch `b`, at a column. -/
def query (b : Fin 2) (s : Fin 128) (P : Fin 1024) : EReal := ∑ k : Fin 512, x0 (ix3 b s k) * x1 (ix2 k P)

/-- The score of key row `j` for query row `s` at head `H`. -/
def score (b : Fin 2) (H : Fin 16) (s : Fin 128) (j : Fin 512) : EReal :=
  (∑ d : Fin 64, query x0 x1 b s (col H d) * x2 (ix4 b j H d)) * scale

/-- The weighted sum of the value rows. -/
def ctx (b : Fin 2) (H : Fin 16) (s : Fin 128) (d : Fin 64) : EReal :=
  ∑ j : Fin 512, x3 (ix4 b j H d) * wgt (masked (score x0 x1 x2 b H s) (Kept s)) j

theorem v0_at (b : Fin 2) (s : Fin 128) (P : Fin 1024) : val_main_v0 (F := Ideal) x0 x1 (ix3 b s P) = query x0 x1 b s P := by
  rw [val_main_v0_apply]
  refine Finset.sum_congr rfl fun k _ => ?_
  have el : lidx_main_v0 (ix3 b s P) k = ix3 b s k := funext fun a => by fin_cases a <;> rfl
  have er : ridx_main_v0 (ix3 b s P) k = ix2 k P := funext fun a => by fin_cases a <;> rfl
  rw [el, er]

theorem v1_at (b : Fin 2) (s : Fin 128) (H : Fin 16) (d : Fin 64) :
    val_main_v1 (F := Ideal) x0 x1 (ix4 b s H d) = query x0 x1 b s (col H d) := by
  rw [val_main_v1_apply, ← v0_at]
  congr 1
  funext a
  apply Fin.ext
  fin_cases a
  · show (((b.val * 128 + s.val) * 16 + H.val) * 64 + d.val) / 131072 = b.val
    omega
  · show (((b.val * 128 + s.val) * 16 + H.val) * 64 + d.val) / 1024 % 128 = s.val
    omega
  · show (((b.val * 128 + s.val) * 16 + H.val) * 64 + d.val) % 1024 = 64 * H.val + d.val
    omega

theorem v19_at (b : Fin 2) (H : Fin 16) (s : Fin 128) (j : Fin 512) :
    val_main_v19 (F := Ideal) x0 x1 x2 (ix4 b H s j) = score x0 x1 x2 b H s j := by
  rw [val_main_v19_apply, val_main_v17_apply, val_main_v18_apply, val_main_cst_apply]
  show (∑ k : Fin 64, _) * scale = _
  refine congrArg (· * scale) (Finset.sum_congr rfl fun k _ => ?_)
  have el : lidx_main_v17 (ix4 b H s j) k = ix4 b s H k := funext fun a => by fin_cases a <;> rfl
  have er : ridx_main_v17 (ix4 b H s j) k = ix4 b j H k := funext fun a => by fin_cases a <;> rfl
  rw [el, er, v1_at]

theorem v21_at (b : Fin 2) (H : Fin 16) (s : Fin 128) (j : Fin 512) :
    val_main_v21 (F := Ideal) x0 x1 x2 (ix4 b H s j) = masked (score x0 x1 x2 b H s) (Kept s) j := by
  have em : val_main_call4_v1 (F := Ideal) (ix4 b H s j) = if Kept s j then 1#1 else 0#1 := by
    rw [val_main_call4_v1_apply, val_main_v20_apply, ← mask_apply]
    congr 1
    funext a
    fin_cases a <;> rfl
  have eb : val_main_call4_v2 (F := Ideal) (ix4 b H s j) = ⊥ := by
    rw [val_main_call4_v2_apply, val_main_call4_v0_apply, val_main_cst_3_apply]
    exact bits_negInf
  rw [val_main_v21_apply, em, eb, v19_at]
  unfold masked Scalar.select
  by_cases h : Kept s j
  · rw [if_pos h, if_pos h, if_pos (by decide)]
  · rw [if_neg h, if_neg h, if_neg (by decide)]

theorem v22_at (b : Fin 2) (H : Fin 16) (s : Fin 128) :
    val_main_v22 (F := Ideal) x0 x1 x2 (ix3 b H s) = top (masked (score x0 x1 x2 b H s) (Kept s)) := by
  unfold val_main_v22
  have hR : Shape.Reduces S2x16x128x512 [3] S2x16x128 := by decide
  refine (Host.reduce_eq_fold_single (α := EReal) max _ _ _ hR _ (ix3 b H s)).trans ?_
  show Finset.fold max (Ideal.ofBits .f32 0xFF800000#32) _ _ = Finset.fold max ⊥ _ _
  rw [bits_negInf]
  refine congrArg (fun f => Finset.fold max ⊥ f (Finset.univ : Finset (Fin 512))) (funext fun j => ?_)
  refine Eq.trans ?_ (v21_at x0 x1 x2 b H s j)
  show val_main_v21 (F := Ideal) x0 x1 x2 _ = _
  congr 1
  funext a
  fin_cases a <;> rfl

theorem v26_at (b : Fin 2) (H : Fin 16) (s : Fin 128) (j : Fin 512) :
    val_main_v26 (F := Ideal) x0 x1 x2 (ix4 b H s j)
      = Ideal.exp (masked (score x0 x1 x2 b H s) (Kept s) j - top (masked (score x0 x1 x2 b H s) (Kept s))) := by
  have e24 : val_main_v24 (F := Ideal) x0 x1 x2 (ix4 b H s j) = top (masked (score x0 x1 x2 b H s) (Kept s)) := by
    rw [val_main_v24_apply, val_main_v23_apply, ← v22_at]
    congr 1
    funext a
    fin_cases a <;> rfl
  rw [val_main_v26_apply, val_main_v25_apply, e24, v21_at]
  rfl

theorem v29_at (b : Fin 2) (H : Fin 16) (s : Fin 128) :
    val_main_v29 (F := Ideal) x0 x1 x2 (ix3 b H s)
      = ∑ j : Fin 512, Ideal.exp (masked (score x0 x1 x2 b H s) (Kept s) j - top (masked (score x0 x1 x2 b H s) (Kept s))) := by
  rw [val_main_v29_apply, val_main_cst_6_apply]
  show Ideal.ofBits .f32 0x00000000#32 + _ = _
  rw [bits_zero, zero_add]
  refine Finset.sum_congr rfl fun j _ => ?_
  rw [← v26_at]
  congr 1
  funext a
  fin_cases a <;> rfl

theorem v35_at (b : Fin 2) (H : Fin 16) (s : Fin 128) (j : Fin 512) :
    val_main_v35 (F := Ideal) x0 x1 x2 (ix4 b H s j) = wgt (masked (score x0 x1 x2 b H s) (Kept s)) j := by
  have e6 : val_main_call6_v1 (F := Ideal) (ix4 b H s j) = 1#1 := by
    rw [val_main_call6_v1_apply, val_main_v34_apply, ← any_apply s]
    congr 1
    funext a
    fin_cases a
    rfl
  have e32 : val_main_v32 (F := Ideal) x0 x1 x2 (ix4 b H s j)
      = ∑ u : Fin 512, Ideal.exp (masked (score x0 x1 x2 b H s) (Kept s) u - top (masked (score x0 x1 x2 b H s) (Kept s))) := by
    have e : idx_main_v32 (ix4 b H s j) = ix4 b H s (0 : Fin 1) := funext fun a => by fin_cases a <;> rfl
    have e5 : val_main_call5_v1 (F := Ideal) (ix4 b H s (0 : Fin 1)) = 1#1 :=
      (val_main_call5_v1_apply (F := Ideal) _).trans <| (val_main_v28_apply (F := Ideal) _).trans <|
        (congrArg (val_main_v27 (F := Ideal)) (funext fun a => by fin_cases a; rfl)).trans (any_apply s)
    have e30 : val_main_v30 (F := Ideal) x0 x1 x2 (ix4 b H s (0 : Fin 1)) = val_main_v29 (F := Ideal) x0 x1 x2 (ix3 b H s) :=
      (val_main_v30_apply (F := Ideal) x0 x1 x2 _).trans
        (congrArg (val_main_v29 (F := Ideal) x0 x1 x2) (funext fun a => by fin_cases a <;> rfl))
    rw [val_main_v32_apply, e, val_main_v31_apply, e5, e30, v29_at]
    exact if_pos rfl
  rw [val_main_v35_apply, e6, val_main_v33_apply, e32, v26_at]
  exact if_pos rfl

theorem v36_at (b : Fin 2) (H : Fin 16) (d : Fin 64) (s : Fin 128) :
    val_main_v36 (F := Ideal) x0 x1 x2 x3 (ix4 b H d s) = ctx x0 x1 x2 x3 b H s d := by
  rw [val_main_v36_apply]
  refine Finset.sum_congr rfl fun j _ => ?_
  have el : lidx_main_v36 (ix4 b H d s) j = ix4 b j H d := funext fun a => by fin_cases a <;> rfl
  have er : ridx_main_v36 (ix4 b H d s) j = ix4 b H s j := funext fun a => by fin_cases a <;> rfl
  rw [el, er, v35_at]

theorem v38_at (b : Fin 2) (s : Fin 128) (P : Fin 1024) :
    val_main_v38 (F := Ideal) x0 x1 x2 x3 (ix3 b s P)
      = ctx x0 x1 x2 x3 b ⟨P.val / 64, by omega⟩ s ⟨P.val % 64, by omega⟩ := by
  rw [val_main_v38_apply, val_main_v37_apply, ← v36_at]
  congr 1
  funext a
  apply Fin.ext
  fin_cases a
  · show ((b.val * 128 + s.val) * 1024 + P.val) / 131072 = b.val
    omega
  · show ((b.val * 128 + s.val) * 1024 + P.val) / 64 % 16 = P.val / 64
    omega
  · show ((b.val * 128 + s.val) * 1024 + P.val) % 64 = P.val % 64
    omega
  · show ((b.val * 128 + s.val) * 1024 + P.val) / 1024 % 128 = s.val
    omega

/-- The reference's result at batch `b`, row `s`, column `n`. -/
theorem result_at (b : Fin 2) (s : Fin 128) (n : Fin 512) :
    val_main_v39 (F := Ideal) x0 x1 x2 x3 x4 (ix3 b s n)
      = ∑ P : Fin 1024, ctx x0 x1 x2 x3 b ⟨P.val / 64, by omega⟩ s ⟨P.val % 64, by omega⟩ * x4 (ix2 P n) := by
  rw [val_main_v39_apply]
  refine Finset.sum_congr rfl fun P _ => ?_
  have el : lidx_main_v39 (ix3 b s n) P = ix3 b s P := funext fun a => by fin_cases a <;> rfl
  have er : ridx_main_v39 (ix3 b s n) P = ix2 P n := funext fun a => by fin_cases a <;> rfl
  rw [el, er, v38_at]

end Cert.KernelProof.ValueRef
-- ==== Proof.Value.lean ====
/-
The kernel's result at an index, over the extended reals: device by device its queries, its heads and its partial
products, and the sum of the four partial products, which is the reference's result.
-/
module

public import proofs.«01_k».proof.Proof.Common
public import proofs.«01_k».proof.Proof.Payload
public import proofs.«01_k».proof.Proof.ValueRef

@[expose] public section

set_option maxRecDepth 16384

noncomputable section

namespace Cert.KernelProof.Value

open Cert.KernelIdeal Cert.KernelIdeal.Gen
open Cert.KernelProof Cert.KernelProof.Spec Cert.KernelProof.Mask Cert.KernelProof.Payload
open Cert.KernelProof.ValueRef (col query score ctx)
open Idealize.ShloMosaic (Vec FVec Ideal Dev Loc Buf Elt PrngReg Shape)
open Idealize.ShloMosaic.ValueIdx (ix2 ix3 ix4 ix5)

/-! ## Loads -/

theorem xld_at (f : Vec Ideal S2x128x512 .f32) (b : Fin 2) (s : Fin 128) (k : Fin 512) :
    xld f b (ix3 (0 : Fin 1) s k) = f (ix3 b s k) := by
  refine congrArg f (funext fun a => Fin.ext ?_)
  match a with
  | ⟨0, _⟩ => show b.val + 1 * 0 = b.val; omega
  | ⟨1, _⟩ => show 0 + 1 * s.val = s.val; omega
  | ⟨2, _⟩ => show 0 + 1 * k.val = k.val; omega

theorem wqld_at (f : Vec Ideal S512x256 .f32) (k : Fin 512) (p : Fin 256) : wqld f (ix2 k p) = f (ix2 k p) := by
  refine congrArg f (funext fun a => Fin.ext ?_)
  match a with
  | ⟨0, _⟩ => show 0 + 1 * k.val = k.val; omega
  | ⟨1, _⟩ => show 0 + 1 * p.val = p.val; omega

theorem wold_at (f : Vec Ideal S256x512 .f32) (p : Fin 256) (n : Fin 512) : wold f (ix2 p n) = f (ix2 p n) := by
  refine congrArg f (funext fun a => Fin.ext ?_)
  match a with
  | ⟨0, _⟩ => show 0 + 1 * p.val = p.val; omega
  | ⟨1, _⟩ => show 0 + 1 * n.val = n.val; omega

theorem hld_at (f : Vec Ideal S2x2x128x4x64 .f32) (s b r : Fin 2) (h : Fin 4) (t d : Fin 64) :
    hld f s b r h (ix5 (0 : Fin 1) (0 : Fin 1) t (0 : Fin 1) d) = f (ix5 s b (⟨r.val * 64 + t.val, by omega⟩ : Fin 128) h d) := by
  refine congrArg f (funext fun a => Fin.ext ?_)
  match a with
  | ⟨0, _⟩ => show s.val + 1 * 0 = s.val; omega
  | ⟨1, _⟩ => show b.val + 1 * 0 = b.val; omega
  | ⟨2, _⟩ => show r.val * 64 + 1 * t.val = r.val * 64 + t.val; omega
  | ⟨3, _⟩ => show h.val + 1 * 0 = h.val; omega
  | ⟨4, _⟩ => show 0 + 1 * d.val = d.val; omega

theorem qsl_at (q : FVec Ideal S128x256 .f32) (r : Fin 2) (h : Fin 4) (i x : Fin 64) :
    qsl q r h (ix2 i x) = q (ix2 (⟨r.val * 64 + i.val, by omega⟩ : Fin 128) (⟨h.val * 64 + x.val, by omega⟩ : Fin 256)) := by
  refine congrArg q (funext fun a => Fin.ext ?_)
  match a with
  | ⟨0, _⟩ => rfl
  | ⟨1, _⟩ => rfl

/-! ## The keys a row block keeps -/

/-- The `t`-th key row kept by the query rows of block `r`. -/
def key (r : Fin 2) (t : Fin 128) : Fin 512 := ⟨t.val / 64 * 256 + r.val * 64 + t.val % 64, by omega⟩

theorem key_injective (r : Fin 2) : Function.Injective (key r) := fun a b h => by
  have h' : a.val / 64 * 256 + r.val * 64 + a.val % 64 = b.val / 64 * 256 + r.val * 64 + b.val % 64 := congrArg Fin.val h
  exact Fin.ext (by omega)

theorem kept_iff (r : Fin 2) (i : Fin 64) (j : Fin 512) :
    Kept ⟨r.val * 64 + i.val, by omega⟩ j ↔ ∃ t, key r t = j := by
  show j.val / 64 % 4 = (r.val * 64 + i.val) / 64 ↔ _
  constructor
  · intro h
    refine ⟨⟨j.val / 256 * 64 + j.val % 64, by omega⟩, Fin.ext ?_⟩
    show (j.val / 256 * 64 + j.val % 64) / 64 * 256 + r.val * 64 + (j.val / 256 * 64 + j.val % 64) % 64 = j.val
    omega
  · rintro ⟨t, rfl⟩
    show (t.val / 64 * 256 + r.val * 64 + t.val % 64) / 64 % 4 = _
    omega

/-! ## Device by device -/

/-- Head `h` of device `c`, among all heads. -/
def head (c : Dev nD) (h : Fin 4) : Fin 16 := ⟨4 * c.val + h.val, by have hc : c.val < 4 := c.isLt; omega⟩
/-- Column `p` of device `c`, among all columns. -/
def column (c : Dev nD) (p : Fin 256) : Fin 1024 := ⟨256 * c.val + p.val, by have hc : c.val < 4 := c.isLt; omega⟩

variable (m : (ℓ : Loc nD τ sig) → Buf (Elt Ideal) ℓ) (ρ : Dev nD → PrngReg)
variable (x0 : FVec Ideal S2x128x512 .f32) (x1 : FVec Ideal ⟨2, ![512, 1024]⟩ .f32)
  (x2 x3 : FVec Ideal ⟨4, ![2, 512, 16, 64]⟩ .f32) (x4 : FVec Ideal ⟨2, ![1024, 512]⟩ .f32)

/-- The devices hold their blocks of the whole arrays. -/
structure Holds : Prop where
  x : ∀ (c : Dev nD) (b : Fin 2) (s : Fin 128) (k : Fin 512), xst m ρ c (ix3 b s k) = x0 (ix3 b s k)
  wq : ∀ (c : Dev nD) (k : Fin 512) (p : Fin 256), wqst m ρ c (ix2 k p) = x1 (ix2 k (column c p))
  k : ∀ (c : Dev nD) (b : Fin 2) (s : Fin 128) (H : Fin 16) (d : Fin 64),
    kst m ρ c (ix4 b s H d) = x2 (ix4 b (⟨128 * c.val + s.val, by have hc : c.val < 4 := c.isLt; omega⟩ : Fin 512) H d)
  v : ∀ (c : Dev nD) (b : Fin 2) (s : Fin 128) (H : Fin 16) (d : Fin 64),
    vst m ρ c (ix4 b s H d) = x3 (ix4 b (⟨128 * c.val + s.val, by have hc : c.val < 4 := c.isLt; omega⟩ : Fin 512) H d)
  wo : ∀ (c : Dev nD) (p : Fin 256) (n : Fin 512), wost m ρ c (ix2 p n) = x4 (ix2 (column c p) n)

variable {m ρ x0 x1 x2 x3 x4}

theorem qF_at (H : Holds m ρ x0 x1 x2 x3 x4) (c : Dev nD) (b : Fin 2) (s : Fin 128) (p : Fin 256) :
    qF m ρ c b (ix2 s p) = query x0 x1 b s (column c p) := by
  have e : ∀ k : Fin 512, xld (xst m ρ c) b (ix3 (0 : Fin 1) s k) * wqld (wqst m ρ c) (ix2 k p)
      = x0 (ix3 b s k) * x1 (ix2 k (column c p)) := fun k => by
    rw [xld_at, wqld_at, H.x, H.wq]
  refine Eq.trans ?_ (Finset.sum_congr rfl fun k _ => e k)
  match b with
  | 0 => exact proj7_apply _ _ s p
  | 1 => exact proj8_apply _ _ s p

/-- Two loads of gathered rows, one after the other, are the kept rows of the whole array. -/
theorem cat_at (g : Dev nD → Vec Ideal S2x128x16x64 .f32) (y : FVec Ideal ⟨4, ![2, 512, 16, 64]⟩ .f32)
    (hg : ∀ (c : Dev nD) (b : Fin 2) (s : Fin 128) (H : Fin 16) (d : Fin 64),
      g c (ix4 b s H d) = y (ix4 b (⟨128 * c.val + s.val, by have hc : c.val < 4 := c.isLt; omega⟩ : Fin 512) H d))
    (c : Dev nD) (b r : Fin 2) (h : Fin 4) (t : Fin 128) (d : Fin 64) :
    cat (hld (gath g c) 0 b r h) (hld (gath g c) 1 b r h) (ix2 t d) = y (ix4 b (key r t) (head c h) d) := by
  refine (cat_apply _ _ t d).trans ?_
  split_ifs with ht
  · refine (hld_at _ 0 b r h ⟨t.val, ht⟩ d).trans ((hg 0 b _ (head c h) d).trans ?_)
    refine congrArg (fun j => y (ix4 b j (head c h) d)) (Fin.ext ?_)
    show 128 * 0 + (r.val * 64 + t.val) = t.val / 64 * 256 + r.val * 64 + t.val % 64
    omega
  · refine (hld_at _ 1 b r h ⟨t.val - 64, by omega⟩ d).trans ((hg 2 b _ (head c h) d).trans ?_)
    refine congrArg (fun j => y (ix4 b j (head c h) d)) (Fin.ext ?_)
    show 128 * 2 + (r.val * 64 + (t.val - 64)) = t.val / 64 * 256 + r.val * 64 + t.val % 64
    omega

/-- One head of one device: the reference's weighted sum. -/
theorem head_at (H : Holds m ρ x0 x1 x2 x3 x4) (hs : ∀ b H s j, IsReal (score x0 x1 x2 b H s j))
    (c : Dev nD) (b r : Fin 2) (h : Fin 4) (i d : Fin 64) :
    headF (qF m ρ c b) (KB m ρ c) (VB m ρ c) b r h (ix2 i d)
      = ctx x0 x1 x2 x3 b (head c h) ⟨r.val * 64 + i.val, by omega⟩ d := by
  refine (attn_apply _ _ _ _ _ i d).trans ?_
  unfold ctx
  rw [attend_masked (score x0 x1 x2 b (head c h) ⟨r.val * 64 + i.val, by omega⟩) _ (key r) (by decide) (hs _ _ _)
    (key_injective r) (kept_iff r i)]
  have es : (fun u : Fin 128 => (∑ x : Fin 64, qsl (qF m ρ c b) r h (ix2 i x)
        * cat (hld (KB m ρ c) 0 b r h) (hld (KB m ρ c) 1 b r h) (ix2 u x)) * scale)
      = fun u => score x0 x1 x2 b (head c h) ⟨r.val * 64 + i.val, by omega⟩ (key r u) := funext fun u => by
    refine congrArg (· * scale) (Finset.sum_congr rfl fun x _ => ?_)
    have e1 : column c (⟨h.val * 64 + x.val, by omega⟩ : Fin 256) = col (head c h) x :=
      Fin.ext (by show 256 * c.val + (h.val * 64 + x.val) = 64 * (4 * c.val + h.val) + x.val; omega)
    rw [qsl_at, qF_at H, e1]
    exact congrArg _ (cat_at _ x2 H.k c b r h u x)
  refine Finset.sum_congr rfl fun t _ => ?_
  exact congrArg₂ (· * ·) (congrArg (fun f => wgt f t) es) (cat_at _ x3 H.v c b r h t d)

/-- One device's partial product of the rows device `g` reduces. -/
theorem pch_at (H : Holds m ρ x0 x1 x2 x3 x4) (hs : ∀ b H s j, IsReal (score x0 x1 x2 b H s j))
    (c g : Dev nD) (i : Fin 64) (n : Fin 512) :
    pch m ρ c g (ix3 (0 : Fin 1) i n)
      = ∑ p : Fin 256, ctx x0 x1 x2 x3 (bOf g) (head c ⟨p.val / 64, by omega⟩) ⟨(rOf g).val * 64 + i.val, by omega⟩ ⟨p.val % 64, by omega⟩
          * x4 (ix2 (column c p) n) := by
  refine (out_apply (heads fun h => headF (qF m ρ c (bOf g)) (KB m ρ c) (VB m ρ c) (bOf g) (rOf g) h) (wold (wost m ρ c)) i n).trans ?_
  refine Finset.sum_congr rfl fun p _ => ?_
  refine congrArg₂ (· * ·) ?_ ((wold_at _ p n).trans (H.wo c p n))
  exact (heads_apply _ i p).trans (head_at H hs c _ _ _ i _)

/-! ## The sum over the devices -/

theorem pld_at (c : Dev nD) (i : Fin 64) (n : Fin 512) : pld m ρ c (ix3 (0 : Fin 1) i n) = pch m ρ c c (ix3 (0 : Fin 1) i n) := by
  refine (congrArg (PW m ρ c) (funext fun a => Fin.ext ?_) : _ = PW m ρ c (ix3 (show Fin 4 from c) i n))
  match a with
  | ⟨0, _⟩ => show c.val + 1 * 0 = c.val; omega
  | ⟨1, _⟩ => show 0 + 1 * i.val = i.val; omega
  | ⟨2, _⟩ => show 0 + 1 * n.val = n.val; omega

theorem rld_at (c : Dev nD) (o : Fin 3) (i : Fin 64) (n : Fin 512) :
    rld m ρ c o (ix3 (0 : Fin 1) i n) = pch m ρ (bk c o) c (ix3 (0 : Fin 1) i n) := by
  refine (congrArg (RB m ρ c) (funext fun a => Fin.ext ?_) : _ = RB m ρ c (ix3 o i n))
  match a with
  | ⟨0, _⟩ => show o.val + 1 * 0 = o.val; omega
  | ⟨1, _⟩ => show 0 + 1 * i.val = i.val; omega
  | ⟨2, _⟩ => show 0 + 1 * n.val = n.val; omega

/-- A device and the three behind it are all the devices. -/
theorem sum_ring (f : Dev nD → EReal) (g : Dev nD) : f g + f (bk g 0) + f (bk g 1) + f (bk g 2) = ∑ c : Fin 4, f c := by
  have hg : g = 0 ∨ g = 1 ∨ g = 2 ∨ g = 3 := by revert g; decide
  rw [Fin.sum_univ_four]
  rcases hg with rfl | rfl | rfl | rfl
  · show f 0 + f 3 + f 2 + f 1 = f 0 + f 1 + f 2 + f 3
    ac_rfl
  · show f 1 + f 0 + f 3 + f 2 = f 0 + f 1 + f 2 + f 3
    ac_rfl
  · show f 2 + f 1 + f 0 + f 3 = f 0 + f 1 + f 2 + f 3
    ac_rfl
  · show f 3 + f 2 + f 1 + f 0 = f 0 + f 1 + f 2 + f 3
    ac_rfl

/-- A sum over the columns, device by device. -/
theorem sum_columns (f : Fin 1024 → EReal) : ∑ c : Fin 4, ∑ p : Fin 256, f (column c p) = ∑ P : Fin 1024, f P := by
  rw [← Fintype.sum_prod_type' (f := fun (c : Fin 4) (p : Fin 256) => f (column c p))]
  refine Fintype.sum_equiv (finProdFinEquiv (m := 4) (n := 256)) _ _ fun x => congrArg f (Fin.ext ?_)
  show 256 * x.1.val + x.2.val = x.2.val + 256 * x.1.val
  omega

/-- The kernel's result at batch `b`, row `s`, column `n`. -/
theorem out_at (H : Holds m ρ x0 x1 x2 x3 x4) (hs : ∀ b H s j, IsReal (score x0 x1 x2 b H s j))
    (b : Fin 2) (s : Fin 128) (n : Fin 512) :
    OUT m ρ (ix3 b s n) = ∑ P : Fin 1024, ctx x0 x1 x2 x3 b ⟨P.val / 64, by omega⟩ s ⟨P.val % 64, by omega⟩ * x4 (ix2 P n) := by
  have hb : bOf (own b s) = b := Fin.ext (by show (2 * b.val + s.val / 64) / 2 = b.val; omega)
  have hr : (⟨(rOf (own b s)).val * 64 + s.val % 64, by omega⟩ : Fin 128) = s :=
    Fin.ext (by show (2 * b.val + s.val / 64) % 2 * 64 + s.val % 64 = s.val; omega)
  refine (sum_apply _ _ _ _ (⟨s.val % 64, by omega⟩ : Fin 64) n).trans ?_
  have e : ∀ c : Dev nD, pch m ρ c (own b s) (ix3 (0 : Fin 1) (⟨s.val % 64, by omega⟩ : Fin 64) n)
      = ∑ p : Fin 256, (fun P : Fin 1024 => ctx x0 x1 x2 x3 b ⟨P.val / 64, by omega⟩ s ⟨P.val % 64, by omega⟩ * x4 (ix2 P n)) (column c p) := by
    intro c
    rw [pch_at H hs, hb]
    refine Finset.sum_congr rfl fun p _ => ?_
    have e1 : head c ⟨p.val / 64, by omega⟩ = (⟨(column c p).val / 64, by omega⟩ : Fin 16) :=
      Fin.ext (by show 4 * c.val + p.val / 64 = (256 * c.val + p.val) / 64; omega)
    have e2 : (⟨p.val % 64, by omega⟩ : Fin 64) = ⟨(column c p).val % 64, by omega⟩ :=
      Fin.ext (by show p.val % 64 = (256 * c.val + p.val) % 64; omega)
    rw [e1, e2, hr]
  refine Eq.trans ?_ ((sum_ring (fun c => pch m ρ c (own b s) (ix3 (0 : Fin 1) (⟨s.val % 64, by omega⟩ : Fin 64) n)) (own b s)).trans ?_)
  · exact congrArg₂ (· + ·) (congrArg₂ (· + ·) (congrArg₂ (· + ·) (pld_at (own b s) _ n) (rld_at (own b s) 0 _ n))
      (rld_at (own b s) 1 _ n)) (rld_at (own b s) 2 _ n)
  · exact (Finset.sum_congr rfl fun c _ => e c).trans (sum_columns
      (fun P : Fin 1024 => ctx x0 x1 x2 x3 b ⟨P.val / 64, by omega⟩ s ⟨P.val % 64, by omega⟩ * x4 (ix2 P n)))

end Cert.KernelProof.Value
-- ==== Proof.Result.lean ====
/-
What the run leaves on each device: the arguments as they were, and in the result array the reference's result of the
whole arrays of which the devices hold blocks.
-/
module

public import proofs.«01_k».proof.Defs
public import proofs.«01_k».proof.Proof.Launch
public import proofs.«01_k».proof.Proof.Value
public import proofs.«01_k».proof.Proof.Gen.ReferenceIdeal.Run
public import proofs.«01_k».proof.Proof.Gen.ReferenceIdeal.Read
public import proofs.«01_k».proof.Proof.Gen.Pre_finite_scores_KernelIdeal

@[expose] public section

set_option maxRecDepth 16384

noncomputable section

namespace Cert.KernelProof

open Cert.KernelIdeal Cert.KernelIdeal.Gen
open Cert.KernelProof.Spec Cert.KernelProof.Value
open Cert.KernelProof.ValueRef (query score ctx)
open Idealize.ShloMosaic Idealize.SL.Sem

variable {F : FTy → Type} [FloatOps F] (m : (ℓ : Loc nD τ sig) → Buf (Elt F) ℓ) (ρ : Dev nD → PrngReg)

/-! ## The arrays at the start and at the end -/

/-- What the run leaves of the arguments, device by device. -/
theorem args_of {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans ((dats m ρ 0 c).arrAt_in (0 : Fin 6) rfl _), (h c 1).trans ((dats m ρ 0 c).arrAt_in (1 : Fin 6) rfl _),
    (h c 2).trans ((dats m ρ 0 c).arrAt_in (2 : Fin 6) rfl _), (h c 3).trans ((dats m ρ 0 c).arrAt_in (3 : Fin 6) rfl _),
    (h c 4).trans ((dats m ρ 0 c).arrAt_in (4 : Fin 6) rfl _)⟩

/-- Each window is its whole array. -/
theorem xst_eq (c : Dev nD) : xst m ρ c = m ((c.tc : Thread nD τ).loc main_arg0) :=
  Memref.read_access_unit_zero (Elt F) main_arg0 (funext fun a => by fin_cases a <;> decide) (fun a => by fin_cases a <;> decide) _

theorem wqst_eq (c : Dev nD) : wqst m ρ c = m ((c.tc : Thread nD τ).loc main_arg1) :=
  Memref.read_access_unit_zero (Elt F) main_arg1 (funext fun a => by fin_cases a <;> decide) (fun a => by fin_cases a <;> decide) _

theorem kst_eq (c : Dev nD) : kst m ρ c = m ((c.tc : Thread nD τ).loc main_arg2) :=
  Memref.read_access_unit_zero (Elt F) main_arg2 (funext fun a => by fin_cases a <;> decide) (fun a => by fin_cases a <;> decide) _

theorem vst_eq (c : Dev nD) : vst m ρ c = m ((c.tc : Thread nD τ).loc main_arg3) :=
  Memref.read_access_unit_zero (Elt F) main_arg3 (funext fun a => by fin_cases a <;> decide) (fun a => by fin_cases a <;> decide) _

theorem wost_eq (c : Dev nD) : wost m ρ c = m ((c.tc : Thread nD τ).loc main_arg4) :=
  Memref.read_access_unit_zero (Elt F) main_arg4 (funext fun a => by fin_cases a <;> decide) (fun a => by fin_cases a <;> decide) _

theorem result_of {r : PUnit × MemSt nD τ sig (Elt F)} (h : QC m ρ r) (c : Dev nD) :
    r.2.mem ((c.tc : Thread nD τ).loc main_v1) = OUT m ρ := by
  refine (h c 5).trans ?_
  have hr : (win0_5.blk (0 : Fin 1)).view.read (Elt F) (finalA m ρ c (5 : Fin 6)) = OUT m ρ := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero (Elt F) main_v1 (funext fun a => by fin_cases a <;> decide)
    (fun a => by fin_cases a <;> decide) (finalA m ρ c (5 : Fin 6))).symm.trans hr

/-! ## Finite inputs -/

theorem real_of_abs_lt {x y : EReal} (hy : y = ⊤) (h : Ideal.cmp .olt (max x (-x)) y = 1#1) : IsReal x := by
  subst hy
  have hb : decide (max x (-x) < ⊤) = true := by
    by_contra hn
    rw [Bool.not_eq_true] at hn
    have h' : BitVec.ofBool (decide (max x (-x) < ⊤)) = 1#1 := h
    rw [hn] at h'
    exact absurd h' (by decide)
  have hl := max_lt_iff.1 (of_decide_eq_true hb)
  induction x using EReal.rec with
  | bot => exact absurd hl.2 (by simp)
  | coe r => exact ⟨r, rfl⟩
  | top => exact absurd hl.1 (by simp)

theorem finite_x {m : (ℓ : Loc nD τ sig) → Buf (Elt Ideal) ℓ} (h : Cert.Pre_KernelIdeal_finite_scores_KernelIdeal m)
    (c : Dev nD) (i : S2x128x512.Idx) : IsReal (m ((c.tc : Thread nD τ).loc main_arg0) i) :=
  real_of_abs_lt bits_posInf (congrFun (h c).1 i)

theorem finite_wq {m : (ℓ : Loc nD τ sig) → Buf (Elt Ideal) ℓ} (h : Cert.Pre_KernelIdeal_finite_scores_KernelIdeal m)
    (c : Dev nD) (i : S512x256.Idx) : IsReal (m ((c.tc : Thread nD τ).loc main_arg1) i) :=
  real_of_abs_lt bits_posInf (congrFun (h c).2.1 i)

theorem finite_k {m : (ℓ : Loc nD τ sig) → Buf (Elt Ideal) ℓ} (h : Cert.Pre_KernelIdeal_finite_scores_KernelIdeal m)
    (c : Dev nD) (i : S2x128x16x64.Idx) : IsReal (m ((c.tc : Thread nD τ).loc main_arg2) i) :=
  real_of_abs_lt bits_posInf (congrFun (h c).2.2 i)

/-! ## Blocks of the whole arrays -/

section
variable {α : Type}

theorem block_wq (c : Fin 4) (f : (⟨2, ![512, 1024]⟩ : Shape).Idx → α) (k : Fin 512) (p : Fin 256) :
    Layout.block ⟨2, ![512, 256]⟩ ⟨2, ![512, 1024]⟩ 1 4 c f (by decide) (ValueIdx.ix2 k p) = f (ValueIdx.ix2 k (column c p)) := by
  refine congrArg f (funext fun a => Fin.ext ?_)
  fin_cases a
  · rfl
  · show c.val * 256 + p.val = 256 * c.val + p.val
    omega

theorem block_wo (c : Fin 4) (f : (⟨2, ![1024, 512]⟩ : Shape).Idx → α) (p : Fin 256) (n : Fin 512) :
    Layout.block ⟨2, ![256, 512]⟩ ⟨2, ![1024, 512]⟩ 0 4 c f (by decide) (ValueIdx.ix2 p n) = f (ValueIdx.ix2 (column c p) n) := by
  refine congrArg f (funext fun a => Fin.ext ?_)
  fin_cases a
  · show c.val * 256 + p.val = 256 * c.val + p.val
    omega
  · rfl

theorem block_kv (c : Fin 4) (f : (⟨4, ![2, 512, 16, 64]⟩ : Shape).Idx → α) (b : Fin 2) (s : Fin 128) (H : Fin 16) (d : Fin 64) :
    Layout.block ⟨4, ![2, 128, 16, 64]⟩ ⟨4, ![2, 512, 16, 64]⟩ 1 4 c f (by decide) (ValueIdx.ix4 b s H d)
      = f (ValueIdx.ix4 b (⟨128 * c.val + s.val, by omega⟩ : Fin 512) H d) := by
  refine congrArg f (funext fun a => Fin.ext ?_)
  fin_cases a
  · rfl
  · show c.val * 128 + s.val = 128 * c.val + s.val
    omega
  · rfl
  · rfl

end

/-- The score is a real when the queries' factors and the keys are. -/
theorem score_real (x0 : FVec Ideal S2x128x512 .f32) (x1 : FVec Ideal ⟨2, ![512, 1024]⟩ .f32)
    (x2 : FVec Ideal ⟨4, ![2, 512, 16, 64]⟩ .f32)
    (h0 : ∀ b s k, IsReal (x0 (ValueIdx.ix3 b s k))) (h1 : ∀ k P, IsReal (x1 (ValueIdx.ix2 k P)))
    (h2 : ∀ b j H d, IsReal (x2 (ValueIdx.ix4 b j H d)))
    (b : Fin 2) (H : Fin 16) (s : Fin 128) (j : Fin 512) : IsReal (score x0 x1 x2 b H s j) :=
  (IsReal.sum _ _ fun d => (IsReal.sum _ _ fun k => (h0 b s k).mul (h1 k _)).mul (h2 b j H d)).mul scale_real

/-! ## The kernel and the reference -/

section
variable (m : (ℓ : Loc nD τ sig) → Buf (Elt Ideal) ℓ) (x0 : FVec Ideal S2x128x512 .f32) (x1 : FVec Ideal ⟨2, ![512, 1024]⟩ .f32)
  (x2 x3 : FVec Ideal ⟨4, ![2, 512, 16, 64]⟩ .f32) (x4 : FVec Ideal ⟨2, ![1024, 512]⟩ .f32)

/-- The devices hold `x0` whole and the others block by block. -/
def Agree : Prop := ∀ c : Dev nD,
  m ((c.tc : Thread nD τ).loc main_arg0) = x0
  ∧ m ((c.tc : Thread nD τ).loc main_arg1) = Layout.block ⟨2, ![512, 256]⟩ ⟨2, ![512, 1024]⟩ 1 4 c x1
  ∧ m ((c.tc : Thread nD τ).loc main_arg2) = Layout.block ⟨4, ![2, 128, 16, 64]⟩ ⟨4, ![2, 512, 16, 64]⟩ 1 4 c x2
  ∧ m ((c.tc : Thread nD τ).loc main_arg3) = Layout.block ⟨4, ![2, 128, 16, 64]⟩ ⟨4, ![2, 512, 16, 64]⟩ 1 4 c x3
  ∧ m ((c.tc : Thread nD τ).loc main_arg4) = Layout.block ⟨2, ![256, 512]⟩ ⟨2, ![1024, 512]⟩ 0 4 c x4

variable {m x0 x1 x2 x3 x4}

theorem Agree.holds (h : Agree m x0 x1 x2 x3 x4) (ρ : Dev nD → PrngReg) : Holds m ρ x0 x1 x2 x3 x4 where
  x c b s k := congrFun ((xst_eq m ρ c).trans (h c).1) _
  wq c k p := (congrFun ((wqst_eq m ρ c).trans (h c).2.1) _).trans (block_wq c x1 k p)
  k c b s H d := (congrFun ((kst_eq m ρ c).trans (h c).2.2.1) _).trans (block_kv c x2 b s H d)
  v c b s H d := (congrFun ((vst_eq m ρ c).trans (h c).2.2.2.1) _).trans (block_kv c x3 b s H d)
  wo c p n := (congrFun ((wost_eq m ρ c).trans (h c).2.2.2.2) _).trans (block_wo c x4 p n)

/-- Every element of the whole arrays lies on a device, which holds finite ones only. -/
theorem Agree.real (h : Agree m x0 x1 x2 x3 x4) (hf : Cert.Pre_KernelIdeal_finite_scores_KernelIdeal m)
    (b : Fin 2) (H : Fin 16) (s : Fin 128) (j : Fin 512) : IsReal (score x0 x1 x2 b H s j) := by
  refine score_real x0 x1 x2 (fun b s k => ?_) (fun k P => ?_) (fun b j H d => ?_) b H s j
  · have e := finite_x hf 0 (ValueIdx.ix3 b s k)
    rw [(h 0).1] at e
    exact e
  · have e := finite_wq hf (⟨P.val / 256, by omega⟩ : Fin 4) (ValueIdx.ix2 k (⟨P.val % 256, by omega⟩ : Fin 256))
    rw [(h _).2.1, block_wq] at e
    rwa [show column (⟨P.val / 256, by omega⟩ : Fin 4) (⟨P.val % 256, by omega⟩ : Fin 256) = P from
      Fin.ext (by show 256 * (P.val / 256) + P.val % 256 = P.val; omega)] at e
  · have e := finite_k hf (⟨j.val / 128, by omega⟩ : Fin 4) (ValueIdx.ix4 b (⟨j.val % 128, by omega⟩ : Fin 128) H d)
    rw [(h _).2.2.1, block_kv] at e
    rwa [show (⟨128 * (j.val / 128) + j.val % 128, by omega⟩ : Fin 512) = j from
      Fin.ext (by show 128 * (j.val / 128) + j.val % 128 = j.val; omega)] at e

/-- The kernel's result is the reference's. -/
theorem Agree.out (h : Agree m x0 x1 x2 x3 x4) (hf : Cert.Pre_KernelIdeal_finite_scores_KernelIdeal m) (ρ : Dev nD → PrngReg) :
    OUT m ρ = Cert.ReferenceIdeal.Read.val_main_v39 (F := Ideal) x0 x1 x2 x3 x4 := by
  funext i
  rw [ValueIdx.eq_ix3 i]
  exact (out_at (h.holds ρ) (h.real hf) _ _ _).trans (ValueRef.result_at x0 x1 x2 x3 x4 _ _ _).symm

end

/-- Over the extended reals, from finite `x`, `Wq` and `K_ext`, every device ends with the reference's result. -/
theorem algebraic : Cert.algebraic_KernelIdeal_ReferenceIdeal_pre_finite_scores_KernelIdeal := by
  intro m ρ m' ρ' hf hag
  refine ⟨Cert.ReferenceIdeal.Value.res_main_v39 m' 0, ?_, ?_⟩
  · refine (θ_run _ _ _).mono (fun r h c => ⟨(result_of m ρ h.1 c).trans ?_, args_of m ρ h.1 c⟩) (run_main (F := Ideal) m ρ)
    exact (Agree.out hag hf ρ).trans (Cert.ReferenceIdeal.Read.val_main_v39_eq (F := Ideal) m' 0).symm
  · exact (θ_run Cert.ReferenceIdeal.defs _ _).mono (fun _ h => h 0) (Cert.ReferenceIdeal.Value.run (F := Ideal) m' ρ')

end Cert.KernelProof
-- ==== Proof.lean ====
/-
The certificate: what the two readings of the kernel and the reference leave when they have run, and how their results agree.
-/
module

public import proofs.«01_k».proof.Defs
public import proofs.«01_k».proof.Proof.Gen.Kernel
public import proofs.«01_k».proof.Proof.Launch
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Result
public import Idealize.ShloMosaic.Adequacy
public import Idealize.ShloMosaic.Init

@[expose] public section

noncomputable section

namespace Cert.KernelProof

open Cert.KernelIdeal Cert.KernelIdeal.Gen
open Idealize.ShloMosaic Idealize.SL.Sem

/-- The kernel over the extended reals, from every memory. -/
theorem frame_ideal : Cert.quiescent_KernelIdeal := fun m ρ _ =>
  (θ_run _ _ _).mono (fun _ h => ⟨args_of m ρ h.1, h.2⟩) (run_main (F := Ideal) m ρ)

/-- The two programs have the same text, label by label. -/
theorem defs_same : Cert.Kernel.defs (F := Bits) = Cert.KernelIdeal.defs (F := Bits) := by
  have h : Cert.Kernel.defs₀ (F := Bits) = Cert.KernelIdeal.defs₀ (F := Bits) := by
    refine congrArg Defs.onTc (funext fun l => funext fun x => ?_)
    fin_cases l
    rfl
  exact congrArg (Pipeline.defs (Cert.KernelIdeal.pcfgs (F := Bits))) h

/-- So the run that is proved over any floats is, over machine floats, the frame of the kernel as it was printed. -/
theorem frame_kernel : Cert.quiescent_Kernel := fun m ρ _ => by
  have h := (θ_run (Cert.KernelIdeal.defs (F := Bits)) _ _).mono
    (fun r (h : QC m ρ r ∧ r.2.sem = fun _ => 0) => (⟨args_of (F := Bits) m ρ h.1, h.2⟩ : _ ∧ _)) (run_main (F := Bits) m ρ)
  rw [← defs_same] at h
  exact h

/-- The reference writes none of its arguments and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.KernelProof

namespace Cert.Proof

open Idealize.ShloMosaic Idealize.SL.Sem

/-- Everything the certificate claims: a frame without a precondition is also the frame with one. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    KernelProof.frame_kernel, KernelProof.frame_ideal, fun m ρ _ => KernelProof.frame_ideal m ρ trivial,
    KernelProof.frame_reference, fun m ρ _ => KernelProof.frame_reference m ρ trivial, trivial, KernelProof.algebraic⟩

end Cert.Proof

end
